-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite [hPre_gates_finite : Cert.Pre_gates_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite [hPre_gates_finite : Cert.Pre_gates_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_keys_finite [hPre_keys_finite : Cert.Pre_keys_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_keys_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_keys_finite [hPre_keys_finite : Cert.Pre_keys_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_keys_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gates_finite [hKernelIdeal : Cert.KernelIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gates_finite [hReferenceIdeal : Cert.ReferenceIdeal.Facts] [hPre_gates_finite : Cert.Pre_gates_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_keys_finite [hKernel6Ideal : Cert.Kernel6Ideal.Facts] [hPre_keys_finite : Cert.Pre_keys_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_keys_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_keys_finite [hReference6Ideal : Cert.Reference6Ideal.Facts] [hPre_keys_finite : Cert.Pre_keys_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_keys_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_gates_finite [hKernelIdeal : Cert.KernelIdeal.Facts] [hReferenceIdeal : Cert.ReferenceIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v47_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_keys_finite [hKernel6Ideal : Cert.Kernel6Ideal.Facts] [hReference6Ideal : Cert.Reference6Ideal.Facts] [hPre_keys_finite : Cert.Pre_keys_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_keys_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v82_0)) (v1 : (c : Dev Cert.Kernel6Ideal.nD) → Buf (Elt Ideal) ((c.tc : Thread Cert.Kernel6Ideal.nD Cert.Kernel6Ideal.τ).loc Cert.Kernel6Ideal.main_v82_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v82_0) = v0 c
          ∧ r.2.mem ((c.tc : Thread Cert.Kernel6Ideal.nD Cert.Kernel6Ideal.τ).loc Cert.Kernel6Ideal.main_v82_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v262) = v0 c
          ∧ r.2.mem ((c.tc : Thread Cert.Reference6Ideal.nD Cert.Reference6Ideal.τ).loc Cert.Reference6Ideal.main_v264) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_gates_finite : Cert.Pre_gates_finite.Facts) (hPre_keys_finite : Cert.Pre_keys_finite.Facts),
    quiescent_Kernel (hKernel := hKernel)
    ∧ quiescent_KernelIdeal (hKernelIdeal := hKernelIdeal)
    ∧ quiescent_KernelIdeal_pre_gates_finite (hKernelIdeal := hKernelIdeal) (hPre_gates_finite := hPre_gates_finite)
    ∧ quiescent_ReferenceIdeal (hReferenceIdeal := hReferenceIdeal)
    ∧ quiescent_ReferenceIdeal_pre_gates_finite (hReferenceIdeal := hReferenceIdeal) (hPre_gates_finite := hPre_gates_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_keys_finite (hKernel6Ideal := hKernel6Ideal) (hPre_keys_finite := hPre_keys_finite)
    ∧ quiescent_Reference6Ideal (hReference6Ideal := hReference6Ideal)
    ∧ quiescent_Reference6Ideal_pre_keys_finite (hReference6Ideal := hReference6Ideal) (hPre_keys_finite := hPre_keys_finite)
    ∧ preserves_Kernel_KernelIdeal
    ∧ algebraic_KernelIdeal_ReferenceIdeal_pre_gates_finite (hKernelIdeal := hKernelIdeal) (hReferenceIdeal := hReferenceIdeal) (hPre_gates_finite := hPre_gates_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_keys_finite (hKernel6Ideal := hKernel6Ideal) (hReference6Ideal := hReference6Ideal) (hPre_keys_finite := hPre_keys_finite)
-- ==== Pre_gates_finite.lean ====
abbrev S16384x9216 : Shape := ⟨2, ![16384, 9216]⟩
abbrev S512 : Shape := ⟨1, ![512]⟩
abbrev S16384x512 : Shape := ⟨2, ![16384, 512]⟩
abbrev S_ : Shape := ⟨0, ![]⟩
abbrev S1x512 : Shape := ⟨2, ![1, 512]⟩

class Facts : Prop where
  slices_S16384x9216_S16384x512_0_3072 : S16384x9216.Slices ![0, 3072] S16384x512
  bcast_S_S16384x512 : S_.BroadcastsInDim S16384x512 (![] : Fin 0 → Fin S16384x512.rank)
  slices_S16384x9216_S16384x512_0_3584 : S16384x9216.Slices ![0, 3584] S16384x512
  bcast_S_S512 : S_.BroadcastsInDim S512 (![] : Fin 0 → Fin S512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)

variable [Facts]

def fn {F : FTy → Type} [FloatOps F] (main_arg0 : FVec F S16384x9216 .f32) (main_arg1 : FVec F S512 .f32) (main_arg2 : FVec F S512 .f32) : IVec S16384x512 1 :=
  let main_v0 : FVec F S16384x512 .f32 := (extractStridedSlice S16384x512 ![0, 3072] · slices_S16384x9216_S16384x512_0_3072) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extractStridedSlice S16384x512 ![0, 3584] · slices_S16384x9216_S16384x512_0_3584) main_arg0
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : IVec S16384x512 1 := andi main_v3 main_v7
  let main_cst_1 : FVec F S_ .f32 := constant S_ .f32 0x00000000#32
  let main_v9 : FVec F S512 .f32 := broadcastInDim S512 ![] bcast_S_S512 main_cst_1
  let main_v10 : IVec S512 1 := cmpf .oge main_arg1 main_v9
  let main_v11 : IVec S1x512 1 := broadcastInDim S1x512 ![1] bcast_S512_S1x512_1 main_v10
  let main_v12 : IVec S16384x512 1 := broadcastInDim S16384x512 ![0, 1] bcast_S1x512_S16384x512_0_1 main_v11
  let main_v13 : IVec S16384x512 1 := andi main_v8 main_v12
  let main_cst_2 : FVec F S_ .f32 := constant S_ .f32 0x3F800000#32
  let main_v14 : FVec F S512 .f32 := broadcastInDim S512 ![] bcast_S_S512 main_cst_2
  let main_v15 : IVec S512 1 := cmpf .ole main_arg1 main_v14
  let main_v16 : IVec S1x512 1 := broadcastInDim S1x512 ![1] bcast_S512_S1x512_1 main_v15
  let main_v17 : IVec S16384x512 1 := broadcastInDim S16384x512 ![0, 1] bcast_S1x512_S16384x512_0_1 main_v16
  let main_v18 : IVec S16384x512 1 := andi main_v13 main_v17
  main_v18
-- ==== Pre_keys_finite.lean ====
abbrev S16384x9216 : Shape := ⟨2, ![16384, 9216]⟩
abbrev S2x64 : Shape := ⟨2, ![2, 64]⟩
abbrev S64 : Shape := ⟨1, ![64]⟩
abbrev S4x64 : Shape := ⟨2, ![4, 64]⟩
abbrev S16384x64 : Shape := ⟨2, ![16384, 64]⟩
abbrev S_ : Shape := ⟨0, ![]⟩

class Facts : Prop where
  slices_S16384x9216_S16384x64_0_7680 : S16384x9216.Slices ![0, 7680] S16384x64
  bcast_S_S16384x64 : S_.BroadcastsInDim S16384x64 (![] : Fin 0 → Fin S16384x64.rank)
  slices_S16384x9216_S16384x64_0_7744 : S16384x9216.Slices ![0, 7744] S16384x64
  slices_S16384x9216_S16384x64_0_7936 : S16384x9216.Slices ![0, 7936] S16384x64
  slices_S16384x9216_S16384x64_0_8192 : S16384x9216.Slices ![0, 8192] S16384x64
  slices_S16384x9216_S16384x64_0_8256 : S16384x9216.Slices ![0, 8256] S16384x64
  slices_S16384x9216_S16384x64_0_8448 : S16384x9216.Slices ![0, 8448] S16384x64
  slices_S16384x9216_S16384x64_0_8512 : S16384x9216.Slices ![0, 8512] S16384x64
  slices_S16384x9216_S16384x64_0_8704 : S16384x9216.Slices ![0, 8704] S16384x64
  slices_S16384x9216_S16384x64_0_8768 : S16384x9216.Slices ![0, 8768] S16384x64

variable [Facts]

def fn_part2 {F : FTy → Type} [FloatOps F] (main_v38 : IVec S16384x64 1) (main_v39 : FVec F S16384x64 .f32) : IVec S16384x64 1 :=
  let main_v40 : FVec F S16384x64 .f32 := Host.absf main_v39
  let main_cst_7 : FVec F S_ .f32 := constant S_ .f32 0x7F800000#32
  let main_v41 : FVec F S16384x64 .f32 := broadcastInDim S16384x64 ![] bcast_S_S16384x64 main_cst_7
  let main_v42 : IVec S16384x64 1 := cmpf .olt main_v40 main_v41
  let main_v43 : IVec S16384x64 1 := andi main_v38 main_v42
  main_v43

def fn_part1 {F : FTy → Type} [FloatOps F] (main_arg0 : FVec F S16384x9216 .f32) (main_v18 : IVec S16384x64 1) (main_v19 : FVec F S16384x64 .f32) : IVec S16384x64 1 :=
  let main_v20 : FVec F S16384x64 .f32 := Host.absf main_v19
  let main_cst_3 : FVec F S_ .f32 := constant S_ .f32 0x7F800000#32
  let main_v21 : FVec F S16384x64 .f32 := broadcastInDim S16384x64 ![] bcast_S_S16384x64 main_cst_3
  let main_v22 : IVec S16384x64 1 := cmpf .olt main_v20 main_v21
  let main_v23 : IVec S16384x64 1 := andi main_v18 main_v22
  let main_v24 : FVec F S16384x64 .f32 := (extractStridedSlice S16384x64 ![0, 8448] · slices_S16384x9216_S16384x64_0_8448) main_arg0
  let main_v25 : FVec F S16384x64 .f32 := Host.absf main_v24
  let main_cst_4 : FVec F S_ .f32 := constant S_ .f32 0x7F800000#32
  let main_v26 : FVec F S16384x64 .f32 := broadcastInDim S16384x64 ![] bcast_S_S16384x64 main_cst_4
  let main_v27 : IVec S16384x64 1 := cmpf .olt main_v25 main_v26
  let main_v28 : IVec S16384x64 1 := andi main_v23 main_v27
  let main_v29 : FVec F S16384x64 .f32 := (extractStridedSlice S16384x64 ![0, 8512] · slices_S16384x9216_S16384x64_0_8512) main_arg0
  let main_v30 : FVec F S16384x64 .f32 := Host.absf main_v29
  let main_cst_5 : FVec F S_ .f32 := constant S_ .f32 0x7F800000#32
  let main_v31 : FVec F S16384x64 .f32 := broadcastInDim S16384x64 ![] bcast_S_S16384x64 main_cst_5
  let main_v32 : IVec S16384x64 1 := cmpf .olt main_v30 main_v31
  let main_v33 : IVec S16384x64 1 := andi main_v28 main_v32
  let main_v34 : FVec F S16384x64 .f32 := (extractStridedSlice S16384x64 ![0, 8704] · slices_S16384x9216_S16384x64_0_8704) main_arg0
  let main_v35 : FVec F S16384x64 .f32 := Host.absf main_v34
  let main_cst_6 : FVec F S_ .f32 := constant S_ .f32 0x7F800000#32
  let main_v36 : FVec F S16384x64 .f32 := broadcastInDim S16384x64 ![] bcast_S_S16384x64 main_cst_6
  let main_v37 : IVec S16384x64 1 := cmpf .olt main_v35 main_v36
  let main_v38 : IVec S16384x64 1 := andi main_v33 main_v37
  let main_v39 : FVec F S16384x64 .f32 := (extractStridedSlice S16384x64 ![0, 8768] · slices_S16384x9216_S16384x64_0_8768) main_arg0
  fn_part2 (F := F) main_v38 main_v39

def fn {F : FTy → Type} [FloatOps F] (main_arg0 : FVec F S16384x9216 .f32) (main_arg1 : FVec F S2x64 .f32) (main_arg2 : FVec F S64 .f32) (main_arg3 : FVec F S4x64 .f32) : IVec S16384x64 1 :=
  let main_v0 : FVec F S16384x64 .f32 := (extractStridedSlice S16384x64 ![0, 7680] · slices_S16384x9216_S16384x64_0_7680) main_arg0
  let main_v1 : FVec F S16384x64 .f32 := Host.absf main_v0
  let main_cst : FVec F S_ .f32 := constant S_ .f32 0x7F800000#32
  let main_v2 : FVec F S16384x64 .f32 := broadcastInDim S16384x64 ![] bcast_S_S16384x64 main_cst
  let main_v3 : IVec S16384x64 1 := cmpf .olt main_v1 main_v2
  let main_v4 : FVec F S16384x64 .f32 := (extractStridedSlice S16384x64 ![0, 7744] · slices_S16384x9216_S16384x64_0_7744) main_arg0
  let main_v5 : FVec F S16384x64 .f32 := Host.absf main_v4
  let main_cst_0 : FVec F S_ .f32 := constant S_ .f32 0x7F800000#32
  let main_v6 : FVec F S16384x64 .f32 := broadcastInDim S16384x64 ![] bcast_S_S16384x64 main_cst_0
  let main_v7 : IVec S16384x64 1 := cmpf .olt main_v5 main_v6
  let main_v8 : IVec S16384x64 1 := andi main_v3 main_v7
  let main_v9 : FVec F S16384x64 .f32 := (extractStridedSlice S16384x64 ![0, 7936] · slices_S16384x9216_S16384x64_0_7936) main_arg0
  let main_v10 : FVec F S16384x64 .f32 := Host.absf main_v9
  let main_cst_1 : FVec F S_ .f32 := constant S_ .f32 0x7F800000#32
  let main_v11 : FVec F S16384x64 .f32 := broadcastInDim S16384x64 ![] bcast_S_S16384x64 main_cst_1
  let main_v12 : IVec S16384x64 1 := cmpf .olt main_v10 main_v11
  let main_v13 : IVec S16384x64 1 := andi main_v8 main_v12
  let main_v14 : FVec F S16384x64 .f32 := (extractStridedSlice S16384x64 ![0, 8192] · slices_S16384x9216_S16384x64_0_8192) main_arg0
  let main_v15 : FVec F S16384x64 .f32 := Host.absf main_v14
  let main_cst_2 : FVec F S_ .f32 := constant S_ .f32 0x7F800000#32
  let main_v16 : FVec F S16384x64 .f32 := broadcastInDim S16384x64 ![] bcast_S_S16384x64 main_cst_2
  let main_v17 : IVec S16384x64 1 := cmpf .olt main_v15 main_v16
  let main_v18 : IVec S16384x64 1 := andi main_v13 main_v17
  let main_v19 : FVec F S16384x64 .f32 := (extractStridedSlice S16384x64 ![0, 8256] · slices_S16384x9216_S16384x64_0_8256) main_arg0
  fn_part1 (F := F) main_arg0 main_v18 main_v19
-- ==== Kernel.lean ====
abbrev S16384x9216 : Shape := ⟨2, ![16384, 9216]⟩
abbrev S512 : Shape := ⟨1, ![512]⟩
abbrev S1x512 : Shape := ⟨2, ![1, 512]⟩
abbrev S16384x512 : Shape := ⟨2, ![16384, 512]⟩
abbrev S8x4x128x128 : Shape := ⟨4, ![8, 4, 128, 128]⟩
abbrev S2048x128 : Shape := ⟨2, ![2048, 128]⟩
abbrev S1x128 : Shape := ⟨2, ![1, 128]⟩
abbrev S1x1x128x128 : Shape := ⟨4, ![1, 1, 128, 128]⟩
abbrev S64x128 : Shape := ⟨2, ![64, 128]⟩
abbrev S64x64 : Shape := ⟨2, ![64, 64]⟩
abbrev S128x128 : Shape := ⟨2, ![128, 128]⟩
abbrev S16x128 : Shape := ⟨2, ![16, 128]⟩
abbrev S16x64 : Shape := ⟨2, ![16, 64]⟩
abbrev S8x128 : Shape := ⟨2, ![8, 128]⟩
abbrev S8x64 : Shape := ⟨2, ![8, 64]⟩
abbrev S8 : Shape := ⟨1, ![8]⟩
abbrev S8x1 : Shape := ⟨2, ![8, 1]⟩
abbrev S128 : Shape := ⟨1, ![128]⟩
abbrev S128x1 : Shape := ⟨2, ![128, 1]⟩
abbrev S64 : Shape := ⟨1, ![64]⟩
abbrev S64x1 : Shape := ⟨2, ![64, 1]⟩

abbrev nBuf : Space → Nat
  | .hbm => 7
  | .vmem => 18
  | .smem => 0
  | _ => 0

abbrev bufTy : (tb : Table) → Fin (tcTables nBuf tb) → BufTy
  | .hbm, ⟨0, _⟩ => ⟨S16384x9216, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S16384x512, .f32⟩
  | .hbm, ⟨6, _⟩ => ⟨S8x4x128x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S1x1x128x128, .f32⟩
  | .local _ .vmem, ⟨15, _⟩ => ⟨S1x1x128x128, .f32⟩
  | .local _ .vmem, ⟨16, _⟩ => ⟨S64x128, .f32⟩
  | .local _ .vmem, ⟨17, _⟩ => ⟨S64x128, .f32⟩
  | _, _ => ⟨S16384x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c32_i32 : BitVec 32 := 32#32
  let v19 : BitVec 32 := Scalar.addi c0_i32 c32_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32 : BitVec 32 := 64#32
  let v20 : BitVec 32 := Scalar.muli arg12 c64_i32
  v20
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32 : BitVec 32 := 64#32
  let v20 : BitVec 32 := Scalar.muli arg12 c64_i32
  let v21 : BitVec 32 := v20
  let v22 : Index := Scalar.indexCast v21
  let c0_8 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x9216 : Shape := ⟨2, ![16384, 9216]⟩
abbrev S512 : Shape := ⟨1, ![512]⟩
abbrev S_ : Shape := ⟨0, ![]⟩
abbrev S8x4x128x128 : Shape := ⟨4, ![8, 4, 128, 128]⟩
abbrev S16384x512 : Shape := ⟨2, ![16384, 512]⟩
abbrev S4x128 : Shape := ⟨2, ![4, 128]⟩
abbrev S8x2048x4x128 : Shape := ⟨4, ![8, 2048, 4, 128]⟩
abbrev S1x1x4x128 : Shape := ⟨4, ![1, 1, 4, 128]⟩
abbrev S64x64 : Shape := ⟨2, ![64, 64]⟩
abbrev S8x32x64x4x128 : Shape := ⟨5, ![8, 32, 64, 4, 128]⟩
abbrev S32x8x4x64x128 : Shape := ⟨5, ![32, 8, 4, 64, 128]⟩
abbrev S1x8x4x64x128 : Shape := ⟨5, ![1, 8, 4, 64, 128]⟩
abbrev S8x4x64x128 : Shape := ⟨4, ![8, 4, 64, 128]⟩
abbrev S8x4x64x1x128 : Shape := ⟨5, ![8, 4, 64, 1, 128]⟩
abbrev S8x4x1x64x128 : Shape := ⟨5, ![8, 4, 1, 64, 128]⟩
abbrev S8x4x64x64x128 : Shape := ⟨5, ![8, 4, 64, 64, 128]⟩
abbrev S64x64x1 : Shape := ⟨3, ![64, 64, 1]⟩
abbrev S8x4x64x64 : Shape := ⟨4, ![8, 4, 64, 64]⟩
abbrev S8x4x1x128 : Shape := ⟨4, ![8, 4, 1, 128]⟩
abbrev S8x4x128 : Shape := ⟨3, ![8, 4, 128]⟩
abbrev S8x4x128x1 : Shape := ⟨4, ![8, 4, 128, 1]⟩
abbrev S8x2048x4 : Shape := ⟨3, ![8, 2048, 4]⟩
abbrev S8x2048x4x1 : Shape := ⟨4, ![8, 2048, 4, 1]⟩

abbrev nBuf : Space → Nat
  | .hbm => 189
  | .vmem => 0
  | .smem => 0
  | _ => 0

abbrev hbmTy0_0 (i : Nat) : BufTy := match i % 128 with
  | 0 => ⟨S16384x9216, .f32⟩
  | 1 => ⟨S512, .f32⟩
  | 2 => ⟨S512, .f32⟩
  | 3 => ⟨S_, .f32⟩
  | 4 => ⟨S8x4x128x128, .f32⟩
  | 5 => ⟨S16384x512, .f32⟩
  | 6 => ⟨S16384x512, .f32⟩
  | 7 => ⟨S16384x512, .f32⟩
  | 8 => ⟨S4x128, .f32⟩
  | 9 => ⟨S8x2048x4x128, .f32⟩
  | 10 => ⟨S_, .f32⟩
  | 11 => ⟨S4x128, .f32⟩
  | 12 => ⟨S4x128, .f32⟩
  | 13 => ⟨S8x2048x4x128, .f32⟩
  | 14 => ⟨S8x2048x4x128, .f32⟩
  | 15 => ⟨S_, .f32⟩
  | 16 => ⟨S8x2048x4x128, .f32⟩
  | 17 => ⟨S8x2048x4x128, .f32⟩
  | 18 => ⟨S_, .f32⟩
  | 19 => ⟨S8x2048x4x128, .f32⟩
  | 20 => ⟨S8x2048x4x128, .f32⟩
  | 21 => ⟨S1x1x4x128, .f32⟩
  | 22 => ⟨S8x2048x4x128, .f32⟩
  | 23 => ⟨S8x2048x4x128, .f32⟩
  | 24 => ⟨S1x1x4x128, .f32⟩
  | 25 => ⟨S8x2048x4x128, .f32⟩
  | 26 => ⟨S8x2048x4x128, .f32⟩
  | 27 => ⟨S8x2048x4x128, .f32⟩
  | 28 => ⟨S_, .f32⟩
  | 29 => ⟨S4x128, .f32⟩
  | 30 => ⟨S4x128, .f32⟩
  | 31 => ⟨S8x2048x4x128, .f32⟩
  | 32 => ⟨S8x2048x4x128, .f32⟩
  | 33 => ⟨S8x2048x4x128, .f32⟩
  | 34 => ⟨S_, .f32⟩
  | 35 => ⟨S8x2048x4x128, .f32⟩
  | 36 => ⟨S8x2048x4x128, .f32⟩
  | 37 => ⟨S_, .f32⟩
  | 38 => ⟨S8x2048x4x128, .f32⟩
  | 39 => ⟨S8x2048x4x128, .f32⟩
  | 40 => ⟨S1x1x4x128, .f32⟩
  | 41 => ⟨S8x2048x4x128, .f32⟩
  | 42 => ⟨S8x2048x4x128, .f32⟩
  | 43 => ⟨S16384x512, .f32⟩
  | 44 => ⟨S16384x512, .f32⟩
  | 45 => ⟨S_, .f32⟩
  | 46 => ⟨S16384x512, .f32⟩
  | 47 => ⟨S16384x512, .f32⟩
  | 48 => ⟨S_, .f32⟩
  | 49 => ⟨S16384x512, .f32⟩
  | 50 => ⟨S16384x512, .f32⟩
  | 51 => ⟨S16384x512, .f32⟩
  | 52 => ⟨S8x2048x4x128, .f32⟩
  | 53 => ⟨S8x2048x4x128, .f32⟩
  | 54 => ⟨S_, .i1⟩
  | 55 => ⟨S64x64, .i1⟩
  | 56 => ⟨S64x64, .i32⟩
  | 57 => ⟨S_, .i32⟩
  | 58 => ⟨S64x64, .i32⟩
  | 59 => ⟨S64x64, .i32⟩
  | 60 => ⟨S64x64, .i32⟩
  | 61 => ⟨S64x64, .i1⟩
  | 62 => ⟨S_, .i1⟩
  | 63 => ⟨S64x64, .i1⟩
  | 64 => ⟨S64x64, .i1⟩
  | 65 => ⟨S8x32x64x4x128, .f32⟩
  | 66 => ⟨S32x8x4x64x128, .f32⟩
  | 67 => ⟨S8x32x64x4x128, .f32⟩
  | 68 => ⟨S32x8x4x64x128, .f32⟩
  | 69 => ⟨S8x32x64x4x128, .f32⟩
  | 70 => ⟨S32x8x4x64x128, .f32⟩
  | 71 => ⟨S8x32x64x4x128, .f32⟩
  | 72 => ⟨S32x8x4x64x128, .f32⟩
  | 73 => ⟨S_, .f32⟩
  | 74 => ⟨S32x8x4x64x128, .f32⟩
  | 75 => ⟨S_, .i32⟩
  | 76 => ⟨S32x8x4x64x128, .f32⟩
  | 77 => ⟨S32x8x4x64x128, .f32⟩
  | 78 => ⟨S32x8x4x64x128, .f32⟩
  | 79 => ⟨S32x8x4x64x128, .f32⟩
  | 80 => ⟨S64x64, .i1⟩
  | 81 => ⟨S_, .i32⟩
  | 82 => ⟨S8x4x128x128, .f32⟩
  | 83 => ⟨S32x8x4x64x128, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S1x8x4x64x128, .f32⟩
  | 91 => ⟨S8x4x64x128, .f32⟩
  | 92 => ⟨S_, .i32⟩
  | 93 => ⟨S_, .i32⟩
  | 94 => ⟨S_, .i32⟩
  | 95 => ⟨S_, .i32⟩
  | 96 => ⟨S1x8x4x64x128, .f32⟩
  | 97 => ⟨S8x4x64x128, .f32⟩
  | 98 => ⟨S_, .i32⟩
  | 99 => ⟨S_, .i32⟩
  | 100 => ⟨S_, .i32⟩
  | 101 => ⟨S_, .i32⟩
  | 102 => ⟨S1x8x4x64x128, .f32⟩
  | 103 => ⟨S8x4x64x128, .f32⟩
  | 104 => ⟨S_, .i32⟩
  | 105 => ⟨S_, .i32⟩
  | 106 => ⟨S_, .i32⟩
  | 107 => ⟨S_, .i32⟩
  | 108 => ⟨S1x8x4x64x128, .f32⟩
  | 109 => ⟨S8x4x64x128, .f32⟩
  | 110 => ⟨S_, .f32⟩
  | 111 => ⟨S_, .f32⟩
  | 112 => ⟨S8x4x64x128, .f32⟩
  | 113 => ⟨S8x4x64x1x128, .f32⟩
  | 114 => ⟨S8x4x1x64x128, .f32⟩
  | 115 => ⟨S8x4x64x64x128, .f32⟩
  | 116 => ⟨S8x4x64x64x128, .f32⟩
  | 117 => ⟨S8x4x64x64x128, .f32⟩
  | 118 => ⟨S64x64x1, .i1⟩
  | 119 => ⟨S_, .f32⟩
  | 120 => ⟨S_, .f32⟩
  | 121 => ⟨S8x4x64x64x128, .i1⟩
  | 122 => ⟨S8x4x64x64x128, .f32⟩
  | 123 => ⟨S8x4x64x64x128, .f32⟩
  | 124 => ⟨S8x4x64x64x128, .f32⟩
  | 125 => ⟨S8x4x64x1x128, .f32⟩
  | 126 => ⟨S8x4x1x64x128, .f32⟩
  | 127 => ⟨S8x4x64x64x128, .f32⟩
  | _ => ⟨S16384x9216, .f32⟩

abbrev hbmTy0_1 (i : Nat) : BufTy := match i % 128 with
  | 0 => ⟨S8x4x64x64x128, .f32⟩
  | 1 => ⟨S8x4x64x64x128, .f32⟩
  | 2 => ⟨S8x4x64x64x128, .f32⟩
  | 3 => ⟨S_, .f32⟩
  | 4 => ⟨S8x4x64x64, .f32⟩
  | 5 => ⟨S8x4x64x128, .f32⟩
  | 6 => ⟨S8x4x64x128, .f32⟩
  | 7 => ⟨S8x4x64x128, .f32⟩
  | 8 => ⟨S8x4x64x128, .f32⟩
  | 9 => ⟨S8x4x64x128, .f32⟩
  | 10 => ⟨S8x4x1x128, .f32⟩
  | 11 => ⟨S8x4x128, .f32⟩
  | 12 => ⟨S8x4x128x1, .f32⟩
  | 13 => ⟨S8x4x128x1, .f32⟩
  | 14 => ⟨S8x4x128x128, .f32⟩
  | 15 => ⟨S8x4x128x128, .f32⟩
  | 16 => ⟨S8x4x64x128, .f32⟩
  | 17 => ⟨S8x4x64x128, .f32⟩
  | 18 => ⟨S8x4x64x128, .f32⟩
  | 19 => ⟨S8x4x64x128, .f32⟩
  | 20 => ⟨S8x4x128x128, .f32⟩
  | 21 => ⟨S8x4x128x128, .f32⟩
  | 22 => ⟨S1x8x4x64x128, .f32⟩
  | 23 => ⟨S_, .i32⟩
  | 24 => ⟨S_, .i32⟩
  | 25 => ⟨S_, .i32⟩
  | 26 => ⟨S_, .i32⟩
  | 27 => ⟨S32x8x4x64x128, .f32⟩
  | 28 => ⟨S_, .i32⟩
  | 29 => ⟨S_, .i32⟩
  | 30 => ⟨S8x32x64x4x128, .f32⟩
  | 31 => ⟨S8x2048x4x128, .f32⟩
  | 32 => ⟨S4x128, .f32⟩
  | 33 => ⟨S8x2048x4x128, .f32⟩
  | 34 => ⟨S_, .f32⟩
  | 35 => ⟨S8x2048x4, .f32⟩
  | 36 => ⟨S8x2048x4x1, .f32⟩
  | 37 => ⟨S_, .f32⟩
  | 38 => ⟨S8x2048x4x1, .f32⟩
  | 39 => ⟨S8x2048x4x1, .f32⟩
  | 40 => ⟨S_, .f32⟩
  | 41 => ⟨S8x2048x4x1, .f32⟩
  | 42 => ⟨S8x2048x4x1, .f32⟩
  | 43 => ⟨S8x2048x4x1, .f32⟩
  | 44 => ⟨S8x2048x4x128, .f32⟩
  | 45 => ⟨S8x2048x4x128, .f32⟩
  | 46 => ⟨S1x1x4x128, .f32⟩
  | 47 => ⟨S8x2048x4x128, .f32⟩
  | 48 => ⟨S8x2048x4x128, .f32⟩
  | 49 => ⟨S16384x512, .f32⟩
  | 50 => ⟨S16384x512, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S_, .f32⟩
  | 57 => ⟨S16384x512, .f32⟩
  | 58 => ⟨S16384x512, .f32⟩
  | 59 => ⟨S16384x512, .f32⟩
  | 60 => ⟨S16384x512, .f32⟩
  | _ => ⟨S16384x9216, .f32⟩

abbrev hbmTy (i : Nat) : BufTy := match i / 128 with
  | 0 => hbmTy0_0 i
  | 1 => hbmTy0_1 i
  | _ => ⟨S16384x9216, .f32⟩

abbrev bufTy : (tb : Table) → Fin (tcTables nBuf tb) → BufTy
  | .hbm, ⟨i, _⟩ => hbmTy i
  | _, _ => ⟨S16384x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c : Ref sig .tc := ⟨.hbm, 54, rfl⟩
abbrev main_v36 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_0 : Ref sig .tc := ⟨.hbm, 62, rfl⟩
abbrev main_call1_v5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_c_7 : Ref sig .tc := ⟨.hbm, 75, rfl⟩
abbrev main_v47_0 : Ref sig .tc := ⟨.hbm, 76, rfl⟩
abbrev main_v47_1 : Ref sig .tc := ⟨.hbm, 77, rfl⟩
abbrev main_v47_2 : Ref sig .tc := ⟨.hbm, 78, rfl⟩
abbrev main_v47_3 : Ref sig .tc := ⟨.hbm, 79, rfl⟩
abbrev main_v47_4 : Ref sig .tc := ⟨.hbm, 80, rfl⟩
abbrev main_v47_5 : Ref sig .tc := ⟨.hbm, 81, rfl⟩
abbrev main_v47_6 : Ref sig .tc := ⟨.hbm, 82, rfl⟩
abbrev main_v47_7 : Ref sig .tc := ⟨.hbm, 83, rfl⟩
abbrev main_while0c_c_18 : Ref sig .tc := ⟨.hbm, 84, rfl⟩
abbrev main_while0c_v68 : Ref sig .tc := ⟨.hbm, 85, rfl⟩
abbrev main_while0b_call2_c : Ref sig .tc := ⟨.hbm, 86, rfl⟩
abbrev main_while0b_call2_c_0 : Ref sig .tc := ⟨.hbm, 87, rfl⟩
abbrev main_while0b_call2_c_1 : Ref sig .tc := ⟨.hbm, 88, rfl⟩
abbrev main_while0b_call2_c_2 : Ref sig .tc := ⟨.hbm, 89, rfl⟩
abbrev main_while0b_call2_v0 : Ref sig .tc := ⟨.hbm, 90, rfl⟩
abbrev main_while0b_v68 : Ref sig .tc := ⟨.hbm, 91, rfl⟩
abbrev main_while0b_call3_c : Ref sig .tc := ⟨.hbm, 92, rfl⟩
abbrev main_while0b_call3_c_0 : Ref sig .tc := ⟨.hbm, 93, rfl⟩
abbrev main_while0b_call3_c_1 : Ref sig .tc := ⟨.hbm, 94, rfl⟩
abbrev main_while0b_call3_c_2 : Ref sig .tc := ⟨.hbm, 95, rfl⟩
abbrev main_while0b_call3_v0 : Ref sig .tc := ⟨.hbm, 96, rfl⟩
abbrev main_while0b_v69 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_c_1 : Ref sig .tc := ⟨.hbm, 100, rfl⟩
abbrev main_while0b_call4_c_2 : Ref sig .tc := ⟨.hbm, 101, rfl⟩
abbrev main_while0b_call4_v0 : Ref sig .tc := ⟨.hbm, 102, rfl⟩
abbrev main_while0b_v70 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_c_2 : Ref sig .tc := ⟨.hbm, 107, rfl⟩
abbrev main_while0b_call5_v0 : Ref sig .tc := ⟨.hbm, 108, rfl⟩
abbrev main_while0b_v71 : Ref sig .tc := ⟨.hbm, 109, rfl⟩
abbrev main_while0b_call6_call0_cst : Ref sig .tc := ⟨.hbm, 110, rfl⟩
abbrev main_while0b_call6_call0_v0 : Ref sig .tc := ⟨.hbm, 111, rfl⟩
abbrev main_while0b_v72 : Ref sig .tc := ⟨.hbm, 112, rfl⟩
abbrev main_while0b_v73 : Ref sig .tc := ⟨.hbm, 113, rfl⟩
abbrev main_while0b_v74 : Ref sig .tc := ⟨.hbm, 114, rfl⟩
abbrev main_while0b_v75 : Ref sig .tc := ⟨.hbm, 115, rfl⟩
abbrev main_while0b_v76 : Ref sig .tc := ⟨.hbm, 116, rfl⟩
abbrev main_while0b_v77 : Ref sig .tc := ⟨.hbm, 117, rfl⟩
abbrev main_while0b_v78 : Ref sig .tc := ⟨.hbm, 118, rfl⟩
abbrev main_while0b_cst_18 : Ref sig .tc := ⟨.hbm, 119, rfl⟩
abbrev main_while0b_call7_v0 : Ref sig .tc := ⟨.hbm, 120, rfl⟩
abbrev main_while0b_call7_v1 : Ref sig .tc := ⟨.hbm, 121, rfl⟩
abbrev main_while0b_call7_v2 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_cst_19 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_v92 : Ref sig .tc := ⟨.hbm, 137, rfl⟩
abbrev main_while0b_v93 : Ref sig .tc := ⟨.hbm, 138, rfl⟩
abbrev main_while0b_v94 : Ref sig .tc := ⟨.hbm, 139, rfl⟩
abbrev main_while0b_v95 : Ref sig .tc := ⟨.hbm, 140, rfl⟩
abbrev main_while0b_v96 : Ref sig .tc := ⟨.hbm, 141, rfl⟩
abbrev main_while0b_v97 : Ref sig .tc := ⟨.hbm, 142, rfl⟩
abbrev main_while0b_v98 : Ref sig .tc := ⟨.hbm, 143, rfl⟩
abbrev main_while0b_v99 : Ref sig .tc := ⟨.hbm, 144, rfl⟩
abbrev main_while0b_v100 : Ref sig .tc := ⟨.hbm, 145, rfl⟩
abbrev main_while0b_v101 : Ref sig .tc := ⟨.hbm, 146, rfl⟩
abbrev main_while0b_v102 : Ref sig .tc := ⟨.hbm, 147, rfl⟩
abbrev main_while0b_v103 : Ref sig .tc := ⟨.hbm, 148, rfl⟩
abbrev main_while0b_v104 : Ref sig .tc := ⟨.hbm, 149, rfl⟩
abbrev main_while0b_call8_v0 : Ref sig .tc := ⟨.hbm, 150, rfl⟩
abbrev main_while0b_call8_c : Ref sig .tc := ⟨.hbm, 151, rfl⟩
abbrev main_while0b_call8_c_0 : Ref sig .tc := ⟨.hbm, 152, rfl⟩
abbrev main_while0b_call8_c_1 : Ref sig .tc := ⟨.hbm, 153, rfl⟩
abbrev main_while0b_call8_c_2 : Ref sig .tc := ⟨.hbm, 154, rfl⟩
abbrev main_while0b_v105 : Ref sig .tc := ⟨.hbm, 155, rfl⟩
abbrev main_while0b_c_20 : Ref sig .tc := ⟨.hbm, 156, rfl⟩
abbrev main_while0b_v106 : Ref sig .tc := ⟨.hbm, 157, rfl⟩
abbrev main_v48 : Ref sig .tc := ⟨.hbm, 158, rfl⟩
abbrev main_v49 : Ref sig .tc := ⟨.hbm, 159, rfl⟩
abbrev main_v50 : Ref sig .tc := ⟨.hbm, 160, rfl⟩
abbrev main_v51 : Ref sig .tc := ⟨.hbm, 161, rfl⟩
abbrev main_cst_8 : Ref sig .tc := ⟨.hbm, 162, rfl⟩
abbrev main_v52 : Ref sig .tc := ⟨.hbm, 163, rfl⟩
abbrev main_v53 : Ref sig .tc := ⟨.hbm, 164, rfl⟩
abbrev main_cst_9 : Ref sig .tc := ⟨.hbm, 165, rfl⟩
abbrev main_v54 : Ref sig .tc := ⟨.hbm, 166, rfl⟩
abbrev main_v55 : Ref sig .tc := ⟨.hbm, 167, rfl⟩
abbrev main_cst_10 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_call9_v0 : Ref sig .tc := ⟨.hbm, 179, rfl⟩
abbrev main_call9_v1 : Ref sig .tc := ⟨.hbm, 180, rfl⟩
abbrev main_call9_cst : Ref sig .tc := ⟨.hbm, 181, rfl⟩
abbrev main_call9_v2 : Ref sig .tc := ⟨.hbm, 182, rfl⟩
abbrev main_call9_v3 : Ref sig .tc := ⟨.hbm, 183, rfl⟩
abbrev main_call9_cst_0 : Ref sig .tc := ⟨.hbm, 184, rfl⟩
abbrev main_call9_v4 : Ref sig .tc := ⟨.hbm, 185, rfl⟩
abbrev main_call9_v5 : Ref sig .tc := ⟨.hbm, 186, rfl⟩
abbrev main_v66 : Ref sig .tc := ⟨.hbm, 187, rfl⟩
abbrev main_v67 : Ref sig .tc := ⟨.hbm, 188, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x1024 : Shape := ⟨2, ![16384, 1024]⟩
abbrev S1024 : Shape := ⟨1, ![1024]⟩
abbrev S1024x9216 : Shape := ⟨2, ![1024, 9216]⟩
abbrev S1x1024 : Shape := ⟨2, ![1, 1024]⟩
abbrev S16384x9216 : Shape := ⟨2, ![16384, 9216]⟩
abbrev S1024x1024 : Shape := ⟨2, ![1024, 1024]⟩
abbrev S1024x1536 : Shape := ⟨2, ![1024, 1536]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9216, .bf16⟩
  | .hbm, ⟨3, _⟩ => ⟨S1x1024, .f32⟩
  | .hbm, ⟨4, _⟩ => ⟨S16384x9216, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .f32⟩
  | .local _ .vmem, ⟨6, _⟩ => ⟨S1024x1536, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x1024 : Shape := ⟨2, ![16384, 1024]⟩
abbrev S1024 : Shape := ⟨1, ![1024]⟩
abbrev S1024x9216 : Shape := ⟨2, ![1024, 9216]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x9216 : Shape := ⟨2, ![16384, 9216]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9216, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x9216, .f32⟩
  | .hbm, ⟨20, _⟩ => ⟨S16384x9216, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S16384x9216 : Shape := ⟨2, ![16384, 9216]⟩
abbrev S3x512x1024 : Shape := ⟨3, ![3, 512, 1024]⟩
abbrev S1024x1024 : Shape := ⟨2, ![1024, 1024]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 8
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x9216, .f32⟩
  | .hbm, ⟨5, _⟩ => ⟨S3x512x1024, .bf16⟩
  | .hbm, ⟨6, _⟩ => ⟨S1024x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S3x512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
abbrev S16384x1024 : Shape := ⟨2, ![16384, 1024]⟩
abbrev S16384x512 : Shape := ⟨2, ![16384, 512]⟩
abbrev S16384x9216 : Shape := ⟨2, ![16384, 9216]⟩
abbrev S3x512x1024 : Shape := ⟨3, ![3, 512, 1024]⟩
abbrev S1024x1024 : Shape := ⟨2, ![1024, 1024]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 8
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x9216, .f32⟩
  | .hbm, ⟨5, _⟩ => ⟨S3x512x1024, .bf16⟩
  | .hbm, ⟨6, _⟩ => ⟨S1024x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S3x512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S16384x512 : Shape := ⟨2, ![16384, 512]⟩
abbrev S16384x9216 : Shape := ⟨2, ![16384, 9216]⟩
abbrev S3x512x1024 : Shape := ⟨3, ![3, 512, 1024]⟩
abbrev S1024x1024 : Shape := ⟨2, ![1024, 1024]⟩
abbrev S_ : Shape := ⟨0, ![]⟩
abbrev S16384x1x512 : Shape := ⟨3, ![16384, 1, 512]⟩
abbrev S16384x3x512 : Shape := ⟨3, ![16384, 3, 512]⟩
abbrev S16384x1x1024 : Shape := ⟨3, ![16384, 1, 1024]⟩
abbrev S16384x3x1024 : Shape := ⟨3, ![16384, 3, 1024]⟩
abbrev S3x1024x16384 : Shape := ⟨3, ![3, 1024, 16384]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x9216, .f32⟩
  | .hbm, ⟨5, _⟩ => ⟨S3x512x1024, .bf16⟩
  | .hbm, ⟨6, _⟩ => ⟨S1024x1024, .bf16⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x1x512, .f32⟩
  | .hbm, ⟨33, _⟩ => ⟨S16384x1x512, .f32⟩
  | .hbm, ⟨34, _⟩ => ⟨S16384x1x512, .f32⟩
  | .hbm, ⟨35, _⟩ => ⟨S16384x3x512, .f32⟩
  | .hbm, ⟨36, _⟩ => ⟨S16384x1x1024, .f32⟩
  | .hbm, ⟨37, _⟩ => ⟨S16384x1x1024, .f32⟩
  | .hbm, ⟨38, _⟩ => ⟨S16384x1x1024, .f32⟩
  | .hbm, ⟨39, _⟩ => ⟨S16384x3x1024, .f32⟩
  | .hbm, ⟨40, _⟩ => ⟨S16384x3x1024, .f32⟩
  | .hbm, ⟨41, _⟩ => ⟨S16384x3x1024, .f32⟩
  | .hbm, ⟨42, _⟩ => ⟨S_, .f32⟩
  | .hbm, ⟨43, _⟩ => ⟨S16384x3x1024, .f32⟩
  | .hbm, ⟨44, _⟩ => ⟨S16384x3x1024, .f32⟩
  | .hbm, ⟨45, _⟩ => ⟨S_, .f32⟩
  | .hbm, ⟨46, _⟩ => ⟨S16384x3x1024, .f32⟩
  | .hbm, ⟨47, _⟩ => ⟨S16384x3x1024, .f32⟩
  | .hbm, ⟨48, _⟩ => ⟨S3x512x1024, .f32⟩
  | .hbm, ⟨49, _⟩ => ⟨S3x1024x16384, .f32⟩
  | .hbm, ⟨50, _⟩ => ⟨S16384x3x1024, .f32⟩
  | .hbm, ⟨51, _⟩ => ⟨S16384x3x1024, .f32⟩
  | .hbm, ⟨52, _⟩ => ⟨S_, .f32⟩
  | .hbm, ⟨53, _⟩ => ⟨S16384x1024, .f32⟩
  | .hbm, ⟨54, _⟩ => ⟨S1024x1024, .f32⟩
  | .hbm, ⟨55, _⟩ => ⟨S16384x1024, .f32⟩
  | .hbm, ⟨56, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst : Ref sig .tc := ⟨.hbm, 42, rfl⟩
abbrev main_v19 : Ref sig .tc := ⟨.hbm, 43, rfl⟩
abbrev main_v20 : Ref sig .tc := ⟨.hbm, 44, rfl⟩
abbrev main_cst_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩

abbrev nD : Nat := 1
abbrev τ : Topo := Topo.v7x

variable {F : FTy → Type} [FloatOps F]
-- ==== Kernel4.lean ====
abbrev S32x9216 : Shape := ⟨2, ![32, 9216]⟩
abbrev S512 : Shape := ⟨1, ![512]⟩
abbrev S32x4x128x128 : Shape := ⟨4, ![32, 4, 128, 128]⟩
abbrev S1x512 : Shape := ⟨2, ![1, 512]⟩
abbrev S32x512 : Shape := ⟨2, ![32, 512]⟩
abbrev S32x128 : Shape := ⟨2, ![32, 128]⟩
abbrev S1x128 : Shape := ⟨2, ![1, 128]⟩
abbrev S32x1x128x128 : Shape := ⟨4, ![32, 1, 128, 128]⟩
abbrev S128x128 : Shape := ⟨2, ![128, 128]⟩
abbrev S128 : Shape := ⟨1, ![128]⟩
abbrev S128x1 : Shape := ⟨2, ![128, 1]⟩
abbrev S1x1x128x128 : Shape := ⟨4, ![1, 1, 128, 128]⟩
abbrev S1 : Shape := ⟨1, ![1]⟩
abbrev S1x1 : Shape := ⟨2, ![1, 1]⟩

abbrev nBuf : Space → Nat
  | .hbm => 8
  | .vmem => 18
  | .smem => 0
  | _ => 0

abbrev bufTy : (tb : Table) → Fin (tcTables nBuf tb) → BufTy
  | .hbm, ⟨0, _⟩ => ⟨S32x9216, .f32⟩
  | .hbm, ⟨1, _⟩ => ⟨S512, .f32⟩
  | .hbm, ⟨2, _⟩ => ⟨S512, .f32⟩
  | .hbm, ⟨3, _⟩ => ⟨S32x4x128x128, .f32⟩
  | .hbm, ⟨4, _⟩ => ⟨S1x512, .f32⟩
  | .hbm, ⟨5, _⟩ => ⟨S1x512, .f32⟩
  | .hbm, ⟨6, _⟩ => ⟨S32x512, .f32⟩
  | .hbm, ⟨7, _⟩ => ⟨S32x4x128x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S32x1x128x128, .f32⟩
  | .local _ .vmem, ⟨13, _⟩ => ⟨S32x1x128x128, .f32⟩
  | .local _ .vmem, ⟨14, _⟩ => ⟨S32x128, .f32⟩
  | .local _ .vmem, ⟨15, _⟩ => ⟨S32x128, .f32⟩
  | .local _ .vmem, ⟨16, _⟩ => ⟨S32x1x128x128, .f32⟩
  | .local _ .vmem, ⟨17, _⟩ => ⟨S32x1x128x128, .f32⟩
  | _, _ => ⟨S32x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let v8 : Index := Scalar.indexCast arg10
  let c0_4 : Index := 0#32
  ![v8.toNat, 0]
def k0_off2 (k0_t1 : Fin k0_t1_loop.trips) : Fin 4 → Nat :=
  let c0_i32 : BitVec 32 := 0#32
  let c1_i32 : BitVec 32 := 1#32
  let arg10 : BitVec 32 := Scf.iv c0_i32 c1_i32 k0_t1
  let v33 : Index := Scalar.indexCast arg10
  let c0_10 : Index := 0#32
  let c0_11 : Index := 0#32
  let c0_12 : Index := 0#32
  ![v33.toNat, 0, 0, 0]
def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S32x9216 : Shape := ⟨2, ![32, 9216]⟩
abbrev S512 : Shape := ⟨1, ![512]⟩
abbrev S32x4x128x128 : Shape := ⟨4, ![32, 4, 128, 128]⟩
abbrev S32x512 : Shape := ⟨2, ![32, 512]⟩
abbrev S4x128 : Shape := ⟨2, ![4, 128]⟩
abbrev S32x4x128 : Shape := ⟨3, ![32, 4, 128]⟩
abbrev S_ : Shape := ⟨0, ![]⟩
abbrev S1x4x128 : Shape := ⟨3, ![1, 4, 128]⟩
abbrev S32x4x128x1 : Shape := ⟨4, ![32, 4, 128, 1]⟩
abbrev S32x4x1x128 : Shape := ⟨4, ![32, 4, 1, 128]⟩
abbrev S32x4 : Shape := ⟨2, ![32, 4]⟩
abbrev S32x4x1 : Shape := ⟨3, ![32, 4, 1]⟩

abbrev nBuf : Space → Nat
  | .hbm => 93
  | .vmem => 0
  | .smem => 0
  | _ => 0

abbrev bufTy : (tb : Table) → Fin (tcTables nBuf tb) → BufTy
  | .hbm, ⟨0, _⟩ => ⟨S32x9216, .f32⟩
  | .hbm, ⟨1, _⟩ => ⟨S512, .f32⟩
  | .hbm, ⟨2, _⟩ => ⟨S512, .f32⟩
  | .hbm, ⟨3, _⟩ => ⟨S32x4x128x128, .f32⟩
  | .hbm, ⟨4, _⟩ => ⟨S32x512, .f32⟩
  | .hbm, ⟨5, _⟩ => ⟨S32x512, .f32⟩
  | .hbm, ⟨6, _⟩ => ⟨S32x512, .f32⟩
  | .hbm, ⟨7, _⟩ => ⟨S32x512, .f32⟩
  | .hbm, ⟨8, _⟩ => ⟨S4x128, .f32⟩
  | .hbm, ⟨9, _⟩ => ⟨S32x4x128, .f32⟩
  | .hbm, ⟨10, _⟩ => ⟨S_, .f32⟩
  | .hbm, ⟨11, _⟩ => ⟨S4x128, .f32⟩
  | .hbm, ⟨12, _⟩ => ⟨S4x128, .f32⟩
  | .hbm, ⟨13, _⟩ => ⟨S32x4x128, .f32⟩
  | .hbm, ⟨14, _⟩ => ⟨S32x4x128, .f32⟩
  | .hbm, ⟨15, _⟩ => ⟨S_, .f32⟩
  | .hbm, ⟨16, _⟩ => ⟨S32x4x128, .f32⟩
  | .hbm, ⟨17, _⟩ => ⟨S32x4x128, .f32⟩
  | .hbm, ⟨18, _⟩ => ⟨S_, .f32⟩
  | .hbm, ⟨19, _⟩ => ⟨S32x4x128, .f32⟩
  | .hbm, ⟨20, _⟩ => ⟨S32x4x128, .f32⟩
  | .hbm, ⟨21, _⟩ => ⟨S1x4x128, .f32⟩
  | .hbm, ⟨22, _⟩ => ⟨S32x4x128, .f32⟩
  | .hbm, ⟨23, _⟩ => ⟨S32x4x128, .f32⟩
  | .hbm, ⟨24, _⟩ => ⟨S1x4x128, .f32⟩
  | .hbm, ⟨25, _⟩ => ⟨S32x4x128, .f32⟩
  | .hbm, ⟨26, _⟩ => ⟨S32x4x128, .f32⟩
  | .hbm, ⟨27, _⟩ => ⟨S32x4x128, .f32⟩
  | .hbm, ⟨28, _⟩ => ⟨S_, .f32⟩
  | .hbm, ⟨29, _⟩ => ⟨S4x128, .f32⟩
  | .hbm, ⟨30, _⟩ => ⟨S4x128, .f32⟩
  | .hbm, ⟨31, _⟩ => ⟨S32x4x128, .f32⟩
  | .hbm, ⟨32, _⟩ => ⟨S32x4x128, .f32⟩
  | .hbm, ⟨33, _⟩ => ⟨S32x4x128, .f32⟩
  | .hbm, ⟨34, _⟩ => ⟨S_, .f32⟩
  | .hbm, ⟨35, _⟩ => ⟨S32x4x128, .f32⟩
  | .hbm, ⟨36, _⟩ => ⟨S32x4x128, .f32⟩
  | .hbm, ⟨37, _⟩ => ⟨S_, .f32⟩
  | .hbm, ⟨38, _⟩ => ⟨S32x4x128, .f32⟩
  | .hbm, ⟨39, _⟩ => ⟨S32x4x128, .f32⟩
  | .hbm, ⟨40, _⟩ => ⟨S1x4x128, .f32⟩
  | .hbm, ⟨41, _⟩ => ⟨S32x4x128, .f32⟩
  | .hbm, ⟨42, _⟩ => ⟨S32x4x128, .f32⟩
  | .hbm, ⟨43, _⟩ => ⟨S32x512, .f32⟩
  | .hbm, ⟨44, _⟩ => ⟨S32x512, .f32⟩
  | .hbm, ⟨45, _⟩ => ⟨S_, .f32⟩
  | .hbm, ⟨46, _⟩ => ⟨S32x512, .f32⟩
  | .hbm, ⟨47, _⟩ => ⟨S32x512, .f32⟩
  | .hbm, ⟨48, _⟩ => ⟨S_, .f32⟩
  | .hbm, ⟨49, _⟩ => ⟨S32x512, .f32⟩
  | .hbm, ⟨50, _⟩ => ⟨S32x512, .f32⟩
  | .hbm, ⟨51, _⟩ => ⟨S32x512, .f32⟩
  | .hbm, ⟨52, _⟩ => ⟨S32x4x128, .f32⟩
  | .hbm, ⟨53, _⟩ => ⟨S32x4x128, .f32⟩
  | .hbm, ⟨54, _⟩ => ⟨S32x4x128, .f32⟩
  | .hbm, ⟨55, _⟩ => ⟨S32x4x128x1, .f32⟩
  | .hbm, ⟨56, _⟩ => ⟨S32x4x128x128, .f32⟩
  | .hbm, ⟨57, _⟩ => ⟨S32x4x128x128, .f32⟩
  | .hbm, ⟨58, _⟩ => ⟨S32x4x128x1, .f32⟩
  | .hbm, ⟨59, _⟩ => ⟨S32x4x1x128, .f32⟩
  | .hbm, ⟨60, _⟩ => ⟨S32x4x128x128, .f32⟩
  | .hbm, ⟨61, _⟩ => ⟨S32x4x128x128, .f32⟩
  | .hbm, ⟨62, _⟩ => ⟨S32x4x128x128, .f32⟩
  | .hbm, ⟨63, _⟩ => ⟨S32x4x128x128, .f32⟩
  | .hbm, ⟨64, _⟩ => ⟨S32x4x128, .f32⟩
  | .hbm, ⟨65, _⟩ => ⟨S4x128, .f32⟩
  | .hbm, ⟨66, _⟩ => ⟨S32x4x128, .f32⟩
  | .hbm, ⟨67, _⟩ => ⟨S_, .f32⟩
  | .hbm, ⟨68, _⟩ => ⟨S32x4, .f32⟩
  | .hbm, ⟨69, _⟩ => ⟨S32x4x1, .f32⟩
  | .hbm, ⟨70, _⟩ => ⟨S_, .f32⟩
  | .hbm, ⟨71, _⟩ => ⟨S32x4x1, .f32⟩
  | .hbm, ⟨72, _⟩ => ⟨S32x4x1, .f32⟩
  | .hbm, ⟨73, _⟩ => ⟨S_, .f32⟩
  | .hbm, ⟨74, _⟩ => ⟨S32x4x1, .f32⟩
  | .hbm, ⟨75, _⟩ => ⟨S32x4x1, .f32⟩
  | .hbm, ⟨76, _⟩ => ⟨S32x4x1, .f32⟩
  | .hbm, ⟨77, _⟩ => ⟨S32x4x128, .f32⟩
  | .hbm, ⟨78, _⟩ => ⟨S32x4x128, .f32⟩
  | .hbm, ⟨79, _⟩ => ⟨S1x4x128, .f32⟩
  | .hbm, ⟨80, _⟩ => ⟨S32x4x128, .f32⟩
  | .hbm, ⟨81, _⟩ => ⟨S32x4x128, .f32⟩
  | .hbm, ⟨82, _⟩ => ⟨S32x512, .f32⟩
  | .hbm, ⟨83, _⟩ => ⟨S32x512, .f32⟩
  | .hbm, ⟨84, _⟩ => ⟨S32x512, .f32⟩
  | .hbm, ⟨85, _⟩ => ⟨S_, .f32⟩
  | .hbm, ⟨86, _⟩ => ⟨S32x512, .f32⟩
  | .hbm, ⟨87, _⟩ => ⟨S32x512, .f32⟩
  | .hbm, ⟨88, _⟩ => ⟨S_, .f32⟩
  | .hbm, ⟨89, _⟩ => ⟨S32x512, .f32⟩
  | .hbm, ⟨90, _⟩ => ⟨S32x512, .f32⟩
  | .hbm, ⟨91, _⟩ => ⟨S32x512, .f32⟩
  | .hbm, ⟨92, _⟩ => ⟨S32x512, .f32⟩
  | _, _ => ⟨S32x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v62 : Ref sig .tc := ⟨.hbm, 91, rfl⟩
abbrev main_v63 : Ref sig .tc := ⟨.hbm, 92, rfl⟩

abbrev nD : Nat := 1
abbrev τ : Topo := Topo.v7x

variable {F : FTy → Type} [FloatOps F]
-- ==== Kernel5.lean ====
abbrev S32x1024 : Shape := ⟨2, ![32, 1024]⟩
abbrev S32x512 : Shape := ⟨2, ![32, 512]⟩
abbrev S32x9216 : Shape := ⟨2, ![32, 9216]⟩
abbrev S3x512x1024 : Shape := ⟨3, ![3, 512, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S32x9216, .f32⟩
  | .hbm, ⟨5, _⟩ => ⟨S3x512x1024, .bf16⟩
  | .hbm, ⟨6, _⟩ => ⟨S1024x1024, .bf16⟩
  | .hbm, ⟨7, _⟩ => ⟨S32x1024, .f32⟩
  | .local _ .vmem, ⟨0, _⟩ => ⟨S32x1024, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S3x512x1024, .bf16⟩
  | .local _ .vmem, ⟨10, _⟩ => ⟨S1024x1024, .bf16⟩
  | .local _ .vmem, ⟨11, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S3x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference5Ideal.lean ====
abbrev S32x1024 : Shape := ⟨2, ![32, 1024]⟩
abbrev S32x512 : Shape := ⟨2, ![32, 512]⟩
abbrev S32x9216 : Shape := ⟨2, ![32, 9216]⟩
abbrev S3x512x1024 : Shape := ⟨3, ![3, 512, 1024]⟩
abbrev S1024x1024 : Shape := ⟨2, ![1024, 1024]⟩
abbrev S_ : Shape := ⟨0, ![]⟩
abbrev S32x1x512 : Shape := ⟨3, ![32, 1, 512]⟩
abbrev S32x3x512 : Shape := ⟨3, ![32, 3, 512]⟩
abbrev S32x1x1024 : Shape := ⟨3, ![32, 1, 1024]⟩
abbrev S32x3x1024 : Shape := ⟨3, ![32, 3, 1024]⟩
abbrev S3x1024x32 : Shape := ⟨3, ![3, 1024, 32]⟩

abbrev nBuf : Space → Nat
  | .hbm => 57
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S32x9216, .f32⟩
  | .hbm, ⟨5, _⟩ => ⟨S3x512x1024, .bf16⟩
  | .hbm, ⟨6, _⟩ => ⟨S1024x1024, .bf16⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x512, .f32⟩
  | .hbm, ⟨11, _⟩ => ⟨S32x512, .f32⟩
  | .hbm, ⟨12, _⟩ => ⟨S32x512, .f32⟩
  | .hbm, ⟨13, _⟩ => ⟨S32x512, .f32⟩
  | .hbm, ⟨14, _⟩ => ⟨S_, .f32⟩
  | .hbm, ⟨15, _⟩ => ⟨S32x512, .f32⟩
  | .hbm, ⟨16, _⟩ => ⟨S32x512, .f32⟩
  | .hbm, ⟨17, _⟩ => ⟨S_, .f32⟩
  | .hbm, ⟨18, _⟩ => ⟨S32x512, .f32⟩
  | .hbm, ⟨19, _⟩ => ⟨S32x512, .f32⟩
  | .hbm, ⟨20, _⟩ => ⟨S32x512, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S_, .f32⟩
  | .hbm, ⟨25, _⟩ => ⟨S32x512, .f32⟩
  | .hbm, ⟨26, _⟩ => ⟨S32x512, .f32⟩
  | .hbm, ⟨27, _⟩ => ⟨S_, .f32⟩
  | .hbm, ⟨28, _⟩ => ⟨S32x512, .f32⟩
  | .hbm, ⟨29, _⟩ => ⟨S32x512, .f32⟩
  | .hbm, ⟨30, _⟩ => ⟨S32x512, .f32⟩
  | .hbm, ⟨31, _⟩ => ⟨S32x512, .f32⟩
  | .hbm, ⟨32, _⟩ => ⟨S32x1x512, .f32⟩
  | .hbm, ⟨33, _⟩ => ⟨S32x1x512, .f32⟩
  | .hbm, ⟨34, _⟩ => ⟨S32x1x512, .f32⟩
  | .hbm, ⟨35, _⟩ => ⟨S32x3x512, .f32⟩
  | .hbm, ⟨36, _⟩ => ⟨S32x1x1024, .f32⟩
  | .hbm, ⟨37, _⟩ => ⟨S32x1x1024, .f32⟩
  | .hbm, ⟨38, _⟩ => ⟨S32x1x1024, .f32⟩
  | .hbm, ⟨39, _⟩ => ⟨S32x3x1024, .f32⟩
  | .hbm, ⟨40, _⟩ => ⟨S32x3x1024, .f32⟩
  | .hbm, ⟨41, _⟩ => ⟨S32x3x1024, .f32⟩
  | .hbm, ⟨42, _⟩ => ⟨S_, .f32⟩
  | .hbm, ⟨43, _⟩ => ⟨S32x3x1024, .f32⟩
  | .hbm, ⟨44, _⟩ => ⟨S32x3x1024, .f32⟩
  | .hbm, ⟨45, _⟩ => ⟨S_, .f32⟩
  | .hbm, ⟨46, _⟩ => ⟨S32x3x1024, .f32⟩
  | .hbm, ⟨47, _⟩ => ⟨S32x3x1024, .f32⟩
  | .hbm, ⟨48, _⟩ => ⟨S3x512x1024, .f32⟩
  | .hbm, ⟨49, _⟩ => ⟨S3x1024x32, .f32⟩
  | .hbm, ⟨50, _⟩ => ⟨S32x3x1024, .f32⟩
  | .hbm, ⟨51, _⟩ => ⟨S32x3x1024, .f32⟩
  | .hbm, ⟨52, _⟩ => ⟨S_, .f32⟩
  | .hbm, ⟨53, _⟩ => ⟨S32x1024, .f32⟩
  | .hbm, ⟨54, _⟩ => ⟨S1024x1024, .f32⟩
  | .hbm, ⟨55, _⟩ => ⟨S32x1024, .f32⟩
  | .hbm, ⟨56, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst : Ref sig .tc := ⟨.hbm, 42, rfl⟩
abbrev main_v19 : Ref sig .tc := ⟨.hbm, 43, rfl⟩
abbrev main_v20 : Ref sig .tc := ⟨.hbm, 44, rfl⟩
abbrev main_cst_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩

abbrev nD : Nat := 1
abbrev τ : Topo := Topo.v7x

variable {F : FTy → Type} [FloatOps F]
-- ==== Kernel6.lean ====
abbrev S16384x9216 : Shape := ⟨2, ![16384, 9216]⟩
abbrev S2x64 : Shape := ⟨2, ![2, 64]⟩
abbrev S64 : Shape := ⟨1, ![64]⟩
abbrev S4x64 : Shape := ⟨2, ![4, 64]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S128 : Shape := ⟨1, ![128]⟩
abbrev S1x64 : Shape := ⟨2, ![1, 64]⟩
abbrev S2x2 : Shape := ⟨2, ![2, 2]⟩
abbrev S64x64 : Shape := ⟨2, ![64, 64]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S1x128 : Shape := ⟨2, ![1, 128]⟩
abbrev S8x128 : Shape := ⟨2, ![8, 128]⟩
abbrev S16384x832 : Shape := ⟨2, ![16384, 832]⟩
abbrev S16384x256 : Shape := ⟨2, ![16384, 256]⟩
abbrev S16384x1024 : Shape := ⟨2, ![16384, 1024]⟩
abbrev S16384x128 : Shape := ⟨2, ![16384, 128]⟩
abbrev S16384x896 : Shape := ⟨2, ![16384, 896]⟩
abbrev S256x512 : Shape := ⟨2, ![256, 512]⟩
abbrev S256x128 : Shape := ⟨2, ![256, 128]⟩
abbrev S256x832 : Shape := ⟨2, ![256, 832]⟩
abbrev S256x256 : Shape := ⟨2, ![256, 256]⟩
abbrev S256x1024 : Shape := ⟨2, ![256, 1024]⟩
abbrev S256x896 : Shape := ⟨2, ![256, 896]⟩
abbrev S256x64 : Shape := ⟨2, ![256, 64]⟩

abbrev nBuf : Space → Nat
  | .hbm => 108
  | .vmem => 36
  | .smem => 0
  | _ => 0

abbrev bufTy : (tb : Table) → Fin (tcTables nBuf tb) → BufTy
  | .hbm, ⟨0, _⟩ => ⟨S16384x9216, .f32⟩
  | .hbm, ⟨1, _⟩ => ⟨S2x64, .f32⟩
  | .hbm, ⟨2, _⟩ => ⟨S64, .f32⟩
  | .hbm, ⟨3, _⟩ => ⟨S4x64, .f32⟩
  | .hbm, ⟨4, _⟩ => ⟨S2048, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S2048, .f32⟩
  | .hbm, ⟨14, _⟩ => ⟨S2048x1, .f32⟩
  | .hbm, ⟨15, _⟩ => ⟨S1x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S_, .f32⟩
  | .hbm, ⟨22, _⟩ => ⟨S2048x48, .f32⟩
  | .hbm, ⟨23, _⟩ => ⟨S_, .f32⟩
  | .hbm, ⟨24, _⟩ => ⟨S2048x48, .f32⟩
  | .hbm, ⟨25, _⟩ => ⟨S_, .f32⟩
  | .hbm, ⟨26, _⟩ => ⟨S2048x8, .f32⟩
  | .hbm, ⟨27, _⟩ => ⟨S2048x64, .f32⟩
  | .hbm, ⟨28, _⟩ => ⟨S2048x8, .f32⟩
  | .hbm, ⟨29, _⟩ => ⟨S2048x64, .f32⟩
  | .hbm, ⟨30, _⟩ => ⟨S2048x64, .f32⟩
  | .hbm, ⟨31, _⟩ => ⟨S1x2048x1x64, .f32⟩
  | .hbm, ⟨32, _⟩ => ⟨S1x2048x2x64, .f32⟩
  | .hbm, ⟨33, _⟩ => ⟨S2048x128, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S_, .f32⟩
  | .hbm, ⟨41, _⟩ => ⟨S64, .f32⟩
  | .hbm, ⟨42, _⟩ => ⟨S128, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S2x64, .f32⟩
  | .hbm, ⟨47, _⟩ => ⟨S128, .f32⟩
  | .hbm, ⟨48, _⟩ => ⟨S1x64, .f32⟩
  | .hbm, ⟨49, _⟩ => ⟨S64, .f32⟩
  | .hbm, ⟨50, _⟩ => ⟨S1x64, .f32⟩
  | .hbm, ⟨51, _⟩ => ⟨S2x64, .f32⟩
  | .hbm, ⟨52, _⟩ => ⟨S128, .f32⟩
  | .hbm, ⟨53, _⟩ => ⟨S1x64, .f32⟩
  | .hbm, ⟨54, _⟩ => ⟨S64, .f32⟩
  | .hbm, ⟨55, _⟩ => ⟨S1x64, .f32⟩
  | .hbm, ⟨56, _⟩ => ⟨S2x64, .f32⟩
  | .hbm, ⟨57, _⟩ => ⟨S128, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S2x64, .f32⟩
  | .hbm, ⟨62, _⟩ => ⟨S128, .f32⟩
  | .hbm, ⟨63, _⟩ => ⟨S1x64, .f32⟩
  | .hbm, ⟨64, _⟩ => ⟨S64, .f32⟩
  | .hbm, ⟨65, _⟩ => ⟨S1x64, .f32⟩
  | .hbm, ⟨66, _⟩ => ⟨S2x64, .f32⟩
  | .hbm, ⟨67, _⟩ => ⟨S128, .f32⟩
  | .hbm, ⟨68, _⟩ => ⟨S1x64, .f32⟩
  | .hbm, ⟨69, _⟩ => ⟨S64, .f32⟩
  | .hbm, ⟨70, _⟩ => ⟨S1x64, .f32⟩
  | .hbm, ⟨71, _⟩ => ⟨S2x64, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S2x2, .i32⟩
  | .hbm, ⟨76, _⟩ => ⟨S2x2, .i32⟩
  | .hbm, ⟨77, _⟩ => ⟨S_, .i32⟩
  | .hbm, ⟨78, _⟩ => ⟨S2x2, .i32⟩
  | .hbm, ⟨79, _⟩ => ⟨S2x2, .i32⟩
  | .hbm, ⟨80, _⟩ => ⟨S2x2, .i1⟩
  | .hbm, ⟨81, _⟩ => ⟨S2x2, .f32⟩
  | .hbm, ⟨82, _⟩ => ⟨S_, .f32⟩
  | .hbm, ⟨83, _⟩ => ⟨S64x64, .f32⟩
  | .hbm, ⟨84, _⟩ => ⟨S2x1x2x1, .f32⟩
  | .hbm, ⟨85, _⟩ => ⟨S1x64x1x64, .f32⟩
  | .hbm, ⟨86, _⟩ => ⟨S2x64x2x64, .f32⟩
  | .hbm, ⟨87, _⟩ => ⟨S2x64x2x64, .f32⟩
  | .hbm, ⟨88, _⟩ => ⟨S2x64x2x64, .f32⟩
  | .hbm, ⟨89, _⟩ => ⟨S128x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S8x128, .f32⟩
  | .hbm, ⟨99, _⟩ => ⟨S128x128, .bf16⟩
  | .hbm, ⟨100, _⟩ => ⟨S16384x832, .f32⟩
  | .hbm, ⟨101, _⟩ => ⟨S16384x256, .f32⟩
  | .hbm, ⟨102, _⟩ => ⟨S16384x256, .f32⟩
  | .hbm, ⟨103, _⟩ => ⟨S16384x1024, .bf16⟩
  | .hbm, ⟨104, _⟩ => ⟨S16384x1024, .bf16⟩
  | .hbm, ⟨105, _⟩ => ⟨S16384x1024, .bf16⟩
  | .hbm, ⟨106, _⟩ => ⟨S16384x128, .f32⟩
  | .hbm, ⟨107, _⟩ => ⟨S16384x896, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S8x128, .f32⟩
  | .local _ .vmem, ⟨19, _⟩ => ⟨S128x128, .bf16⟩
  | .local _ .vmem, ⟨20, _⟩ => ⟨S256x832, .f32⟩
  | .local _ .vmem, ⟨21, _⟩ => ⟨S256x832, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x128, .f32⟩
  | .local _ .vmem, ⟨33, _⟩ => ⟨S256x128, .f32⟩
  | .local _ .vmem, ⟨34, _⟩ => ⟨S256x896, .bf16⟩
  | .local _ .vmem, ⟨35, _⟩ => ⟨S256x896, .bf16⟩
  | _, _ => ⟨S16384x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_c : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_6 : Ref sig .tc := ⟨.hbm, 82, rfl⟩
abbrev main_v70 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82_0 : Ref sig .tc := ⟨.hbm, 100, rfl⟩
abbrev main_v82_1 : Ref sig .tc := ⟨.hbm, 101, rfl⟩
abbrev main_v82_2 : Ref sig .tc := ⟨.hbm, 102, rfl⟩
abbrev main_v82_3 : Ref sig .tc := ⟨.hbm, 103, rfl⟩
abbrev main_v82_4 : Ref sig .tc := ⟨.hbm, 104, rfl⟩
abbrev main_v82_5 : Ref sig .tc := ⟨.hbm, 105, rfl⟩
abbrev main_v82_6 : Ref sig .tc := ⟨.hbm, 106, rfl⟩
abbrev main_v82_7 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_4 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_5 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x832 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x896 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference6Ideal.lean ====
abbrev S16384x9216 : Shape := ⟨2, ![16384, 9216]⟩
abbrev S2x64 : Shape := ⟨2, ![2, 64]⟩
abbrev S64 : Shape := ⟨1, ![64]⟩
abbrev S4x64 : Shape := ⟨2, ![4, 64]⟩
abbrev S2048 : Shape := ⟨1, ![2048]⟩
abbrev S16384x128 : Shape := ⟨2, ![16384, 128]⟩
abbrev S16384x64 : Shape := ⟨2, ![16384, 64]⟩
abbrev S8x2048x2x64 : Shape := ⟨4, ![8, 2048, 2, 64]⟩
abbrev S1x64 : Shape := ⟨2, ![1, 64]⟩
abbrev S_ : Shape := ⟨0, ![]⟩
abbrev S8x2048x2 : Shape := ⟨3, ![8, 2048, 2]⟩
abbrev S8x2048x2x1 : Shape := ⟨4, ![8, 2048, 2, 1]⟩
abbrev S1x1x1x64 : Shape := ⟨4, ![1, 1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x2x8 : Shape := ⟨4, ![8, 2048, 2, 8]⟩
abbrev S8x2048x2x48 : Shape := ⟨4, ![8, 2048, 2, 48]⟩
abbrev S1x2048x1x8 : Shape := ⟨4, ![1, 2048, 1, 8]⟩
abbrev S8x2048x1x64 : Shape := ⟨4, ![8, 2048, 1, 64]⟩
abbrev S8x2048x1 : Shape := ⟨3, ![8, 2048, 1]⟩
abbrev S8x2048x1x1 : Shape := ⟨4, ![8, 2048, 1, 1]⟩
abbrev S8x2048x1x8 : Shape := ⟨4, ![8, 2048, 1, 8]⟩
abbrev S8x2048x1x48 : Shape := ⟨4, ![8, 2048, 1, 48]⟩
abbrev S16384x832 : Shape := ⟨2, ![16384, 832]⟩
abbrev S16384x256 : Shape := ⟨2, ![16384, 256]⟩

abbrev nBuf : Space → Nat
  | .hbm => 294
  | .vmem => 0
  | .smem => 0
  | _ => 0

abbrev hbmTy0_0 (i : Nat) : BufTy := match i % 128 with
  | 0 => ⟨S16384x9216, .f32⟩
  | 1 => ⟨S2x64, .f32⟩
  | 2 => ⟨S64, .f32⟩
  | 3 => ⟨S4x64, .f32⟩
  | 4 => ⟨S2048, .i32⟩
  | 5 => ⟨S16384x128, .f32⟩
  | 6 => ⟨S16384x128, .f32⟩
  | 7 => ⟨S16384x64, .f32⟩
  | 8 => ⟨S16384x128, .f32⟩
  | 9 => ⟨S16384x128, .f32⟩
  | 10 => ⟨S16384x128, .f32⟩
  | 11 => ⟨S16384x128, .f32⟩
  | 12 => ⟨S16384x128, .f32⟩
  | 13 => ⟨S16384x128, .f32⟩
  | 14 => ⟨S8x2048x2x64, .f32⟩
  | 15 => ⟨S1x64, .f32⟩
  | 16 => ⟨S64, .f32⟩
  | 17 => ⟨S8x2048x2x64, .f32⟩
  | 18 => ⟨S_, .f32⟩
  | 19 => ⟨S8x2048x2, .f32⟩
  | 20 => ⟨S8x2048x2x1, .f32⟩
  | 21 => ⟨S_, .f32⟩
  | 22 => ⟨S8x2048x2x1, .f32⟩
  | 23 => ⟨S8x2048x2x1, .f32⟩
  | 24 => ⟨S_, .f32⟩
  | 25 => ⟨S8x2048x2x1, .f32⟩
  | 26 => ⟨S8x2048x2x1, .f32⟩
  | 27 => ⟨S8x2048x2x1, .f32⟩
  | 28 => ⟨S8x2048x2x64, .f32⟩
  | 29 => ⟨S8x2048x2x64, .f32⟩
  | 30 => ⟨S1x1x1x64, .f32⟩
  | 31 => ⟨S8x2048x2x64, .f32⟩
  | 32 => ⟨S8x2048x2x64, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S2048, .f32⟩
  | 42 => ⟨S2048x1, .f32⟩
  | 43 => ⟨S1x8, .f32⟩
  | 44 => ⟨S2048x8, .f32⟩
  | 45 => ⟨S2048x8, .f32⟩
  | 46 => ⟨S2048x8, .f32⟩
  | 47 => ⟨S2048x8, .f32⟩
  | 48 => ⟨S2048x1x8, .f32⟩
  | 49 => ⟨S2048x8, .f32⟩
  | 50 => ⟨S2048x1x8, .f32⟩
  | 51 => ⟨S8x2048x2x8, .f32⟩
  | 52 => ⟨S8x2048x2x8, .f32⟩
  | 53 => ⟨S8x2048x2x48, .f32⟩
  | 54 => ⟨S1x2048x1x8, .f32⟩
  | 55 => ⟨S8x2048x2x8, .f32⟩
  | 56 => ⟨S8x2048x2x8, .f32⟩
  | 57 => ⟨S1x2048x1x8, .f32⟩
  | 58 => ⟨S8x2048x2x8, .f32⟩
  | 59 => ⟨S8x2048x2x8, .f32⟩
  | 60 => ⟨S8x2048x2x8, .f32⟩
  | 61 => ⟨S1x2048x1x8, .f32⟩
  | 62 => ⟨S8x2048x2x8, .f32⟩
  | 63 => ⟨S8x2048x2x8, .f32⟩
  | 64 => ⟨S1x2048x1x8, .f32⟩
  | 65 => ⟨S8x2048x2x8, .f32⟩
  | 66 => ⟨S8x2048x2x8, .f32⟩
  | 67 => ⟨S8x2048x2x8, .f32⟩
  | 68 => ⟨S8x2048x2x64, .f32⟩
  | 69 => ⟨S8x2048x1x64, .f32⟩
  | 70 => ⟨S8x2048x1x64, .f32⟩
  | 71 => ⟨S_, .f32⟩
  | 72 => ⟨S8x2048x1, .f32⟩
  | 73 => ⟨S8x2048x1x1, .f32⟩
  | 74 => ⟨S_, .f32⟩
  | 75 => ⟨S8x2048x1x1, .f32⟩
  | 76 => ⟨S8x2048x1x1, .f32⟩
  | 77 => ⟨S_, .f32⟩
  | 78 => ⟨S8x2048x1x1, .f32⟩
  | 79 => ⟨S8x2048x1x1, .f32⟩
  | 80 => ⟨S8x2048x1x1, .f32⟩
  | 81 => ⟨S8x2048x1x64, .f32⟩
  | 82 => ⟨S8x2048x1x64, .f32⟩
  | 83 => ⟨S1x1x1x64, .f32⟩
  | 84 => ⟨S8x2048x1x64, .f32⟩
  | 85 => ⟨S8x2048x1x64, .f32⟩
  | 86 => ⟨S8, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S2048, .f32⟩
  | 95 => ⟨S2048x1, .f32⟩
  | 96 => ⟨S1x8, .f32⟩
  | 97 => ⟨S2048x8, .f32⟩
  | 98 => ⟨S2048x8, .f32⟩
  | 99 => ⟨S2048x8, .f32⟩
  | 100 => ⟨S2048x8, .f32⟩
  | 101 => ⟨S2048x1x8, .f32⟩
  | 102 => ⟨S2048x8, .f32⟩
  | 103 => ⟨S2048x1x8, .f32⟩
  | 104 => ⟨S8x2048x1x8, .f32⟩
  | 105 => ⟨S8x2048x1x8, .f32⟩
  | 106 => ⟨S8x2048x1x48, .f32⟩
  | 107 => ⟨S1x2048x1x8, .f32⟩
  | 108 => ⟨S8x2048x1x8, .f32⟩
  | 109 => ⟨S8x2048x1x8, .f32⟩
  | 110 => ⟨S1x2048x1x8, .f32⟩
  | 111 => ⟨S8x2048x1x8, .f32⟩
  | 112 => ⟨S8x2048x1x8, .f32⟩
  | 113 => ⟨S8x2048x1x8, .f32⟩
  | 114 => ⟨S1x2048x1x8, .f32⟩
  | 115 => ⟨S8x2048x1x8, .f32⟩
  | 116 => ⟨S8x2048x1x8, .f32⟩
  | 117 => ⟨S1x2048x1x8, .f32⟩
  | 118 => ⟨S8x2048x1x8, .f32⟩
  | 119 => ⟨S8x2048x1x8, .f32⟩
  | 120 => ⟨S8x2048x1x8, .f32⟩
  | 121 => ⟨S8x2048x1x64, .f32⟩
  | 122 => ⟨S8x2048x2x64, .f32⟩
  | 123 => ⟨S1x64, .f32⟩
  | 124 => ⟨S64, .f32⟩
  | 125 => ⟨S8x2048x2x64, .f32⟩
  | 126 => ⟨S_, .f32⟩
  | 127 => ⟨S8x2048x2, .f32⟩
  | _ => ⟨S16384x9216, .f32⟩

abbrev hbmTy0_1 (i : Nat) : BufTy := match i % 128 with
  | 0 => ⟨S8x2048x2x1, .f32⟩
  | 1 => ⟨S_, .f32⟩
  | 2 => ⟨S8x2048x2x1, .f32⟩
  | 3 => ⟨S8x2048x2x1, .f32⟩
  | 4 => ⟨S_, .f32⟩
  | 5 => ⟨S8x2048x2x1, .f32⟩
  | 6 => ⟨S8x2048x2x1, .f32⟩
  | 7 => ⟨S8x2048x2x1, .f32⟩
  | 8 => ⟨S8x2048x2x64, .f32⟩
  | 9 => ⟨S8x2048x2x64, .f32⟩
  | 10 => ⟨S1x1x1x64, .f32⟩
  | 11 => ⟨S8x2048x2x64, .f32⟩
  | 12 => ⟨S8x2048x2x64, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S2048, .f32⟩
  | 22 => ⟨S2048x1, .f32⟩
  | 23 => ⟨S1x8, .f32⟩
  | 24 => ⟨S2048x8, .f32⟩
  | 25 => ⟨S2048x8, .f32⟩
  | 26 => ⟨S2048x8, .f32⟩
  | 27 => ⟨S2048x8, .f32⟩
  | 28 => ⟨S2048x1x8, .f32⟩
  | 29 => ⟨S2048x8, .f32⟩
  | 30 => ⟨S2048x1x8, .f32⟩
  | 31 => ⟨S8x2048x2x8, .f32⟩
  | 32 => ⟨S8x2048x2x8, .f32⟩
  | 33 => ⟨S8x2048x2x48, .f32⟩
  | 34 => ⟨S1x2048x1x8, .f32⟩
  | 35 => ⟨S8x2048x2x8, .f32⟩
  | 36 => ⟨S8x2048x2x8, .f32⟩
  | 37 => ⟨S1x2048x1x8, .f32⟩
  | 38 => ⟨S8x2048x2x8, .f32⟩
  | 39 => ⟨S8x2048x2x8, .f32⟩
  | 40 => ⟨S8x2048x2x8, .f32⟩
  | 41 => ⟨S1x2048x1x8, .f32⟩
  | 42 => ⟨S8x2048x2x8, .f32⟩
  | 43 => ⟨S8x2048x2x8, .f32⟩
  | 44 => ⟨S1x2048x1x8, .f32⟩
  | 45 => ⟨S8x2048x2x8, .f32⟩
  | 46 => ⟨S8x2048x2x8, .f32⟩
  | 47 => ⟨S8x2048x2x8, .f32⟩
  | 48 => ⟨S8x2048x2x64, .f32⟩
  | 49 => ⟨S8x2048x2x64, .f32⟩
  | 50 => ⟨S1x64, .f32⟩
  | 51 => ⟨S64, .f32⟩
  | 52 => ⟨S8x2048x2x64, .f32⟩
  | 53 => ⟨S_, .f32⟩
  | 54 => ⟨S8x2048x2, .f32⟩
  | 55 => ⟨S8x2048x2x1, .f32⟩
  | 56 => ⟨S_, .f32⟩
  | 57 => ⟨S8x2048x2x1, .f32⟩
  | 58 => ⟨S8x2048x2x1, .f32⟩
  | 59 => ⟨S_, .f32⟩
  | 60 => ⟨S8x2048x2x1, .f32⟩
  | 61 => ⟨S8x2048x2x1, .f32⟩
  | 62 => ⟨S8x2048x2x1, .f32⟩
  | 63 => ⟨S8x2048x2x64, .f32⟩
  | 64 => ⟨S8x2048x2x64, .f32⟩
  | 65 => ⟨S1x1x1x64, .f32⟩
  | 66 => ⟨S8x2048x2x64, .f32⟩
  | 67 => ⟨S8x2048x2x64, .f32⟩
  | 68 => ⟨S8, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S2048, .f32⟩
  | 77 => ⟨S2048x1, .f32⟩
  | 78 => ⟨S1x8, .f32⟩
  | 79 => ⟨S2048x8, .f32⟩
  | 80 => ⟨S2048x8, .f32⟩
  | 81 => ⟨S2048x8, .f32⟩
  | 82 => ⟨S2048x8, .f32⟩
  | 83 => ⟨S2048x1x8, .f32⟩
  | 84 => ⟨S2048x8, .f32⟩
  | 85 => ⟨S2048x1x8, .f32⟩
  | 86 => ⟨S8x2048x2x8, .f32⟩
  | 87 => ⟨S8x2048x2x8, .f32⟩
  | 88 => ⟨S8x2048x2x48, .f32⟩
  | 89 => ⟨S1x2048x1x8, .f32⟩
  | 90 => ⟨S8x2048x2x8, .f32⟩
  | 91 => ⟨S8x2048x2x8, .f32⟩
  | 92 => ⟨S1x2048x1x8, .f32⟩
  | 93 => ⟨S8x2048x2x8, .f32⟩
  | 94 => ⟨S8x2048x2x8, .f32⟩
  | 95 => ⟨S8x2048x2x8, .f32⟩
  | 96 => ⟨S1x2048x1x8, .f32⟩
  | 97 => ⟨S8x2048x2x8, .f32⟩
  | 98 => ⟨S8x2048x2x8, .f32⟩
  | 99 => ⟨S1x2048x1x8, .f32⟩
  | 100 => ⟨S8x2048x2x8, .f32⟩
  | 101 => ⟨S8x2048x2x8, .f32⟩
  | 102 => ⟨S8x2048x2x8, .f32⟩
  | 103 => ⟨S8x2048x2x64, .f32⟩
  | 104 => ⟨S8x2048x2x64, .f32⟩
  | 105 => ⟨S1x64, .f32⟩
  | 106 => ⟨S64, .f32⟩
  | 107 => ⟨S8x2048x2x64, .f32⟩
  | 108 => ⟨S_, .f32⟩
  | 109 => ⟨S8x2048x2, .f32⟩
  | 110 => ⟨S8x2048x2x1, .f32⟩
  | 111 => ⟨S_, .f32⟩
  | 112 => ⟨S8x2048x2x1, .f32⟩
  | 113 => ⟨S8x2048x2x1, .f32⟩
  | 114 => ⟨S_, .f32⟩
  | 115 => ⟨S8x2048x2x1, .f32⟩
  | 116 => ⟨S8x2048x2x1, .f32⟩
  | 117 => ⟨S8x2048x2x1, .f32⟩
  | 118 => ⟨S8x2048x2x64, .f32⟩
  | 119 => ⟨S8x2048x2x64, .f32⟩
  | 120 => ⟨S1x1x1x64, .f32⟩
  | 121 => ⟨S8x2048x2x64, .f32⟩
  | 122 => ⟨S8x2048x2x64, .f32⟩
  | 123 => ⟨S8, .f32⟩
  | 124 => ⟨S8, .f32⟩
  | 125 => ⟨S_, .f32⟩
  | 126 => ⟨S8, .f32⟩
  | 127 => ⟨S8, .f32⟩
  | _ => ⟨S16384x9216, .f32⟩

abbrev hbmTy0_2 (i : Nat) : BufTy := match i % 128 with
  | 0 => ⟨S_, .f32⟩
  | 1 => ⟨S8, .f32⟩
  | 2 => ⟨S8, .f32⟩
  | 3 => ⟨S2048, .f32⟩
  | 4 => ⟨S2048x1, .f32⟩
  | 5 => ⟨S1x8, .f32⟩
  | 6 => ⟨S2048x8, .f32⟩
  | 7 => ⟨S2048x8, .f32⟩
  | 8 => ⟨S2048x8, .f32⟩
  | 9 => ⟨S2048x8, .f32⟩
  | 10 => ⟨S2048x1x8, .f32⟩
  | 11 => ⟨S2048x8, .f32⟩
  | 12 => ⟨S2048x1x8, .f32⟩
  | 13 => ⟨S8x2048x2x8, .f32⟩
  | 14 => ⟨S8x2048x2x8, .f32⟩
  | 15 => ⟨S8x2048x2x48, .f32⟩
  | 16 => ⟨S1x2048x1x8, .f32⟩
  | 17 => ⟨S8x2048x2x8, .f32⟩
  | 18 => ⟨S8x2048x2x8, .f32⟩
  | 19 => ⟨S1x2048x1x8, .f32⟩
  | 20 => ⟨S8x2048x2x8, .f32⟩
  | 21 => ⟨S8x2048x2x8, .f32⟩
  | 22 => ⟨S8x2048x2x8, .f32⟩
  | 23 => ⟨S1x2048x1x8, .f32⟩
  | 24 => ⟨S8x2048x2x8, .f32⟩
  | 25 => ⟨S8x2048x2x8, .f32⟩
  | 26 => ⟨S1x2048x1x8, .f32⟩
  | 27 => ⟨S8x2048x2x8, .f32⟩
  | 28 => ⟨S8x2048x2x8, .f32⟩
  | 29 => ⟨S8x2048x2x8, .f32⟩
  | 30 => ⟨S8x2048x2x64, .f32⟩
  | 31 => ⟨S16384x128, .f32⟩
  | 32 => ⟨S16384x64, .f32⟩
  | 33 => ⟨S16384x128, .f32⟩
  | 34 => ⟨S16384x128, .f32⟩
  | 35 => ⟨S16384x832, .f32⟩
  | 36 => ⟨S16384x128, .f32⟩
  | 37 => ⟨S16384x256, .f32⟩
  | _ => ⟨S16384x9216, .f32⟩

abbrev hbmTy (i : Nat) : BufTy := match i / 128 with
  | 0 => hbmTy0_0 i
  | 1 => hbmTy0_1 i
  | 2 => hbmTy0_2 i
  | _ => ⟨S16384x9216, .f32⟩

abbrev bufTy : (tb : Table) → Fin (tcTables nBuf tb) → BufTy
  | .hbm, ⟨i, _⟩ => hbmTy i
  | _, _ => ⟨S16384x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_4 : Ref sig .tc := ⟨.hbm, 71, rfl⟩
abbrev main_v62 : Ref sig .tc := ⟨.hbm, 72, rfl⟩
abbrev main_v63 : Ref sig .tc := ⟨.hbm, 73, rfl⟩
abbrev main_cst_5 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_7 : Ref sig .tc := ⟨.hbm, 88, rfl⟩
abbrev main_v76 : Ref sig .tc := ⟨.hbm, 89, rfl⟩
abbrev main_v77 : Ref sig .tc := ⟨.hbm, 90, rfl⟩
abbrev main_cst_8 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_cst_9 : Ref sig .tc := ⟨.hbm, 126, rfl⟩
abbrev main_v112 : Ref sig .tc := ⟨.hbm, 127, rfl⟩
abbrev main_v113 : Ref sig .tc := ⟨.hbm, 128, rfl⟩
abbrev main_cst_10 : Ref sig .tc := ⟨.hbm, 129, rfl⟩
abbrev main_v114 : Ref sig .tc := ⟨.hbm, 130, rfl⟩
abbrev main_v115 : Ref sig .tc := ⟨.hbm, 131, rfl⟩
abbrev main_cst_11 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_cst_12 : Ref sig .tc := ⟨.hbm, 143, rfl⟩
abbrev main_v126 : Ref sig .tc := ⟨.hbm, 144, rfl⟩
abbrev main_v127 : Ref sig .tc := ⟨.hbm, 145, rfl⟩
abbrev main_cst_13 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_cst_14 : Ref sig .tc := ⟨.hbm, 181, rfl⟩
abbrev main_v162 : Ref sig .tc := ⟨.hbm, 182, rfl⟩
abbrev main_v163 : Ref sig .tc := ⟨.hbm, 183, rfl⟩
abbrev main_cst_15 : Ref sig .tc := ⟨.hbm, 184, rfl⟩
abbrev main_v164 : Ref sig .tc := ⟨.hbm, 185, rfl⟩
abbrev main_v165 : Ref sig .tc := ⟨.hbm, 186, rfl⟩
abbrev main_cst_16 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_cst_17 : Ref sig .tc := ⟨.hbm, 198, rfl⟩
abbrev main_v176 : Ref sig .tc := ⟨.hbm, 199, rfl⟩
abbrev main_v177 : Ref sig .tc := ⟨.hbm, 200, rfl⟩
abbrev main_cst_18 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_cst_19 : Ref sig .tc := ⟨.hbm, 236, rfl⟩
abbrev main_v212 : Ref sig .tc := ⟨.hbm, 237, rfl⟩
abbrev main_v213 : Ref sig .tc := ⟨.hbm, 238, rfl⟩
abbrev main_cst_20 : Ref sig .tc := ⟨.hbm, 239, rfl⟩
abbrev main_v214 : Ref sig .tc := ⟨.hbm, 240, rfl⟩
abbrev main_v215 : Ref sig .tc := ⟨.hbm, 241, rfl⟩
abbrev main_cst_21 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_cst_22 : Ref sig .tc := ⟨.hbm, 253, rfl⟩
abbrev main_v226 : Ref sig .tc := ⟨.hbm, 254, rfl⟩
abbrev main_v227 : Ref sig .tc := ⟨.hbm, 255, rfl⟩
abbrev main_cst_23 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩

abbrev nD : Nat := 1
abbrev τ : Topo := Topo.v7x

variable {F : FTy → Type} [FloatOps F]
-- ==== Proof.Prompt.Body.lean ====
module

public import proofs.«01_k».proof.Proof.Gen.KernelIdeal.Loops
public import Idealize.ShloMosaic.Lib.Pipeline.ValueKit
public import Idealize.ShloMosaic.Lib.VecWindow

@[expose] public section

set_option maxRecDepth 16384

noncomputable section

/-! One chunk of the gated linear recurrence, as functions of the rows it reads and the state it finds. -/

namespace Cert.KernelIdeal.Gen

open Idealize.ShloMosaic Idealize.ShloMosaic.TcCoe Idealize.ShloMosaic.Tactic
open Idealize.SL Idealize.SL.RA Idealize.SL.BI
open Idealize.SL.Sem

variable {F : FTy → Type} [FloatOps F]

theorem inbRow (s : Fin 64) : ∀ a, (![s.val, 0] : Fin S64x128.rank → ℕ) a + S1x128.size a ≤ S64x128.size a := by
  have := s.isLt
  intro a; fin_cases a
  · show s.val + 1 ≤ 64; omega
  · show 0 + 128 ≤ 128; omega

/-- A column of a score tile: the eight queries against one key row, the decay being the exponential of a difference. -/
def keyCol (qt : FVec F S8x128 .f32) (diff : FVec F S8x128 .f32) (kr : FVec F S1x128 .f32) : FVec F S8x1 .f32 :=
  shapeCast S8x1 (multiReduction .add [1] S8 (mulf (mulf qt (exp diff)) (broadcastTo S8x128 kr broadcasts_S1x128_S8x128))
    0x00000000#32 reduces_S8x128_S8 (.inl rfl) rfl) shapeCasts_S8_S8x1

/-- The differences masked: minus infinity where the query's row is before the key's. -/
def maskDiff (v4 : IVec S64x128 32) (r0 s : BitVec 32) (diff : FVec F S8x128 .f32) : FVec F S8x128 .f32 :=
  select (cmpi .sge (addi (extractStridedSlice S8x128 ![0, 0] v4 slices_S64x128_o0_0_S8x128) (broadcast S8x128 r0)) (broadcast S8x128 s))
    diff (broadcast S8x128 (Scalar.ofBits .f32 0xFF800000#32))

/-- Column `s` of a tile put in place. -/
def putCol (v11 : IVec S64x64 32) (s : BitVec 32) (c : FVec F S8x1 .f32) (prev : FVec F S8x64 .f32) : FVec F S8x64 .f32 :=
  select (cmpi .eq (extractStridedSlice S8x64 ![0, 0] v11 slices_S64x64_o0_0_S8x64) (broadcast S8x64 s))
    (broadcastTo S8x64 (shapeCast S8x1 c shapeCasts_S8x1_S8x1) broadcasts_S8x1_S8x64) prev

/-- A tile of eight query rows: the columns of the keys in `L`, the earlier ones unmasked, over a base. -/
def tileOf (v4 : IVec S64x128 32) (v11 : IVec S64x64 32) (r0 : ℕ) (bt qt : FVec F S8x128 .f32)
    (br kr : Fin 64 → FVec F S1x128 .f32) (base : FVec F S8x64 .f32) (L : List (Fin 64)) : FVec F S8x64 .f32 :=
  L.foldl (fun prev s => putCol v11 (BitVec.ofNat 32 s.val)
    (keyCol qt (if s.val < r0 then subf bt (broadcastTo S8x128 (br s) broadcasts_S1x128_S8x128)
      else maskDiff v4 (BitVec.ofNat 32 r0) (BitVec.ofNat 32 s.val) (subf bt (broadcastTo S8x128 (br s) broadcasts_S1x128_S8x128))) (kr s)) prev) base

/-- A row of a chunk. -/
def rowAt (x : Vec F S64x128 .f32) (s : Fin 64) : Vec F S1x128 .f32 :=
  View.ld (Val := Elt F) (e' := .f32) x (Rect.unit (s := S64x128) ![s.val, 0] S1x128.size (inbRow s))

/-- The scores of sixteen query rows against the keys before them, the decay split at the row before the first. -/
def offBlk (v4 : IVec S64x128 32) (lo hi : ℕ) (h1 : S64x128.Slices ![lo, 0] S1x128) (h2 : S64x128.Slices ![hi, 0] S16x128)
    (kk q b : FVec F S64x128 .f32) : FVec F S16x64 .f32 :=
  have b0 : FVec F S1x128 .f32 := extractStridedSlice S1x128 ![lo, 0] b h1
  have qs : FVec F S16x128 .f32 := mulf (extractStridedSlice S16x128 ![hi, 0] q h2)
    (exp (subf (extractStridedSlice S16x128 ![hi, 0] b h2) (broadcastTo S16x128 b0 broadcasts_S1x128_S16x128)))
  have qh : FVec F S16x128 .bf16 := truncf .bf16 qs bitsLt_bf16_f32
  have ql : FVec F S16x128 .bf16 := truncf .bf16 (subf qs (extf .f32 qh bitsLt_bf16_f32)) bitsLt_bf16_f32
  have ks : FVec F S64x128 .f32 := mulf kk (exp (select (cmpi .slt v4 (broadcast S64x128 (BitVec.ofNat 32 hi)))
    (subf (broadcastTo S64x128 b0 broadcasts_S1x128_S64x128) b) (broadcast S64x128 (Scalar.ofBits .f32 0xFF800000#32))))
  have kh : FVec F S64x128 .bf16 := truncf .bf16 ks bitsLt_bf16_f32
  have kl : FVec F S64x128 .bf16 := truncf .bf16 (subf ks (extf .f32 kh bitsLt_bf16_f32)) bitsLt_bf16_f32
  have z : FVec F S16x64 .f32 := constant S16x64 .f32 0x00000000#32
  addf (addf (matmul dot_S16x128_S64x128_S16x64_1_1_0_0_n_n none qh kh z) (matmul dot_S16x128_S64x128_S16x64_1_1_0_0_n_n none qh kl z))
    (matmul dot_S16x128_S64x128_S16x64_1_1_0_0_n_n none ql kh z)

/-- A score tile from the whole chunk: the eight rows from `r0`. -/
def scoreTile (v4 : IVec S64x128 32) (v11 : IVec S64x64 32) (r0 : ℕ) (h : S64x128.Slices ![r0, 0] S8x128)
    (b q : FVec F S64x128 .f32) (br kr : Fin 64 → FVec F S1x128 .f32) (base : FVec F S8x64 .f32) (L : List (Fin 64)) : FVec F S8x64 .f32 :=
  tileOf v4 v11 r0 (extractStridedSlice S8x128 ![r0, 0] b h) (extractStridedSlice S8x128 ![r0, 0] q h) br kr base L

/-- The eight tiles, by number, as a function of the chunk's cumulated logarithms, queries and keys. -/
def tile (v4 : IVec S64x128 32) (v11 : IVec S64x64 32) (b q kk : FVec F S64x128 .f32) (br kr : Fin 64 → FVec F S1x128 .f32) :
    Fin 8 → FVec F S8x64 .f32
  | 0 => scoreTile v4 v11 0 slices_S64x128_o0_0_S8x128 b q br kr k0_pay23 [0, 1, 2, 3, 4, 5, 6, 7]
  | 1 => scoreTile v4 v11 8 slices_S64x128_o8_0_S8x128 b q br kr k0_pay23 [0, 1, 2, 3, 4, 5, 6, 7, 8, 9, 10, 11, 12, 13, 14, 15]
  | 2 => scoreTile v4 v11 16 slices_S64x128_o16_0_S8x128 b q br kr
      (extractStridedSlice S8x64 ![0, 0] (offBlk v4 15 16 slices_S64x128_o15_0_S1x128 slices_S64x128_o16_0_S16x128 kk q b) slices_S16x64_o0_0_S8x64)
      [16, 17, 18, 19, 20, 21, 22, 23]
  | 3 => scoreTile v4 v11 24 slices_S64x128_o24_0_S8x128 b q br kr
      (extractStridedSlice S8x64 ![8, 0] (offBlk v4 15 16 slices_S64x128_o15_0_S1x128 slices_S64x128_o16_0_S16x128 kk q b) slices_S16x64_o8_0_S8x64)
      [16, 17, 18, 19, 20, 21, 22, 23, 24, 25, 26, 27, 28, 29, 30, 31]
  | 4 => scoreTile v4 v11 32 slices_S64x128_o32_0_S8x128 b q br kr
      (extractStridedSlice S8x64 ![0, 0] (offBlk v4 31 32 slices_S64x128_o31_0_S1x128 slices_S64x128_o32_0_S16x128 kk q b) slices_S16x64_o0_0_S8x64)
      [32, 33, 34, 35, 36, 37, 38, 39]
  | 5 => scoreTile v4 v11 40 slices_S64x128_o40_0_S8x128 b q br kr
      (extractStridedSlice S8x64 ![8, 0] (offBlk v4 31 32 slices_S64x128_o31_0_S1x128 slices_S64x128_o32_0_S16x128 kk q b) slices_S16x64_o8_0_S8x64)
      [32, 33, 34, 35, 36, 37, 38, 39, 40, 41, 42, 43, 44, 45, 46, 47]
  | 6 => scoreTile v4 v11 48 slices_S64x128_o48_0_S8x128 b q br kr
      (extractStridedSlice S8x64 ![0, 0] (offBlk v4 47 48 slices_S64x128_o47_0_S1x128 slices_S64x128_o48_0_S16x128 kk q b) slices_S16x64_o0_0_S8x64)
      [48, 49, 50, 51, 52, 53, 54, 55]
  | 7 => scoreTile v4 v11 56 slices_S64x128_o56_0_S8x128 b q br kr
      (extractStridedSlice S8x64 ![8, 0] (offBlk v4 47 48 slices_S64x128_o47_0_S1x128 slices_S64x128_o48_0_S16x128 kk q b) slices_S16x64_o8_0_S8x64)
      [48, 49, 50, 51, 52, 53, 54, 55, 56, 57, 58, 59, 60, 61, 62, 63]

abbrev rowIota : IVec S64x128 32 := iota .tc S64x128 32 [0] iota_S64x128_d0_w32
abbrev laneIota : IVec S64x64 32 := iota .tc S64x64 32 [1] iota_S64x64_d1_w32

/-- The chunk's tiles from the rows read: the keys' rows and the cumulated logarithms come back from where they were kept. -/
def chunkTile (v4 : IVec S64x128 32) (v11 : IVec S64x64 32) (lb : Vec F S1x128 .f32) (hq fr : Vec F S64x128 .f32) : Fin 8 → FVec F S8x64 .f32 :=
  tile v4 v11 (k0_pay8 (k0_pay1 lb) k0_pay3 fr) (k0_pay7 hq) (k0_pay6 (k0_pay1 lb) fr)
    (rowAt (k0_pay9 (k0_pay1 lb) k0_pay3 fr)) (rowAt (k0_pay10 (k0_pay6 (k0_pay1 lb) fr)))

/-- The chunk's output before the norm. -/
def chunkO (v4 : IVec S64x128 32) (v11 : IVec S64x64 32) (lb : Vec F S1x128 .f32) (hq fr v : Vec F S64x128 .f32) (s : Vec F S1x1x128x128 .f32) : FVec F S64x128 .f32 :=
  k0_pay160 (k0_pay7 hq) v (k0_pay8 (k0_pay1 lb) k0_pay3 fr)
    (chunkTile v4 v11 lb hq fr 0) (chunkTile v4 v11 lb hq fr 1) (chunkTile v4 v11 lb hq fr 2) (chunkTile v4 v11 lb hq fr 3)
    (chunkTile v4 v11 lb hq fr 4) (chunkTile v4 v11 lb hq fr 5) (chunkTile v4 v11 lb hq fr 6) (chunkTile v4 v11 lb hq fr 7) s

/-- The mean square of the chunk's output, with the small constant added. -/
def chunkMs (v4 : IVec S64x128 32) (v11 : IVec S64x64 32) (lb : Vec F S1x128 .f32) (hq fr v : Vec F S64x128 .f32) (s : Vec F S1x1x128x128 .f32) : FVec F S64x1 .f32 :=
  k0_pay162 (k0_pay7 hq) v (k0_pay8 (k0_pay1 lb) k0_pay3 fr)
    (chunkTile v4 v11 lb hq fr 0) (chunkTile v4 v11 lb hq fr 1) (chunkTile v4 v11 lb hq fr 2) (chunkTile v4 v11 lb hq fr 3)
    (chunkTile v4 v11 lb hq fr 4) (chunkTile v4 v11 lb hq fr 5) (chunkTile v4 v11 lb hq fr 6) (chunkTile v4 v11 lb hq fr 7) s

/-- The rows the chunk writes. -/
def chunkY (v4 : IVec S64x128 32) (v11 : IVec S64x64 32) (lb gon : Vec F S1x128 .f32) (hq fr v gate : Vec F S64x128 .f32) (s : Vec F S1x1x128x128 .f32) : FVec F S64x128 .f32 :=
  k0_pay163 (k0_pay2 gon) (chunkO v4 v11 lb hq fr v s) gate (chunkMs v4 v11 lb hq fr v s)

/-- The state the chunk leaves. -/
def chunkS (lb : Vec F S1x128 .f32) (fr v : Vec F S64x128 .f32) (s : Vec F S1x1x128x128 .f32) : FVec F S1x1x128x128 .f32 :=
  k0_pay161 k0_pay4 (k0_pay6 (k0_pay1 lb) fr) v (k0_pay8 (k0_pay1 lb) k0_pay3 fr) s

theorem off2_zero : (![0, 0] : Fin 2 → ℕ) = fun _ => 0 := by
  funext a; fin_cases a <;> rfl

theorem off4_zero : (![0, 0, 0, 0] : Fin 4 → ℕ) = fun _ => 0 := by
  funext a; fin_cases a <;> rfl

/-- A row loaded back from a buffer one store filled. -/
theorem readCov_whole_row (m : Memref sig .tc .vmem S64x128 .f32) (w : S64x128.Idx → Elt F .f32) (s : Fin 64) :
    m.view.readCov [⟨Rect.unit ![0, 0] S64x128.size inb_S64x128_S64x128_0_0, w⟩]
        (Rect.unit (s := S64x128) ![s.val, 0] S1x128.size (inbRow s)).toLoadRect
      = rowAt (F := F) w s := by
  unfold rowAt
  rw [View.readCov_eq_canon_ld _ _ _ fun y => ⟨_, List.mem_cons_self .., by
      rw [Rect.mem_set_unit]; intro a; have := (y a).isLt; rw [off2_zero]; simpa using this⟩,
    View.canon_unit_zero (S := S64x128) off2_zero]

set_option maxHeartbeats 4000000

section words

variable (arg2 arg3 arg4 arg5 : Memref sig .tc .vmem S2048x128 .f32) (arg9 : Memref sig .tc .vmem S1x1x128x128 .f32)
  (arg10 arg11 : Memref sig .tc .vmem S64x128 .f32)
  (v0 v2 : Vec F S1x128 .f32) (v4 : IVec S64x128 32) (v11 : IVec S64x64 32)
  (X2 : BufTy.Contents (Elt F) arg2.view.ty) (X3 : BufTy.Contents (Elt F) arg3.view.ty)
  (X4 : BufTy.Contents (Elt F) arg4.view.ty) (X5 : BufTy.Contents (Elt F) arg5.view.ty) (k : Fin k0_t1_loop.trips)
  (f9 : BufTy.Contents (Elt F) arg9.view.ty)

abbrev bRow (s : Fin 64) : FVec F S1x128 .f32 :=
  arg10.view.readCov (trip_k0_t1.sl.HW_arg10_1 arg3 v0 X3 k) (Rect.unit (s := S64x128) ![s.val, 0] S1x128.size (inbRow s)).toLoadRect
abbrev kRow (s : Fin 64) : FVec F S1x128 .f32 :=
  arg11.view.readCov (trip_k0_t1.sl.HW_arg11_1 arg3 v0 X3 k) (Rect.unit (s := S64x128) ![s.val, 0] S1x128.size (inbRow s)).toLoadRect

/-- The rows of the chunk in a staging buffer. -/
abbrev rowsOf (m : Memref sig .tc .vmem S2048x128 .f32) (X : BufTy.Contents (Elt F) m.view.ty) (k : Fin k0_t1_loop.trips) : Vec F S64x128 .f32 :=
  View.readAt (Elt F) m.view (Rect.unit (s := S2048x128) (k0_off1 k) S64x128.size (k0_off1_inb k)).toLoadRect X

theorem bRow_eq : bRow arg3 arg10 v0 X3 k = rowAt (k0_pay9 (k0_pay1 v0) k0_pay3 (rowsOf arg3 X3 k)) :=
  funext fun s => readCov_whole_row arg10 _ s

theorem kRow_eq : kRow arg3 arg11 v0 X3 k = rowAt (k0_pay10 (k0_pay6 (k0_pay1 v0) (rowsOf arg3 X3 k))) :=
  funext fun s => readCov_whole_row arg11 _ s

/-- The tiles over the rows as the body loads them. -/
abbrev wordTile : Fin 8 → FVec F S8x64 .f32 :=
  tile v4 v11 (k0_pay8 (k0_pay1 v0) k0_pay3 (rowsOf arg3 X3 k)) (k0_pay7 (rowsOf arg2 X2 k)) (k0_pay6 (k0_pay1 v0) (rowsOf arg3 X3 k))
    (bRow arg3 arg10 v0 X3 k) (kRow arg3 arg11 v0 X3 k)

theorem wordTile_eq : wordTile arg2 arg3 arg10 arg11 v0 v4 v11 X2 X3 k = chunkTile v4 v11 v0 (rowsOf arg2 X2 k) (rowsOf arg3 X3 k) := by
  unfold wordTile chunkTile
  rw [bRow_eq, kRow_eq]

theorem tile0_eq : trip_k0_t1.sl.r_22 arg2 arg3 arg10 arg11 v0 v4 v11 X2 X3 k = chunkTile v4 v11 v0 (rowsOf arg2 X2 k) (rowsOf arg3 X3 k) 0 :=
  (rfl : _ = wordTile arg2 arg3 arg10 arg11 v0 v4 v11 X2 X3 k 0).trans (congrFun (wordTile_eq arg2 arg3 arg10 arg11 v0 v4 v11 X2 X3 k) 0)

theorem tile1_eq : trip_k0_t1.sl.r_39 arg2 arg3 arg10 arg11 v0 v4 v11 X2 X3 k = chunkTile v4 v11 v0 (rowsOf arg2 X2 k) (rowsOf arg3 X3 k) 1 :=
  (rfl : _ = wordTile arg2 arg3 arg10 arg11 v0 v4 v11 X2 X3 k 1).trans (congrFun (wordTile_eq arg2 arg3 arg10 arg11 v0 v4 v11 X2 X3 k) 1)

theorem tile2_eq : trip_k0_t1.sl.r_49 arg2 arg3 arg10 arg11 v0 v4 v11 X2 X3 k = chunkTile v4 v11 v0 (rowsOf arg2 X2 k) (rowsOf arg3 X3 k) 2 :=
  (rfl : _ = wordTile arg2 arg3 arg10 arg11 v0 v4 v11 X2 X3 k 2).trans (congrFun (wordTile_eq arg2 arg3 arg10 arg11 v0 v4 v11 X2 X3 k) 2)

theorem tile3_eq : trip_k0_t1.sl.r_66 arg2 arg3 arg10 arg11 v0 v4 v11 X2 X3 k = chunkTile v4 v11 v0 (rowsOf arg2 X2 k) (rowsOf arg3 X3 k) 3 :=
  (rfl : _ = wordTile arg2 arg3 arg10 arg11 v0 v4 v11 X2 X3 k 3).trans (congrFun (wordTile_eq arg2 arg3 arg10 arg11 v0 v4 v11 X2 X3 k) 3)

theorem tile4_eq : trip_k0_t1.sl.r_79 arg2 arg3 arg10 arg11 v0 v4 v11 X2 X3 k = chunkTile v4 v11 v0 (rowsOf arg2 X2 k) (rowsOf arg3 X3 k) 4 :=
  (rfl : _ = wordTile arg2 arg3 arg10 arg11 v0 v4 v11 X2 X3 k 4).trans (congrFun (wordTile_eq arg2 arg3 arg10 arg11 v0 v4 v11 X2 X3 k) 4)

theorem tile5_eq : trip_k0_t1.sl.r_95 arg2 arg3 arg10 arg11 v0 v4 v11 X2 X3 k = chunkTile v4 v11 v0 (rowsOf arg2 X2 k) (rowsOf arg3 X3 k) 5 :=
  (rfl : _ = wordTile arg2 arg3 arg10 arg11 v0 v4 v11 X2 X3 k 5).trans (congrFun (wordTile_eq arg2 arg3 arg10 arg11 v0 v4 v11 X2 X3 k) 5)

theorem tile6_eq : trip_k0_t1.sl.r_106 arg2 arg3 arg10 arg11 v0 v4 v11 X2 X3 k = chunkTile v4 v11 v0 (rowsOf arg2 X2 k) (rowsOf arg3 X3 k) 6 :=
  (rfl : _ = wordTile arg2 arg3 arg10 arg11 v0 v4 v11 X2 X3 k 6).trans (congrFun (wordTile_eq arg2 arg3 arg10 arg11 v0 v4 v11 X2 X3 k) 6)

theorem tile7_eq : trip_k0_t1.sl.r_122 arg2 arg3 arg10 arg11 v0 v4 v11 X2 X3 k = chunkTile v4 v11 v0 (rowsOf arg2 X2 k) (rowsOf arg3 X3 k) 7 :=
  (rfl : _ = wordTile arg2 arg3 arg10 arg11 v0 v4 v11 X2 X3 k 7).trans (congrFun (wordTile_eq arg2 arg3 arg10 arg11 v0 v4 v11 X2 X3 k) 7)

/-- The rows the trip writes. -/
theorem rows_eq : trip_k0_t1.sl.r_126 arg2 arg3 arg4 arg5 arg9 arg10 arg11 v0 v2 v4 v11 X2 X3 X4 X5 k f9
    = chunkY v4 v11 v0 v2 (rowsOf arg2 X2 k) (rowsOf arg3 X3 k) (rowsOf arg4 X4 k) (rowsOf arg5 X5 k) (arg9.view.read (Elt F) f9) := by
  unfold trip_k0_t1.sl.r_126 trip_k0_t1.sl.r_123 trip_k0_t1.sl.r_125 chunkY chunkO chunkMs
  rw [tile0_eq, tile1_eq, tile2_eq, tile3_eq, tile4_eq, tile5_eq, tile6_eq, tile7_eq, View.readAt_eq_ld, View.ld_unit_zero (S := S1x1x128x128) off4_zero]
  rfl

/-- The state the trip leaves. -/
theorem state_eq : k0_pay161 k0_pay4 (trip_k0_t1.sl.r arg3 v0 X3 k) (trip_k0_t1.sl.r_2 arg4 X4 k) (trip_k0_t1.sl.r_3 arg3 v0 X3 k)
      (View.readAt (Elt F) arg9.view (Rect.unit (s := S1x1x128x128) ![0, 0, 0, 0] S1x1x128x128.size inb_S1x1x128x128_S1x1x128x128_0_0_0_0).toLoadRect f9)
    = chunkS v0 (rowsOf arg3 X3 k) (rowsOf arg4 X4 k) (arg9.view.read (Elt F) f9) := by
  rw [View.readAt_eq_ld, View.ld_unit_zero (S := S1x1x128x128) off4_zero]
  rfl

end words
end Cert.KernelIdeal.Gen
end
-- ==== Proof.Prompt.Loop.lean ====
module

public import proofs.«01_k».proof.Proof.Prompt.Body
public import Idealize.ShloMosaic.Lib.WritesUnit

@[expose] public section

set_option maxRecDepth 16384

noncomputable section

/-! What the loop over the chunks leaves: the rows of each chunk, and the state after the last. -/

namespace Cert.KernelIdeal.Gen

open Idealize.ShloMosaic Idealize.ShloMosaic.TcCoe Idealize.ShloMosaic.Tactic
open Idealize.SL Idealize.SL.RA Idealize.SL.BI
open Idealize.SL.Sem

variable {F : FTy → Type} [FloatOps F]

abbrev Chunks (F : FTy → Type) : Type := Fin k0_t1_loop.trips → Vec F S64x128 .f32

/-- The chunks of a block of rows. -/
abbrev chunksOf (x : Vec F S2048x128 .f32) : Chunks F := fun k =>
  View.ld (Val := Elt F) (e' := .f32) x (Rect.unit (s := S2048x128) (k0_off1 k) S64x128.size (k0_off1_inb k))

/-- The state before chunk `n`. -/
def stAt (lb : Vec F S1x128 .f32) (fr v : Chunks F) (s0 : Vec F S1x1x128x128 .f32) : ℕ → Vec F S1x1x128x128 .f32
  | 0 => s0
  | n + 1 => if h : n < k0_t1_loop.trips then chunkS lb (fr ⟨n, h⟩) (v ⟨n, h⟩) (stAt lb fr v s0 n) else stAt lb fr v s0 n

/-- The stores of the chunks before `n`, the last first. -/
def yPieces (v4 : IVec S64x128 32) (v11 : IVec S64x64 32) (lb gon : Vec F S1x128 .f32) (hq fr v gate : Chunks F)
    (s0 : Vec F S1x1x128x128 .f32) : ℕ → List (View.Piece (Elt F) S2048x128 .f32)
  | 0 => []
  | n + 1 => if h : n < k0_t1_loop.trips then
      ⟨Rect.unit (s := S2048x128) (k0_off1 ⟨n, h⟩) S64x128.size (k0_off1_inb ⟨n, h⟩),
        chunkY v4 v11 lb gon (hq ⟨n, h⟩) (fr ⟨n, h⟩) (v ⟨n, h⟩) (gate ⟨n, h⟩) (stAt lb fr v s0 n)⟩ :: yPieces v4 v11 lb gon hq fr v gate s0 n
      else yPieces v4 v11 lb gon hq fr v gate s0 n

theorem off1_eq : ∀ k : Fin k0_t1_loop.trips, k0_off1 k = ![64 * k.val, 0] := by decide +kernel

theorem trips_eq : k0_t1_loop.trips = 32 := by decide

theorem yPieces_cover (v4 : IVec S64x128 32) (v11 : IVec S64x64 32) (lb gon : Vec F S1x128 .f32) (hq fr v gate : Chunks F)
    (s0 : Vec F S1x1x128x128 .f32) (n : ℕ) (hn : n ≤ k0_t1_loop.trips) (y : S2048x128.Idx) (hy : (y (0 : Fin 2)).val < 64 * n) :
    ∃ p ∈ yPieces v4 v11 lb gon hq fr v gate s0 n, y ∈ p.1.set := by
  induction n with
  | zero => exact absurd hy (by omega)
  | succ n ih =>
    have h : n < k0_t1_loop.trips := hn
    simp only [yPieces, dif_pos h]
    by_cases hlt : (y (0 : Fin 2)).val < 64 * n
    · obtain ⟨p, hp, hm⟩ := ih (le_of_lt h) hlt
      exact ⟨p, List.mem_cons_of_mem _ hp, hm⟩
    · refine ⟨_, List.mem_cons_self, ?_⟩
      rw [Rect.mem_set_unit]
      intro a
      rw [off1_eq]
      have h1 : (y (1 : Fin 2)).val < 128 := (y (1 : Fin 2)).isLt
      fin_cases a
      · show 64 * n ≤ (y (0 : Fin 2)).val ∧ (y (0 : Fin 2)).val < 64 * n + 64
        omega
      · show 0 ≤ (y (1 : Fin 2)).val ∧ (y (1 : Fin 2)).val < 0 + 128
        omega

section runs
variable (𝒱 : Variants) (c : Dev nD) (bd : Option 𝒱.V) (i : grid0.Coords)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S2048x128 .f32) (harg8 : arg8.IsWhole) (arg9 : Memref sig .tc .vmem S1x1x128x128 .f32) (harg9 : arg9.IsWhole)
  (arg10 : Memref sig .tc .vmem S64x128 .f32) (harg10 : arg10.IsWhole) (arg11 : Memref sig .tc .vmem S64x128 .f32) (harg11 : arg11.IsWhole)
  (v0 v2 : Vec F S1x128 .f32) (v4 : IVec S64x128 32) (v11 : IVec S64x64 32)
  (X2 : BufTy.Contents (Elt F) arg2.view.ty) (X3 : BufTy.Contents (Elt F) arg3.view.ty)
  (X4 : BufTy.Contents (Elt F) arg4.view.ty) (X5 : BufTy.Contents (Elt F) arg5.view.ty)

abbrev tripAt (k : Fin k0_t1_loop.trips) := trip_k0_t1 (F := F) 𝒱 c bd i arg2 harg2 arg3 harg3 arg4 harg4 arg5 harg5 arg6 harg6 arg7 harg7
  arg8 harg8 arg9 harg9 arg10 harg10 arg11 harg11 v0 v2 v4 v11 X2 X3 X4 X5 k

theorem trip_rows (k : Fin k0_t1_loop.trips) (f8 : BufTy.Contents (Elt F) arg8.view.ty) (f9 : BufTy.Contents (Elt F) arg9.view.ty)
    (f10 : BufTy.Contents (Elt F) arg10.view.ty) (f11 : BufTy.Contents (Elt F) arg11.view.ty) :
    (tripAt 𝒱 c bd i arg2 harg2 arg3 harg3 arg4 harg4 arg5 harg5 arg6 harg6 arg7 harg7 arg8 harg8 arg9 harg9 arg10 harg10 arg11 harg11
        v0 v2 v4 v11 X2 X3 X4 X5 k).1 f8 f9 f10 f11
      = [⟨Rect.unit (s := S2048x128) (k0_off1 k) S64x128.size (k0_off1_inb k),
          chunkY v4 v11 v0 v2 (rowsOf arg2 X2 k) (rowsOf arg3 X3 k) (rowsOf arg4 X4 k) (rowsOf arg5 X5 k) (arg9.view.read (Elt F) f9)⟩] := by
  unfold tripAt trip_k0_t1; dsimp only
  exact congrArg (fun w => [(⟨Rect.unit (s := S2048x128) (k0_off1 k) S64x128.size (k0_off1_inb k), w⟩ : View.Piece (Elt F) S2048x128 .f32)])
    (rows_eq ..)

theorem trip_state (k : Fin k0_t1_loop.trips) (f8 : BufTy.Contents (Elt F) arg8.view.ty) (f9 : BufTy.Contents (Elt F) arg9.view.ty)
    (f10 : BufTy.Contents (Elt F) arg10.view.ty) (f11 : BufTy.Contents (Elt F) arg11.view.ty) :
    (tripAt 𝒱 c bd i arg2 harg2 arg3 harg3 arg4 harg4 arg5 harg5 arg6 harg6 arg7 harg7 arg8 harg8 arg9 harg9 arg10 harg10 arg11 harg11
        v0 v2 v4 v11 X2 X3 X4 X5 k).2.1 f8 f9 f10 f11
      = [⟨Rect.unit (s := S1x1x128x128) ![0, 0, 0, 0] S1x1x128x128.size inb_S1x1x128x128_S1x1x128x128_0_0_0_0,
          chunkS v0 (rowsOf arg3 X3 k) (rowsOf arg4 X4 k) (arg9.view.read (Elt F) f9)⟩] := by
  unfold tripAt trip_k0_t1; dsimp only
  exact congrArg (fun w => [(⟨Rect.unit (s := S1x1x128x128) ![0, 0, 0, 0] S1x1x128x128.size inb_S1x1x128x128_S1x1x128x128_0_0_0_0, w⟩ :
    View.Piece (Elt F) S1x1x128x128 .f32)]) (state_eq ..)

/-- The trips before `n` have stored the rows of their chunks, and the state buffer reads the state before chunk `n`. -/
theorem pb_eq (G8 : BufTy.Contents (Elt F) arg8.view.ty) (G9 : BufTy.Contents (Elt F) arg9.view.ty)
    (G10 : BufTy.Contents (Elt F) arg10.view.ty) (G11 : BufTy.Contents (Elt F) arg11.view.ty) (n : ℕ) (hn : n ≤ k0_t1_loop.trips) :
    (pb_k0_t1 (F := F) 𝒱 c bd i arg2 harg2 arg3 harg3 arg4 harg4 arg5 harg5 arg6 harg6 arg7 harg7 arg8 harg8 arg9 harg9 arg10 harg10
        arg11 harg11 v0 v2 v4 v11 X2 X3 X4 X5 G8 G9 G10 G11 n).1
      = yPieces v4 v11 v0 v2 (rowsOf arg2 X2) (rowsOf arg3 X3) (rowsOf arg4 X4) (rowsOf arg5 X5) (arg9.view.read (Elt F) G9) n
    ∧ arg9.view.read (Elt F) (arg9.view.writes (Elt F) G9
        (pb_k0_t1 (F := F) 𝒱 c bd i arg2 harg2 arg3 harg3 arg4 harg4 arg5 harg5 arg6 harg6 arg7 harg7 arg8 harg8 arg9 harg9 arg10 harg10
          arg11 harg11 v0 v2 v4 v11 X2 X3 X4 X5 G8 G9 G10 G11 n).2.1)
      = stAt v0 (rowsOf arg3 X3) (rowsOf arg4 X4) (arg9.view.read (Elt F) G9) n := by
  induction n with
  | zero => exact ⟨rfl, rfl⟩
  | succ n ih =>
    have h : n < k0_t1_loop.trips := hn
    obtain ⟨ih1, ih2⟩ := ih (le_of_lt h)
    have e := pb_k0_t1_succ (F := F) 𝒱 c bd i arg2 harg2 arg3 harg3 arg4 harg4 arg5 harg5 arg6 harg6 arg7 harg7 arg8 harg8 arg9 harg9 arg10 harg10
      arg11 harg11 v0 v2 v4 v11 X2 X3 X4 X5 G8 G9 G10 G11 ⟨n, h⟩
    rw [e]
    constructor
    · refine (congrArg₂ (· ++ ·) (trip_rows ..) ih1).trans ?_
      rw [ih2]
      simp only [yPieces, dif_pos h]
      rfl
    · refine (congrArg (fun L => arg9.view.read (Elt F) (arg9.view.writes (Elt F) G9 (L ++ _))) (trip_state ..)).trans ?_
      refine (View.read_writes_full (Val := Elt F) arg9.view G9 inb_S1x1x128x128_S1x1x128x128_0_0_0_0 _ _).trans ?_
      rw [ih2]
      simp only [stAt, dif_pos h]

end runs

end Cert.KernelIdeal.Gen
end
-- ==== Proof.Prompt.Frame.lean ====
module

public import proofs.«01_k».proof.Proof.Prompt.Loop
public import proofs.«01_k».proof.Proof.Gen.KernelIdeal.Frame
public import proofs.«01_k».proof.Proof.Gen.KernelIdeal.Points
public import proofs.«01_k».proof.Proof.Gen.KernelIdeal.Skeleton
public import Idealize.ShloMosaic.Lib.Pipeline.FrameBody
public import Idealize.ShloMosaic.Lib.Claim
public import Idealize.ShloMosaic.Lib.Tactic

@[expose] public section

set_option maxRecDepth 16384

noncomputable section

/-! The launch of the chunked recurrence: what each point leaves in its two outputs, and the run of the whole program. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of a point's rows. -/
abbrev ptPieces (x0 x1 x2 x3 : Vec F S2048x128 .f32) (x4 x5 : Vec F S1x128 .f32) : ℕ → List (View.Piece (Elt F) S2048x128 .f32) :=
  yPieces (iota .tc S64x128 32 [0] iota_S64x128_d0_w32) (iota .tc S64x64 32 [1] iota_S64x64_d1_w32) x4 x5
    (chunksOf x0) (chunksOf x1) (chunksOf x2) (chunksOf x3) k0_pay5

/-- What a point leaves in its rows. -/
def ptRows (x0 x1 x2 x3 : Vec F S2048x128 .f32) (x4 x5 : Vec F S1x128 .f32) : Vec F S2048x128 .f32 :=
  View.canon (ptPieces x0 x1 x2 x3 x4 x5 k0_t1_loop.trips)

/-- What a point leaves in its state. -/
def ptState (x1 x2 : Vec F S2048x128 .f32) (x4 : Vec F S1x128 .f32) : Vec F S1x1x128x128 .f32 :=
  stAt x4 (chunksOf x1) (chunksOf x2) k0_pay5 k0_t1_loop.trips

theorem rowsOf_unread (a : Memref sig .tc .vmem S2048x128 .f32) (ha : a.IsWhole) (x : Vec F S2048x128 .f32) :
    rowsOf a (ha.unread x) = chunksOf x := by
  funext k
  unfold rowsOf
  rw [View.readAt_eq_ld, ha.read_unread]

theorem load_row (a : Memref sig .tc .vmem S1x128 .f32) (ha : a.IsWhole) (x : Vec F S1x128 .f32) :
    View.readAt (Elt F) a.view (Rect.unit (s := S1x128) ![0, 0] S1x128.size inb_S1x128_S1x128_0_0).toLoadRect (ha.unread x) = x := by
  rw [View.readAt_eq_ld, View.ld_unit_zero (S := S1x128) off2_zero, ha.read_unread]

set_option maxHeartbeats 1000000 in
/-- The body run, from whole staging memrefs. -/
theorem body_run (c : Dev nD) (i : grid0.Coords)
    (arg2 : Memref sig .tc .vmem S2048x128 .f32) (harg2 : arg2.IsWhole) (arg3 : Memref sig .tc .vmem S2048x128 .f32) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S2048x128 .f32) (harg8 : arg8.IsWhole) (arg9 : Memref sig .tc .vmem S1x1x128x128 .f32) (harg9 : arg9.IsWhole)
    (arg10 : Memref sig .tc .vmem S64x128 .f32) (harg10 : arg10.IsWhole) (arg11 : Memref sig .tc .vmem S64x128 .f32) (harg11 : arg11.IsWhole)
    (x0 x1 x2 x3 : Vec F S2048x128 .f32) (x4 x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (ptRows x0 x1 x2 x3 x4 x5) ∗ owns (c : Thread nD τ) arg9 fullShare (ptState x1 x2 x4)
            ∗ (∃ d, owns (c : Thread nD τ) arg10 fullShare d) ∗ (∃ d, owns (c : Thread nD τ) arg11 fullShare d)) -∗ K ⟨⟩))
      ⊢ wp frame (wpE (defs₀ (F := F)) Variants.none c none) E (cc0_hgrn_prompt i arg2 harg2 arg3 harg3 arg4 harg4 arg5 harg5 arg6 harg6
          arg7 harg7 arg8 harg8 arg9 harg9 arg10 harg10 arg11 harg11) K := by
  simp only [cc0_hgrn_prompt_eq_skeleton]; unfold cc0_hgrn_prompt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (congrArg (fun L => arg8.view.read (Elt F) (arg8.view.writes (Elt F) _ L)) (pb_eq (hn := le_refl _) ..).1).trans ?_
    rw [load_row, load_row, rowsOf_unread, rowsOf_unread, rowsOf_unread, rowsOf_unread]
    refine (congrArg (fun s => arg8.view.read (Elt F) (arg8.view.writes (Elt F) _ (yPieces _ _ x4 x5 (chunksOf x0) (chunksOf x1) (chunksOf x2)
      (chunksOf x3) s _))) (View.read_writes_full (Val := Elt F) arg9.view arg9.view.junk inb_S1x1x128x128_S1x1x128x128_0_0_0_0 k0_pay5 [])).trans ?_
    exact View.read_writes_eq_canon _ _ _ fun y => yPieces_cover _ _ _ _ _ _ _ _ _ _ (le_refl _) y (y (0 : Fin 2)).isLt
  isplitl [H7]
  · iexists _; isplitr
    swap; · iexact H7
    ipureintro
    rw [View.writes_append]
    refine (pb_eq (F := F) (hn := le_refl _) ..).2.trans ?_
    rw [load_row, rowsOf_unread, rowsOf_unread]
    exact congrArg (fun s => stAt x4 (chunksOf x1) (chunksOf x2) s _)
      (View.read_writes_full (Val := Elt F) arg9.view arg9.view.junk inb_S1x1x128x128_S1x1x128x128_0_0_0_0 k0_pay5 [])
  isplitl [H8]
  · iexists _; iexists _; isplitr
    swap; · iexact H8
    ipureintro; rfl
  · iexists _; iexists _; isplitr
    swap; · iexact H9
    ipureintro; rfl

/-! ## The pipeline's proof data -/

/-- The arrays as the region finds them; each input's buffer at its block, the two outputs at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ptRows (iblk m c 0 t) (iblk m c 1 t) (iblk m c 2 t) (iblk m c 3 t) (iblk m c 4 t) (iblk m c 5 t)
    | ⟨7, _⟩ => ptState (iblk m c 1 t) (iblk m c 2 t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = ptRows (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = ptState (iblk m c 1 t) (iblk m c 2 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The invariant, the two scratch buffers owned at some contents. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ (∃ r, prngReg c r)) := by
  unfold Pipeline.ΦA; rw [scopedRest0_eq]; simp only [owns_whole]; try rfl

abbrev pre0 (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

abbrev post0 (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 800000 in
theorem body_point (c : Dev nD) (t : Fin cfg0.N) :
    pre0 m c t ⊢ wp frame (wpE (defs₀ (F := F)) Variants.none c none) Set.univ (bodyAt0 t) (fun _ => post0 m c t) := by
  unfold pre0 post0 bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, inv_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _
    (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_point m c t) rfl .rfl fun _ => .rfl

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.KernelIdeal.Gen
end
-- ==== Proof.Prompt.Model.lean ====
/-
  The gated linear recurrence by chunks of 64 rows, as plain sums: what both programs compute for one head of one sequence.
-/
module

public import Idealize.ShloMosaic.Lib.Pipeline.ValueKit

@[expose] public section

noncomputable section

namespace Cert.Prompt

open Idealize.ShloMosaic

/-- Rows of a chunk. -/
abbrev Rows : Type := Fin 64 → Fin 128 → EReal
/-- A head's state. -/
abbrev Mat : Type := Fin 128 → Fin 128 → EReal

def silu (v : EReal) : EReal := v * Ideal.logistic v

/-- The logarithms summed up to and including a row. -/
def cum (G : Rows) (i : Fin 64) (k : Fin 128) : EReal := ∑ l : Fin 64, if l ≤ i then G l k else 0

/-- The weight of row `l` for row `i`, nothing for a later row. -/
def score (Q K G : Rows) (i l : Fin 64) : EReal :=
  ∑ k : Fin 128, Q i k * K l k * Ideal.exp (if l ≤ i then cum G i k - cum G l k else ⊥)

/-- A row's output before the norm: the chunk's own rows, then the state before the chunk. -/
def outO (Q K V G : Rows) (S : Mat) (i : Fin 64) (v : Fin 128) : EReal :=
  (∑ l : Fin 64, score Q K G i l * V l v) + ∑ k : Fin 128, Q i k * Ideal.exp (cum G i k) * S k v

/-- The state after a chunk. -/
def nextS (K V G : Rows) (S : Mat) (k v : Fin 128) : EReal :=
  Ideal.exp (cum G 63 k) * S k v + ∑ s : Fin 64, K s k * Ideal.exp (cum G 63 k - cum G s k) * V s v

/-- The state before chunk `n`. -/
def state (K V G : ℕ → Rows) : ℕ → Mat
  | 0 => fun _ _ => 0
  | n + 1 => nextS (K n) (V n) (G n) (state K V G n)

/-- A row normalised, scaled and gated. -/
def normed (o gon gate : Fin 128 → EReal) (v : Fin 128) : EReal :=
  o v * Ideal.rsqrt (Ideal.div (∑ u : Fin 128, o u * o u) (Ideal.ofBits FTy.f32 1124073472#32) + Ideal.ofBits FTy.f32 897988541#32)
    * gon v * silu (gate v)

/-- The row of `z` of row `i` of chunk `n` of sequence `b`. -/
def rowIx (b : Fin 8) (n : ℕ) (i : Fin 64) : Fin 16384 := ⟨(b.val * 2048 + (n * 64 + i.val)) % 16384, Nat.mod_lt _ (by decide)⟩
/-- The lane of `z` of lane `k` of head `h` of the branch whose lanes start at `o`. -/
def laneIx (o : ℕ) (h : Fin 4) (k : Fin 128) : Fin 9216 := ⟨(o + (h.val * 128 + k.val)) % 9216, Nat.mod_lt _ (by decide)⟩
/-- The same of a vector over the heads. -/
def headIx (h : Fin 4) (k : Fin 128) : Fin 512 := ⟨h.val * 128 + k.val, by have := h.isLt; have := k.isLt; omega⟩

theorem rowIx_val (b : Fin 8) (n : ℕ) (hn : n < 32) (i : Fin 64) : (rowIx b n i).val = b.val * 2048 + (n * 64 + i.val) :=
  Nat.mod_eq_of_lt (by have := b.isLt; have := i.isLt; omega)
theorem laneIx_val (o : ℕ) (ho : o ≤ 8704) (h : Fin 4) (k : Fin 128) : (laneIx o h k).val = o + (h.val * 128 + k.val) :=
  Nat.mod_eq_of_lt (by have := h.isLt; have := k.isLt; omega)

section chunks

variable (z : Fin 16384 → Fin 9216 → EReal) (lb gon : Fin 512 → EReal) (b : Fin 8) (h : Fin 4) (n : ℕ)

def qRows : Rows := fun i k => silu (z (rowIx b n i) (laneIx 3072 h k))
def kRows : Rows := fun i k => (1 - lb (headIx h k)) * Ideal.logistic (-z (rowIx b n i) (laneIx 3584 h k))
def vRows : Rows := fun i k => z (rowIx b n i) (laneIx 4096 h k)
def gRows : Rows := fun i k => Ideal.log (lb (headIx h k) + (1 - lb (headIx h k)) * Ideal.logistic (z (rowIx b n i) (laneIx 3584 h k)))
def stateOf : Mat := state (kRows z lb b h) (vRows z b h) (gRows z lb b h) n
def oRows (i : Fin 64) : Fin 128 → EReal :=
  outO (qRows z b h n) (kRows z lb b h n) (vRows z b h n) (gRows z lb b h n) (stateOf z lb b h n) i
def yRows (i : Fin 64) : Fin 128 → EReal :=
  normed (oRows z lb b h n i) (fun k => gon (headIx h k)) (fun k => z (rowIx b n i) (laneIx 4608 h k))

end chunks

end Cert.Prompt
-- ==== Proof.Prompt.Chunk.lean ====
/-
  What one chunk's code computes over the extended reals, where the gates are real: the scores, the output and the state as plain sums.
-/
module

public import proofs.«01_k».proof.Proof.Prompt.Body
public import proofs.«01_k».proof.Proof.Prompt.Model

@[expose] public section

set_option maxRecDepth 16384

noncomputable section

namespace Cert.KernelIdeal.Gen

open Idealize.ShloMosaic Idealize.ShloMosaic.TcCoe Idealize.ShloMosaic.Tactic
open Idealize.SL.Sem Cert.Prompt

/-! Comparisons of words. -/

theorem sel_slt (hi : ℕ) (hh : hi = 16 ∨ hi = 32 ∨ hi = 48) (l : Fin 64) (x y : EReal) :
    Scalar.select (IntOp.cmpi CmpIPredicate.slt (BitVec.ofNat 32 l.val) (BitVec.ofNat 32 hi)) x y = if l.val < hi then x else y := by
  have e : IntOp.cmpi CmpIPredicate.slt (BitVec.ofNat 32 l.val) (BitVec.ofNat 32 hi) = if l.val < hi then 1#1 else 0#1 := by
    rcases hh with rfl | rfl | rfl <;> (revert l; decide +kernel)
  rw [e]
  split <;> rfl

theorem sel_eq (k s : Fin 64) (x y : EReal) :
    Scalar.select (IntOp.cmpi CmpIPredicate.eq (BitVec.ofNat 32 k.val) (BitVec.ofNat 32 s.val)) x y = if k = s then x else y := by
  have e : IntOp.cmpi CmpIPredicate.eq (BitVec.ofNat 32 k.val) (BitVec.ofNat 32 s.val) = if k = s then 1#1 else 0#1 := by
    revert k s; decide +kernel
  rw [e]
  split <;> rfl

theorem sel_sge (j : Fin 8) (r : Fin 8) (s : Fin 64) (x y : EReal) :
    Scalar.select (IntOp.cmpi CmpIPredicate.sge (IntOp.addi (BitVec.ofNat 32 r.val) (BitVec.ofNat 32 (8 * j.val))) (BitVec.ofNat 32 s.val)) x y
      = if s.val ≤ 8 * j.val + r.val then x else y := by
  have e : IntOp.cmpi CmpIPredicate.sge (IntOp.addi (BitVec.ofNat 32 r.val) (BitVec.ofNat 32 (8 * j.val))) (BitVec.ofNat 32 s.val)
      = if s.val ≤ 8 * j.val + r.val then 1#1 else 0#1 := by
    revert j r s; decide +kernel
  rw [e]
  split <;> rfl

theorem weight (i l : Fin 64) : (FloatOps.sitofp (F := Ideal) FTy.f32 (BitVec.setWidth 32 (IntOp.cmpi CmpIPredicate.sge (BitVec.ofNat 32 i.val) (BitVec.ofNat 32 l.val))) : EReal)
    = if l ≤ i then 1 else 0 := by
  have e : (BitVec.setWidth 32 (IntOp.cmpi CmpIPredicate.sge (BitVec.ofNat 32 i.val) (BitVec.ofNat 32 l.val))).toInt = if l ≤ i then 1 else 0 := by
    revert i l; decide +kernel
  refine (Ideal.scalar_sitofp_def (φ := FTy.f32) _).trans ?_
  rw [e]
  split <;> simp

theorem negInf : Ideal.ofBits FTy.f32 4286578688#32 = (⊥ : EReal) := by simp [Ideal.ofBits, Ideal.ieee]

/-! The rows the gates make. -/

def gK (lb : Vec Ideal S1x128 .f32) (fr : Vec Ideal S64x128 .f32) : Rows :=
  fun i k => Ideal.log (lb (ix2 0 k) + (1 - lb (ix2 0 k)) * Ideal.logistic (fr (ix2 i k)))
def kK (lb : Vec Ideal S1x128 .f32) (fr : Vec Ideal S64x128 .f32) : Rows :=
  fun i k => (1 - lb (ix2 0 k)) * Ideal.logistic (-fr (ix2 i k))
def qK (hq : Vec Ideal S64x128 .f32) : Rows := fun i k => silu (hq (ix2 i k))
abbrev vK (v : Vec Ideal S64x128 .f32) : Rows := fun i k => v (ix2 i k)
abbrev sK (s : Vec Ideal S1x1x128x128 .f32) : Mat := fun k v => s (ix4 0 0 k v)

theorem sub_self_real {x : EReal} (h : ∃ r : ℝ, x = r) : x - x = 0 := by
  obtain ⟨r, rfl⟩ := h
  rw [← EReal.coe_sub, sub_self]; rfl

theorem pay8_eq (lb : Vec Ideal S1x128 .f32) (fr : Vec Ideal S64x128 .f32) (hG : ∀ i k, ∃ r : ℝ, gK lb fr i k = r) (i : Fin 64) (k : Fin 128) :
    (k0_pay8 (k0_pay1 lb) k0_pay3 fr : FVec Ideal S64x128 .f32) (ix2 i k) = cum (gK lb fr) i k := by
  have hs : ∀ x : Fin 64, Ideal.log (lb (ix2 0 k) + (1 - lb (ix2 0 k)) * Ideal.logistic (fr (ix2 x k))) - Ideal.log (lb (ix2 0 k) + (1 - lb (ix2 0 k)) * Ideal.logistic (fr (ix2 x k))) = 0 :=
    fun x => sub_self_real (hG x k)
  pointwise [k0_pay8, k0_pay1, k0_pay3]
  simp only [weight, hs, sub_zero, mul_zero, Finset.sum_const_zero, add_zero]
  unfold cum gK
  refine Finset.sum_congr (M := EReal) rfl fun l _ => ?_
  split
  · rw [one_mul]
  · rw [zero_mul]

theorem pay6_eq (lb : Vec Ideal S1x128 .f32) (fr : Vec Ideal S64x128 .f32) (i : Fin 64) (k : Fin 128) :
    (k0_pay6 (k0_pay1 lb) fr : FVec Ideal S64x128 .f32) (ix2 i k) = kK lb fr i k := by
  unfold k0_pay6 k0_pay1
  pointwise []
  simp only [kK, zero_sub]

theorem pay7_eq (hq : Vec Ideal S64x128 .f32) (i : Fin 64) (k : Fin 128) :
    (k0_pay7 hq : FVec Ideal S64x128 .f32) (ix2 i k) = qK hq i k := by
  unfold k0_pay7
  pointwise []
  rfl

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem cum_real (g : Fin 64 → Fin 128 → ℝ) (i : Fin 64) (k : Fin 128) :
    cum (fun l k => (g l k : EReal)) i k = ((∑ l : Fin 64, if l ≤ i then g l k else 0 : ℝ) : EReal) := by
  unfold cum
  rw [coe_sum]
  refine Finset.sum_congr (M := EReal) rfl fun l _ => ?_
  split <;> rfl

/-! The score tiles. -/

section tiles

variable (q kk b : FVec Ideal S64x128 .f32)

/-- The score of key `l` for row `i`. -/
def sc (i l : Fin 64) : EReal :=
  ∑ k : Fin 128, q (ix2 i k) * kk (ix2 l k) * Ideal.exp (if l ≤ i then b (ix2 i k) - b (ix2 l k) else ⊥)

theorem sc_later (i l : Fin 64) (h : ¬ l ≤ i) : sc q kk b i l = 0 := by
  unfold sc
  simp only [if_neg h, Ideal.exp_bot, mul_zero, Finset.sum_const_zero]

theorem offBlk_eq (lo hi : ℕ) (h1 : S64x128.Slices ![lo, 0] S1x128) (h2 : S64x128.Slices ![hi, 0] S16x128)
    (hh : hi = 16 ∨ hi = 32 ∨ hi = 48) (hl : lo + 1 = hi)
    (qr kr br : Fin 64 → Fin 128 → ℝ) (hq : ∀ i k, q (ix2 i k) = qr i k) (hk : ∀ i k, kk (ix2 i k) = kr i k) (hb : ∀ i k, b (ix2 i k) = br i k)
    (i : Fin 16) (l : Fin 64) :
    offBlk rowIota lo hi h1 h2 kk q b (ix2 i l) = if l.val < hi then sc q kk b ⟨hi + i.val, by have := i.isLt; omega⟩ l else 0 := by
  unfold offBlk
  have e : ∀ x y : EReal, Scalar.select (IntOp.cmpi CmpIPredicate.slt (BitVec.ofNat 32 l.val) (BitVec.ofNat 32 hi)) x y = if l.val < hi then x else y := sel_slt hi hh l
  pointwise []
  simp only [e, negInf, hq, hk, hb, ← EReal.coe_sub, Ideal.exp_coe, ← EReal.coe_mul]
  by_cases hlt : l.val < hi
  · have hle : l ≤ (⟨hi + i.val, by have := i.isLt; omega⟩ : Fin 64) := by show l.val ≤ hi + i.val; omega
    simp only [if_pos hlt, Ideal.exp_coe, ← EReal.coe_mul, ← EReal.coe_sub, sub_self, EReal.coe_zero, mul_zero, zero_mul, Finset.sum_const_zero, add_zero]
    unfold sc
    simp only [if_pos hle, hq, hk, hb, Ideal.exp_coe, ← EReal.coe_mul, ← EReal.coe_sub]
    refine Finset.sum_congr (M := EReal) rfl fun x _ => congrArg Real.toEReal ?_
    rw [show br ⟨hi + i.val, by have := i.isLt; omega⟩ x - br l x = (br ⟨hi + i.val, by have := i.isLt; omega⟩ x - br ⟨lo, by omega⟩ x) + (br ⟨lo, by omega⟩ x - br l x) from by ring, Real.exp_add]
    ring
  · simp only [if_neg hlt, Ideal.exp_bot, mul_zero, zero_mul, sub_zero, Finset.sum_const_zero, add_zero]

theorem col_eq (j : Fin 8) (h : S64x128.Slices ![8 * j.val, 0] S8x128) (s : Fin 64) (r : Fin 8) :
    keyCol (extractStridedSlice S8x128 ![8 * j.val, 0] q h)
      (if s.val < 8 * j.val then subf (extractStridedSlice S8x128 ![8 * j.val, 0] b h) (broadcastTo S8x128 (rowAt (F := Ideal) b s) broadcasts_S1x128_S8x128)
        else maskDiff rowIota (BitVec.ofNat 32 (8 * j.val)) (BitVec.ofNat 32 s.val) (subf (extractStridedSlice S8x128 ![8 * j.val, 0] b h) (broadcastTo S8x128 (rowAt (F := Ideal) b s) broadcasts_S1x128_S8x128)))
      (rowAt (F := Ideal) kk s) (ix2 r 0) = sc q kk b ⟨8 * j.val + r.val, by have := r.isLt; have := j.isLt; omega⟩ s := by
  have hrow : ∀ (x : FVec Ideal S64x128 .f32) (k : Fin 128), (rowAt (F := Ideal) x s : FVec Ideal S1x128 .f32) (ix2 0 k) = x (ix2 s k) := fun x k => by
    unfold rowAt
    pointwise []
  have hbs := hrow b
  have hks := hrow kk
  generalize rowAt (F := Ideal) b s = bs at *
  generalize rowAt (F := Ideal) kk s = ks at *
  unfold keyCol sc
  by_cases hs : s.val < 8 * j.val
  · rw [if_pos hs]
    pointwise []
    refine Finset.sum_congr (M := EReal) rfl fun x _ => ?_
    rw [hbs, hks, if_pos (by show s.val ≤ 8 * j.val + r.val; omega), mul_right_comm]
  · rw [if_neg hs]
    unfold maskDiff
    pointwise []
    refine Finset.sum_congr (M := EReal) rfl fun x _ => ?_
    rw [sel_sge, hbs, hks, negInf, mul_right_comm]
    rfl

theorem tileOf_eq (r0 : ℕ) (bt qt : FVec Ideal S8x128 .f32) (br kr : Fin 64 → FVec Ideal S1x128 .f32) (col : Fin 8 → Fin 64 → EReal)
    (hcol : ∀ r s, keyCol qt (if s.val < r0 then subf bt (broadcastTo S8x128 (br s) broadcasts_S1x128_S8x128)
      else maskDiff rowIota (BitVec.ofNat 32 r0) (BitVec.ofNat 32 s.val) (subf bt (broadcastTo S8x128 (br s) broadcasts_S1x128_S8x128))) (kr s) (ix2 r 0) = col r s)
    (L : List (Fin 64)) (base : FVec Ideal S8x64 .f32) (r : Fin 8) (l : Fin 64) :
    tileOf rowIota laneIota r0 bt qt br kr base L (ix2 r l) = if l ∈ L then col r l else base (ix2 r l) := by
  unfold tileOf
  induction L generalizing base with
  | nil => simp
  | cons s L ih =>
    rw [List.foldl_cons, ih]
    by_cases hm : l ∈ L
    · rw [if_pos hm, if_pos (List.mem_cons_of_mem _ hm)]
    · rw [if_neg hm]
      have hc := hcol r s
      generalize keyCol (F := Ideal) _ _ _ = cc at *
      unfold putCol
      pointwise []
      rw [sel_eq]
      by_cases hs : l = s
      · subst hs
        rw [if_pos rfl, if_pos List.mem_cons_self, hc]
      · rw [if_neg hs, if_neg (by simp [hs, hm])]

theorem scoreTile_eq (j : Fin 8) (h : S64x128.Slices ![8 * j.val, 0] S8x128) (base : FVec Ideal S8x64 .f32) (L : List (Fin 64)) (r : Fin 8) (l : Fin 64)
    (hbase : l ∉ L → base (ix2 r l) = sc q kk b ⟨8 * j.val + r.val, by have := r.isLt; have := j.isLt; omega⟩ l) :
    scoreTile rowIota laneIota (8 * j.val) h b q (rowAt (F := Ideal) b) (rowAt (F := Ideal) kk) base L (ix2 r l) = sc q kk b ⟨8 * j.val + r.val, by have := r.isLt; have := j.isLt; omega⟩ l := by
  unfold scoreTile
  rw [tileOf_eq (8 * j.val) _ _ (rowAt (F := Ideal) b) (rowAt (F := Ideal) kk) (fun r s => sc q kk b ⟨8 * j.val + r.val, by have := r.isLt; have := j.isLt; omega⟩ s)
    (fun r s => col_eq q kk b j h s r)]
  by_cases hm : l ∈ L
  · rw [if_pos hm]
  · rw [if_neg hm, hbase hm]

section real
variable (qr kr br : Fin 64 → Fin 128 → ℝ) (hq : ∀ i k, q (ix2 i k) = qr i k) (hk : ∀ i k, kk (ix2 i k) = kr i k) (hb : ∀ i k, b (ix2 i k) = br i k)
include hq hk hb

theorem base_eq (lo hi off : ℕ) (h1 : S64x128.Slices ![lo, 0] S1x128) (h2 : S64x128.Slices ![hi, 0] S16x128) (h3 : S16x64.Slices ![off, 0] S8x64)
    (hh : hi = 16 ∨ hi = 32 ∨ hi = 48) (hl : lo + 1 = hi) (j : Fin 8) (hj : 8 * j.val = hi + off) (r : Fin 8) (l : Fin 64)
    (hm : l.val < hi ∨ 8 * j.val + 7 < l.val) :
    (extractStridedSlice S8x64 ![off, 0] (offBlk rowIota lo hi h1 h2 kk q b) h3 : FVec Ideal S8x64 .f32) (ix2 r l)
      = sc q kk b ⟨8 * j.val + r.val, by have := r.isLt; have := j.isLt; omega⟩ l := by
  have hr := r.isLt
  have hof : off + 8 ≤ 16 := h3.2 0
  have e := offBlk_eq q kk b lo hi h1 h2 hh hl qr kr br hq hk hb ⟨off + r.val, by omega⟩ l
  generalize offBlk rowIota lo hi h1 h2 kk q b = o at *
  refine Eq.trans ?_ (e.trans ?_)
  · pointwise []
  · by_cases hlt : l.val < hi
    · rw [if_pos hlt]
      congr 1
      exact Fin.ext (by show hi + (off + r.val) = 8 * j.val + r.val; omega)
    · rw [if_neg hlt, sc_later]
      show ¬ l.val ≤ 8 * j.val + r.val
      omega

theorem tile_eq (j : Fin 8) (r : Fin 8) (l : Fin 64) :
    tile rowIota laneIota b q kk (rowAt (F := Ideal) b) (rowAt (F := Ideal) kk) j (ix2 r l) = sc q kk b ⟨8 * j.val + r.val, by have := r.isLt; have := j.isLt; omega⟩ l := by
  have hr := r.isLt
  have hz : (k0_pay23 : FVec Ideal S8x64 .f32) (ix2 r l) = 0 := by
    pointwise [k0_pay23]
  fin_cases j
  · refine scoreTile_eq q kk b 0 slices_S64x128_o0_0_S8x128 _ _ r l fun hm => ?_
    have : 7 < l.val := by clear hz; revert l; decide
    rw [hz, sc_later]
    show ¬ l.val ≤ 8 * 0 + r.val
    omega
  · refine scoreTile_eq q kk b 1 slices_S64x128_o8_0_S8x128 _ _ r l fun hm => ?_
    have : 15 < l.val := by clear hz; revert l; decide
    rw [hz, sc_later]
    show ¬ l.val ≤ 8 * 1 + r.val
    omega
  · refine scoreTile_eq q kk b 2 slices_S64x128_o16_0_S8x128 _ _ r l fun hm => ?_
    exact base_eq q kk b qr kr br hq hk hb 15 16 0 _ _ _ (by decide) rfl 2 rfl r l (by clear hz; revert l; decide)
  · refine scoreTile_eq q kk b 3 slices_S64x128_o24_0_S8x128 _ _ r l fun hm => ?_
    exact base_eq q kk b qr kr br hq hk hb 15 16 8 _ _ _ (by decide) rfl 3 rfl r l (by clear hz; revert l; decide)
  · refine scoreTile_eq q kk b 4 slices_S64x128_o32_0_S8x128 _ _ r l fun hm => ?_
    exact base_eq q kk b qr kr br hq hk hb 31 32 0 _ _ _ (by decide) rfl 4 rfl r l (by clear hz; revert l; decide)
  · refine scoreTile_eq q kk b 5 slices_S64x128_o40_0_S8x128 _ _ r l fun hm => ?_
    exact base_eq q kk b qr kr br hq hk hb 31 32 8 _ _ _ (by decide) rfl 5 rfl r l (by clear hz; revert l; decide)
  · refine scoreTile_eq q kk b 6 slices_S64x128_o48_0_S8x128 _ _ r l fun hm => ?_
    exact base_eq q kk b qr kr br hq hk hb 47 48 0 _ _ _ (by decide) rfl 6 rfl r l (by clear hz; revert l; decide)
  · refine scoreTile_eq q kk b 7 slices_S64x128_o56_0_S8x128 _ _ r l fun hm => ?_
    exact base_eq q kk b qr kr br hq hk hb 47 48 8 _ _ _ (by decide) rfl 7 rfl r l (by clear hz; revert l; decide)

end real

end tiles

theorem pay160_eq (q v b : FVec Ideal S64x128 .f32) (t0 t1 t2 t3 t4 t5 t6 t7 : FVec Ideal S8x64 .f32) (s : Vec Ideal S1x1x128x128 .f32) (A : Fin 64 → Fin 64 → EReal)
    (h0 : ∀ r l, t0 (ix2 r l) = A ⟨8 * 0 + r.val, by have := r.isLt; omega⟩ l) (h1 : ∀ r l, t1 (ix2 r l) = A ⟨8 * 1 + r.val, by have := r.isLt; omega⟩ l)
    (h2 : ∀ r l, t2 (ix2 r l) = A ⟨8 * 2 + r.val, by have := r.isLt; omega⟩ l) (h3 : ∀ r l, t3 (ix2 r l) = A ⟨8 * 3 + r.val, by have := r.isLt; omega⟩ l)
    (h4 : ∀ r l, t4 (ix2 r l) = A ⟨8 * 4 + r.val, by have := r.isLt; omega⟩ l) (h5 : ∀ r l, t5 (ix2 r l) = A ⟨8 * 5 + r.val, by have := r.isLt; omega⟩ l)
    (h6 : ∀ r l, t6 (ix2 r l) = A ⟨8 * 6 + r.val, by have := r.isLt; omega⟩ l) (h7 : ∀ r l, t7 (ix2 r l) = A ⟨8 * 7 + r.val, by have := r.isLt; omega⟩ l)
    (i : Fin 64) (c : Fin 128) :
    k0_pay160 q v b t0 t1 t2 t3 t4 t5 t6 t7 s (ix2 i c)
      = (∑ l : Fin 64, A i l * v (ix2 l c)) + ∑ k : Fin 128, q (ix2 i k) * Ideal.exp (b (ix2 i k)) * s (ix4 0 0 k c) := by
  pointwise [k0_pay160, k0_pay159]
  congr 1
  refine Finset.sum_congr (M := EReal) rfl fun l _ => ?_
  congr 1
  simp only [h0, h1, h2, h3, h4, h5, h6, h7]
  have hi := i.isLt
  split_ifs <;> (congr 1; exact Fin.ext (by simp only; omega))

theorem diag_sum (k : Fin 128) (f : Fin 128 → EReal) :
    ∑ x : Fin 128, Scalar.select (IntOp.cmpi CmpIPredicate.eq (BitVec.ofNat 32 k.val) (BitVec.ofNat 32 x.val)) (f x) 0 = f k := by
  have e : ∀ x : Fin 128, IntOp.cmpi CmpIPredicate.eq (BitVec.ofNat 32 k.val) (BitVec.ofNat 32 x.val) = if k = x then 1#1 else 0#1 := by
    revert k; decide +kernel
  refine (Finset.sum_congr (M := EReal) rfl fun x _ => (?_ : _ = if k = x then f x else 0)).trans ?_
  · rw [e]
    split <;> rfl
  · rw [Finset.sum_ite_eq, if_pos (Finset.mem_univ _)]

theorem pay161_eq (kk v b : FVec Ideal S64x128 .f32) (s : Vec Ideal S1x1x128x128 .f32) (k c : Fin 128) :
    (k0_pay161 k0_pay4 kk v b s : FVec Ideal S1x1x128x128 .f32) (ix4 0 0 k c)
      = Ideal.exp (b (ix2 63 k)) * s (ix4 0 0 k c) + ∑ x : Fin 64, kk (ix2 x k) * Ideal.exp (b (ix2 63 k) - b (ix2 x k)) * v (ix2 x c) := by
  pointwise [k0_pay161, k0_pay4, k0_pay159]
  rw [diag_sum k fun x => Ideal.exp (b (ix2 63 x))]

section chunk

variable (lb gon : Vec Ideal S1x128 .f32) (hq fr v gate : Vec Ideal S64x128 .f32) (s : Vec Ideal S1x1x128x128 .f32)
  (hG : ∀ i k, ∃ r : ℝ, gK lb fr i k = r) (hK : ∀ i k, ∃ r : ℝ, kK lb fr i k = r) (hQ : ∀ i k, ∃ r : ℝ, qK hq i k = r)

theorem sc_model (q kk b : FVec Ideal S64x128 .f32) (Q K G : Rows) (hq : ∀ i k, q (ix2 i k) = Q i k) (hk : ∀ i k, kk (ix2 i k) = K i k)
    (hb : ∀ i k, b (ix2 i k) = cum G i k) (i l : Fin 64) : sc q kk b i l = score Q K G i l := by
  unfold sc score
  simp only [hq, hk, hb]

theorem pay10_self (x : FVec Ideal S64x128 .f32) : k0_pay10 x = x := by
  unfold k0_pay10
  exact shapeCast_self x _

theorem pay9_pay8 (a : FVec Ideal S1x128 .f32) (t : FVec Ideal S64x64 .bf16) (fr : Vec Ideal S64x128 .f32) : k0_pay9 a t fr = k0_pay8 a t fr :=
  (by unfold k0_pay9 k0_pay10; rfl : k0_pay9 a t fr = k0_pay10 (k0_pay8 a t fr)).trans (pay10_self _)

include hG hK hQ in
theorem chunkTile_eq (j : Fin 8) (r : Fin 8) (l : Fin 64) :
    chunkTile rowIota laneIota lb hq fr j (ix2 r l) = score (qK hq) (kK lb fr) (gK lb fr) ⟨8 * j.val + r.val, by have := r.isLt; have := j.isLt; omega⟩ l := by
  obtain ⟨gr, hgr⟩ : ∃ gr : Fin 64 → Fin 128 → ℝ, ∀ i k, gK lb fr i k = gr i k := ⟨fun i k => (hG i k).choose, fun i k => (hG i k).choose_spec⟩
  have hg : gK lb fr = fun i k => (gr i k : EReal) := funext fun i => funext fun k => hgr i k
  unfold chunkTile
  rw [pay9_pay8, pay10_self]
  refine (tile_eq (k0_pay7 hq) (k0_pay6 (k0_pay1 lb) fr) (k0_pay8 (k0_pay1 lb) k0_pay3 fr) (fun i k => (hQ i k).choose) (fun i k => (hK i k).choose)
    (fun i k => ∑ l : Fin 64, if l ≤ i then gr l k else 0)
    (fun i k => (pay7_eq hq i k).trans (hQ i k).choose_spec) (fun i k => (pay6_eq lb fr i k).trans (hK i k).choose_spec)
    (fun i k => (pay8_eq lb fr hG i k).trans ((congrArg (fun g => cum g i k) hg).trans (cum_real gr i k))) j r l).trans ?_
  exact sc_model _ _ _ _ _ _ (pay7_eq hq) (pay6_eq lb fr) (pay8_eq lb fr hG) _ _

include hG hK hQ in
theorem chunkO_eq (i : Fin 64) (c : Fin 128) :
    chunkO rowIota laneIota lb hq fr v s (ix2 i c) = outO (qK hq) (kK lb fr) (vK v) (gK lb fr) (sK s) i c := by
  unfold chunkO
  rw [pay160_eq _ _ _ _ _ _ _ _ _ _ _ s (score (qK hq) (kK lb fr) (gK lb fr)) (chunkTile_eq lb hq fr hG hK hQ 0) (chunkTile_eq lb hq fr hG hK hQ 1)
    (chunkTile_eq lb hq fr hG hK hQ 2) (chunkTile_eq lb hq fr hG hK hQ 3) (chunkTile_eq lb hq fr hG hK hQ 4) (chunkTile_eq lb hq fr hG hK hQ 5)
    (chunkTile_eq lb hq fr hG hK hQ 6) (chunkTile_eq lb hq fr hG hK hQ 7)]
  simp only [pay7_eq, pay8_eq lb fr hG]
  rfl

/-- The mean square from the output. -/
def msOf (o : FVec Ideal S64x128 .f32) : FVec Ideal S64x1 .f32 :=
  addf (divf (shapeCast S64x1 (multiReduction .add [1] S64 (mulf o o) 0x00000000#32 reduces_S64x128_S64 (.inl rfl) rfl) shapeCasts_S64_S64x1)
    (broadcast S64x1 (Scalar.ofBits .f32 0x43000000#32))) (broadcast S64x1 (Scalar.ofBits .f32 0x358637BD#32))

theorem chunkMs_eq : chunkMs rowIota laneIota lb hq fr v s = msOf (chunkO rowIota laneIota lb hq fr v s) := by
  unfold chunkMs k0_pay162 msOf chunkO
  rfl

theorem normRow (o gate : FVec Ideal S64x128 .f32) (i : Fin 64) (c : Fin 128) :
    k0_pay163 (k0_pay2 gon) o gate (msOf o) (ix2 i c) = normed (fun k => o (ix2 i k)) (fun k => gon (ix2 0 k)) (fun k => gate (ix2 i k)) c := by
  unfold normed silu
  pointwise [k0_pay163, k0_pay2, msOf]

include hG hK hQ in
theorem chunkY_eq (i : Fin 64) (c : Fin 128) :
    chunkY rowIota laneIota lb gon hq fr v gate s (ix2 i c)
      = normed (outO (qK hq) (kK lb fr) (vK v) (gK lb fr) (sK s) i) (fun k => gon (ix2 0 k)) (fun k => gate (ix2 i k)) c := by
  unfold chunkY
  rw [chunkMs_eq, normRow]
  simp only [chunkO_eq lb hq fr v s hG hK hQ]

include hG in
theorem chunkS_eq (k c : Fin 128) :
    (chunkS lb fr v s : FVec Ideal S1x1x128x128 .f32) (ix4 0 0 k c) = nextS (kK lb fr) (vK v) (gK lb fr) (sK s) k c := by
  unfold chunkS
  rw [pay161_eq]
  unfold nextS
  simp only [pay6_eq, pay8_eq lb fr hG]

end chunk

end Cert.KernelIdeal.Gen
end
-- ==== Proof.Prompt.Point.lean ====
/-
  What one grid point of the recurrence leaves, over the extended reals: the rows and the state of one head of one sequence.
-/
module

public import proofs.«01_k».proof.Proof.Prompt.Chunk
public import proofs.«01_k».proof.Proof.Prompt.Frame

@[expose] public section

set_option maxRecDepth 16384

noncomputable section

namespace Cert.KernelIdeal.Gen

open Idealize.ShloMosaic Idealize.ShloMosaic.TcCoe Idealize.ShloMosaic.Tactic
open Idealize.SL.Sem Cert.Prompt

/-- A chunk is 64 consecutive rows. -/
theorem chunksOf_apply (x : Vec Ideal S2048x128 .f32) (n : Fin k0_t1_loop.trips) (i : Fin 64) (k : Fin 128) (r : Fin 2048) (hr : r.val = n.val * 64 + i.val) :
    chunksOf x n (ix2 i k) = x (ix2 r k) := by
  show x _ = x _
  refine congrArg x (funext fun a => Fin.ext ?_)
  have e := off1_eq n
  fin_cases a
  · show k0_off1 n 0 + 1 * i.val = r.val
    rw [e]; show 64 * n.val + 1 * i.val = r.val; omega
  · show k0_off1 n 1 + 1 * k.val = k.val
    rw [e]; show 0 + 1 * k.val = k.val; omega

/-- A row of the pieces is the row of the chunk that holds it. -/
theorem canon_pieces (v4 : IVec S64x128 32) (v11 : IVec S64x64 32) (lb gon : Vec Ideal S1x128 .f32) (hq fr v gate : Chunks Ideal)
    (s0 : Vec Ideal S1x1x128x128 .f32) (n : ℕ) (hn : n ≤ k0_t1_loop.trips) (c : Fin k0_t1_loop.trips) (hc : c.val < n)
    (y : S2048x128.Idx) (i : Fin 64) (k : Fin 128) (h0 : (y (0 : Fin 2)).val = c.val * 64 + i.val) (h1 : (y (1 : Fin 2)).val = k.val) :
    View.canon (yPieces v4 v11 lb gon hq fr v gate s0 n) y
      = chunkY v4 v11 lb gon (hq c) (fr c) (v c) (gate c) (stAt lb fr v s0 c.val) (ix2 i k) := by
  induction n with
  | zero => exact absurd hc (by omega)
  | succ n ih =>
    have h : n < k0_t1_loop.trips := hn
    simp only [yPieces, dif_pos h]
    by_cases hlt : c.val < n
    · rw [View.canon_cons_of_not_mem]
      · exact ih (le_of_lt h) hlt
      · rw [Rect.mem_set_unit]
        intro hm
        have h2 := (hm (0 : Fin 2)).1
        rw [off1_eq] at h2
        change 64 * n ≤ (y (0 : Fin 2)).val at h2
        have := i.isLt
        omega
    · obtain rfl : c = ⟨n, h⟩ := Fin.ext (show c.val = n by omega)
      have hy : y = (Rect.unit (s := S2048x128) (k0_off1 ⟨n, h⟩) S64x128.size (k0_off1_inb ⟨n, h⟩)).emb (ix2 i k) := by
        have e := off1_eq ⟨n, h⟩
        refine funext fun a => Fin.ext ?_
        fin_cases a
        · show (y (0 : Fin 2)).val = k0_off1 ⟨n, h⟩ 0 + 1 * i.val
          rw [e]; show (y (0 : Fin 2)).val = 64 * n + 1 * i.val
          change _ = n * 64 + i.val at h0; omega
        · show (y (1 : Fin 2)).val = k0_off1 ⟨n, h⟩ 1 + 1 * k.val
          rw [e]; show (y (1 : Fin 2)).val = 0 + 1 * k.val; omega
      rw [hy]
      exact View.canon_cons_emb (Rect.unit (s := S2048x128) (k0_off1 ⟨n, h⟩) S64x128.size (k0_off1_inb ⟨n, h⟩)) _ _ (ix2 i k)

section point

variable (z : Fin 16384 → Fin 9216 → EReal) (lb gon : Fin 512 → EReal) (b : Fin 8) (h : Fin 4)
  (x0 x1 x2 x3 : Vec Ideal S2048x128 .f32) (x4 x5 : Vec Ideal S1x128 .f32)
  (e0 : ∀ (n : Fin k0_t1_loop.trips) i k, chunksOf x0 n (ix2 i k) = z (rowIx b n.val i) (laneIx 3072 h k))
  (e1 : ∀ (n : Fin k0_t1_loop.trips) i k, chunksOf x1 n (ix2 i k) = z (rowIx b n.val i) (laneIx 3584 h k))
  (e2 : ∀ (n : Fin k0_t1_loop.trips) i k, chunksOf x2 n (ix2 i k) = z (rowIx b n.val i) (laneIx 4096 h k))
  (e3 : ∀ (n : Fin k0_t1_loop.trips) i k, chunksOf x3 n (ix2 i k) = z (rowIx b n.val i) (laneIx 4608 h k))
  (e4 : ∀ k, x4 (ix2 0 k) = lb (headIx h k)) (e5 : ∀ k, x5 (ix2 0 k) = gon (headIx h k))
  (hG : ∀ n i k, ∃ r : ℝ, gRows z lb b h n i k = r) (hK : ∀ n i k, ∃ r : ℝ, kRows z lb b h n i k = r)
  (hQ : ∀ n i k, ∃ r : ℝ, qRows z b h n i k = r)

include e0 in
theorem q_chunk (n : Fin k0_t1_loop.trips) : qK (chunksOf x0 n) = qRows z b h n.val := by
  funext i k
  exact congrArg silu (e0 n i k)

include e1 e4 in
theorem k_chunk (n : Fin k0_t1_loop.trips) : kK x4 (chunksOf x1 n) = kRows z lb b h n.val := by
  funext i k
  unfold kK kRows
  rw [e1, e4]

include e1 e4 in
theorem g_chunk (n : Fin k0_t1_loop.trips) : gK x4 (chunksOf x1 n) = gRows z lb b h n.val := by
  funext i k
  unfold gK gRows
  rw [e1, e4]

include e2 in
theorem v_chunk (n : Fin k0_t1_loop.trips) : vK (chunksOf x2 n) = vRows z b h n.val := by
  funext i k
  exact e2 n i k

theorem pay5_zero (k v : Fin 128) : (k0_pay5 (F := Ideal)) (ix4 0 0 k v) = 0 := by
  pointwise [k0_pay5]

include e1 e2 e4 hG in
/-- The state before a chunk is the model's. -/
theorem stAt_eq (n : ℕ) (hn : n ≤ k0_t1_loop.trips) :
    sK (stAt x4 (chunksOf x1) (chunksOf x2) (k0_pay5 (F := Ideal)) n) = stateOf z lb b h n := by
  induction n with
  | zero => funext k v; exact pay5_zero k v
  | succ n ih =>
    have hlt : n < k0_t1_loop.trips := hn
    have eg := g_chunk z lb b h x1 x4 e1 e4 ⟨n, hlt⟩
    have ek := k_chunk z lb b h x1 x4 e1 e4 ⟨n, hlt⟩
    have ev := v_chunk z b h x2 e2 ⟨n, hlt⟩
    funext k v
    simp only [stAt, dif_pos hlt]
    refine (chunkS_eq _ _ _ _ (fun i k => by rw [eg]; exact hG n i k) k v).trans ?_
    rw [eg, ek, ev, ih (le_of_lt hlt)]
    rfl

include e1 e2 e4 hG in
theorem ptState_eq (k v : Fin 128) : ptState x1 x2 x4 (ix4 0 0 k v) = stateOf z lb b h 32 k v :=
  (congrFun (congrFun (stAt_eq z lb b h x1 x2 x4 e1 e2 e4 hG k0_t1_loop.trips le_rfl) k) v).trans
    (congrArg (fun n => stateOf z lb b h n k v) trips_eq)

include e0 e1 e2 e3 e4 e5 hG hK hQ in
theorem ptRows_eq (c : Fin k0_t1_loop.trips) (y : S2048x128.Idx) (i : Fin 64) (k : Fin 128) (h0 : (y (0 : Fin 2)).val = c.val * 64 + i.val)
    (h1 : (y (1 : Fin 2)).val = k.val) : ptRows x0 x1 x2 x3 x4 x5 y = yRows z lb gon b h c.val i k := by
  have eg := g_chunk z lb b h x1 x4 e1 e4 c
  have ek := k_chunk z lb b h x1 x4 e1 e4 c
  have ev := v_chunk z b h x2 e2 c
  have eq := q_chunk z b h x0 e0 c
  have es := stAt_eq z lb b h x1 x2 x4 e1 e2 e4 hG c.val (le_of_lt c.isLt)
  unfold ptRows
  refine (canon_pieces _ _ _ _ _ _ _ _ _ _ le_rfl c c.isLt y i k h0 h1).trans ?_
  refine (chunkY_eq x4 x5 _ _ _ _ _ (fun i k => by rw [eg]; exact hG c.val i k) (fun i k => by rw [ek]; exact hK c.val i k)
    (fun i k => by rw [eq]; exact hQ c.val i k) i k).trans ?_
  rw [eg, ek, ev, eq, es]
  simp only [e3, e5]
  rfl

end point

end Cert.KernelIdeal.Gen
end
-- ==== Proof.Prompt.Blocks.lean ====
/-
  The recurrence's blocks at a grid point: which rows and lanes of the arguments they hold, and what the two results are.
-/
module

public import proofs.«01_k».proof.Proof.Prompt.Point
public import Idealize.ShloMosaic.Lib.Quiescent

@[expose] public section

set_option maxRecDepth 16384

noncomputable section

namespace Cert.KernelIdeal.Gen

open Idealize.ShloMosaic Idealize.ShloMosaic.TcCoe Idealize.ShloMosaic.Tactic
open Idealize.SL.Sem Cert.Prompt

variable (m : (ℓ : Loc nD τ sig) → Buf (Elt Ideal) ℓ) (ρ : Dev nD → PrngReg)

theorem idx : ∀ t : Fin cfg0.N, win0_0.index t = ![(grid0.coords t 0).val, 24 + (grid0.coords t 1).val]
    ∧ win0_1.index t = ![(grid0.coords t 0).val, 28 + (grid0.coords t 1).val]
    ∧ win0_2.index t = ![(grid0.coords t 0).val, 32 + (grid0.coords t 1).val]
    ∧ win0_3.index t = ![(grid0.coords t 0).val, 36 + (grid0.coords t 1).val]
    ∧ win0_4.index t = ![0, (grid0.coords t 1).val] ∧ win0_5.index t = ![0, (grid0.coords t 1).val]
    ∧ win0_6.index t = ![(grid0.coords t 0).val, (grid0.coords t 1).val]
    ∧ win0_7.index t = ![(grid0.coords t 0).val, (grid0.coords t 1).val, 0, 0] :=
  (by decide +kernel : ∀ t : Fin grid0.N, _)

/-- The sequence a grid point works at. -/
def seqOf (t : Fin cfg0.N) : Fin 8 := ⟨(grid0.coords t 0).val, (grid0.coords t 0).isLt⟩
/-- The head a grid point works at. -/
def headOf (t : Fin cfg0.N) : Fin 4 := ⟨(grid0.coords t 1).val, (grid0.coords t 1).isLt⟩

section blocks
variable (c : Dev nD) (t : Fin cfg0.N) (r : Fin 2048) (k : Fin 128)

/-- A row of a sequence. -/
def rowOf (b : Fin 8) (r : Fin 2048) : Fin 16384 := ⟨b.val * 2048 + r.val, by have := b.isLt; have := r.isLt; omega⟩
/-- A lane of a head. -/
def laneOf (o : ℕ) (ho : o + 512 ≤ 9216) (h : Fin 4) (k : Fin 128) : Fin 9216 := ⟨o + (h.val * 128 + k.val), by have := h.isLt; have := k.isLt; omega⟩

theorem blk0 : iblk m c 0 t (ix2 r k) = m (c.tc.loc main_arg0) (ix2 (rowOf (seqOf t) r) (laneOf 3072 (by decide) (headOf t) k)) := by
  obtain ⟨i0, i1, i2, i3, i4, i5, i6, i7⟩ := idx t
  blk_point [iblk, V, i0, rowOf, laneOf, seqOf, headOf]
theorem blk1 : iblk m c 1 t (ix2 r k) = m (c.tc.loc main_arg0) (ix2 (rowOf (seqOf t) r) (laneOf 3584 (by decide) (headOf t) k)) := by
  obtain ⟨i0, i1, i2, i3, i4, i5, i6, i7⟩ := idx t
  blk_point [iblk, V, i1, rowOf, laneOf, seqOf, headOf]
theorem blk2 : iblk m c 2 t (ix2 r k) = m (c.tc.loc main_arg0) (ix2 (rowOf (seqOf t) r) (laneOf 4096 (by decide) (headOf t) k)) := by
  obtain ⟨i0, i1, i2, i3, i4, i5, i6, i7⟩ := idx t
  blk_point [iblk, V, i2, rowOf, laneOf, seqOf, headOf]
theorem blk3 : iblk m c 3 t (ix2 r k) = m (c.tc.loc main_arg0) (ix2 (rowOf (seqOf t) r) (laneOf 4608 (by decide) (headOf t) k)) := by
  obtain ⟨i0, i1, i2, i3, i4, i5, i6, i7⟩ := idx t
  blk_point [iblk, V, i3, rowOf, laneOf, seqOf, headOf]
theorem blk4 : iblk m c 4 t (ix2 0 k) = m (c.tc.loc main_arg1) (ix1 (headIx (headOf t) k)) := by
  obtain ⟨i0, i1, i2, i3, i4, i5, i6, i7⟩ := idx t
  blk_ext! [iblk, V, i4, headIx, headOf]
theorem blk5 : iblk m c 5 t (ix2 0 k) = m (c.tc.loc main_arg2) (ix1 (headIx (headOf t) k)) := by
  obtain ⟨i0, i1, i2, i3, i4, i5, i6, i7⟩ := idx t
  blk_ext! [iblk, V, i5, headIx, headOf]
end blocks

/-- The rows of `z`, and the two vectors over the heads. -/
def zK (c : Dev nD) : Fin 16384 → Fin 9216 → EReal := fun r l => m (c.tc.loc main_arg0) (ix2 r l)
def lbV (c : Dev nD) : Fin 512 → EReal := fun k => m (c.tc.loc main_arg1) (ix1 k)
def gonV (c : Dev nD) : Fin 512 → EReal := fun k => m (c.tc.loc main_arg2) (ix1 k)

section chunks
variable (c : Dev nD) (t : Fin cfg0.N) (n : Fin k0_t1_loop.trips) (i : Fin 64) (k : Fin 128)

theorem at_row (o : ℕ) (ho : o + 512 ≤ 9216) (r : Fin 2048) (hr : r.val = n.val * 64 + i.val) :
    m (c.tc.loc main_arg0) (ix2 (rowOf (seqOf t) r) (laneOf o ho (headOf t) k)) = zK m c (rowIx (seqOf t) n.val i) (laneIx o (headOf t) k) := by
  have hn : n.val < 32 := n.isLt
  have e1 : rowOf (seqOf t) r = rowIx (seqOf t) n.val i := Fin.ext ((by unfold rowOf; dsimp only; omega : (rowOf (seqOf t) r).val = _).trans (rowIx_val (seqOf t) n.val hn i).symm)
  have e2 : laneOf o ho (headOf t) k = laneIx o (headOf t) k := Fin.ext (laneIx_val o (by omega) (headOf t) k).symm
  rw [e1, e2]
  rfl

theorem row_lt : n.val * 64 + i.val < 2048 := by
  have hn : n.val < 32 := n.isLt
  have := i.isLt
  omega

theorem c0 : chunksOf (iblk m c 0 t) n (ix2 i k) = zK m c (rowIx (seqOf t) n.val i) (laneIx 3072 (headOf t) k) :=
  (chunksOf_apply (iblk m c 0 t) n i k ⟨_, row_lt n i⟩ rfl).trans ((blk0 m c t _ k).trans (at_row m c t n i k 3072 _ _ rfl))
theorem c1 : chunksOf (iblk m c 1 t) n (ix2 i k) = zK m c (rowIx (seqOf t) n.val i) (laneIx 3584 (headOf t) k) :=
  (chunksOf_apply (iblk m c 1 t) n i k ⟨_, row_lt n i⟩ rfl).trans ((blk1 m c t _ k).trans (at_row m c t n i k 3584 _ _ rfl))
theorem c2 : chunksOf (iblk m c 2 t) n (ix2 i k) = zK m c (rowIx (seqOf t) n.val i) (laneIx 4096 (headOf t) k) :=
  (chunksOf_apply (iblk m c 2 t) n i k ⟨_, row_lt n i⟩ rfl).trans ((blk2 m c t _ k).trans (at_row m c t n i k 4096 _ _ rfl))
theorem c3 : chunksOf (iblk m c 3 t) n (ix2 i k) = zK m c (rowIx (seqOf t) n.val i) (laneIx 4608 (headOf t) k) :=
  (chunksOf_apply (iblk m c 3 t) n i k ⟨_, row_lt n i⟩ rfl).trans ((blk3 m c t _ k).trans (at_row m c t n i k 4608 _ _ rfl))
end chunks

section results
variable (c : Dev nD)
  (hG : ∀ b h n i k, ∃ r : ℝ, gRows (zK m c) (lbV m c) b h n i k = r) (hK : ∀ b h n i k, ∃ r : ℝ, kRows (zK m c) (lbV m c) b h n i k = r)
  (hQ : ∀ b h n i k, ∃ r : ℝ, qRows (zK m c) b h n i k = r)

include hG in
theorem arr_state : (dats m 0 c).arrAt 7 cfg0.N = fun j : S8x4x128x128.Idx => stateOf (zK m c) (lbV m c) (j 0) (j 1) 32 (j 2) (j 3) := by
  refine (dats m 0 c).arrAt_eq_of_covers 7 _ (by decide +kernel) fun t hf y => ?_
  blk_simp
  rw [after0_7]
  obtain ⟨i0, i1, i2, i3, i4, i5, i6, i7⟩ := idx t
  obtain ⟨k, hk⟩ : ∃ k : Fin 128, (y (2 : Fin 4)).val = k.val := ⟨y 2, rfl⟩
  obtain ⟨v, hv⟩ : ∃ v : Fin 128, (y (3 : Fin 4)).val = v.val := ⟨y 3, rfl⟩
  have y0 : (y (0 : Fin 4)).val = 0 := by have := (y (0 : Fin 4)).isLt; change (y (0 : Fin 4)).val < 1 at this; omega
  have y1 : (y (1 : Fin 4)).val = 0 := by have := (y (1 : Fin 4)).isLt; change (y (1 : Fin 4)).val < 1 at this; omega
  have ey : y = ix4 0 0 k v := funext fun a => Fin.ext (by fin_cases a; exacts [y0, y1, hk, hv])
  have j0 : win0_7.index t 0 = (seqOf t).val := by rw [i7]; rfl
  have j1 : win0_7.index t 1 = (headOf t).val := by rw [i7]; rfl
  have j2 : win0_7.index t 2 = 0 := by rw [i7]; rfl
  have j3 : win0_7.index t 3 = 0 := by rw [i7]; rfl
  refine ((congrArg _ ey).trans (ptState_eq (zK m c) (lbV m c) (seqOf t) (headOf t) (iblk m c 1 t) (iblk m c 2 t) (iblk m c 4 t) (c1 m c t) (c2 m c t) (blk4 m c t)
    (hG (seqOf t) (headOf t)) k v)).trans ?_
  congr 1 <;> refine Fin.ext ?_
  · show (seqOf t).val = win0_7.index t 0 * 1 + 1 * (y (0 : Fin 4)).val; omega
  · show (headOf t).val = win0_7.index t 1 * 1 + 1 * (y (1 : Fin 4)).val; omega
  · show k.val = win0_7.index t 2 * 128 + 1 * (y (2 : Fin 4)).val; omega
  · show v.val = win0_7.index t 3 * 128 + 1 * (y (3 : Fin 4)).val; omega

/-- A row's sequence, chunk and place in the chunk. -/
def seqAt (p : Fin 16384) : Fin 8 := ⟨p.val / 2048, by have := p.isLt; omega⟩
def chunkAt (p : Fin 16384) : ℕ := p.val % 2048 / 64
def placeAt (p : Fin 16384) : Fin 64 := ⟨p.val % 64, Nat.mod_lt _ (by decide)⟩
/-- A lane's head and place in the head. -/
def headAt (l : Fin 512) : Fin 4 := ⟨l.val / 128, by have := l.isLt; omega⟩
def laneAt (l : Fin 512) : Fin 128 := ⟨l.val % 128, Nat.mod_lt _ (by decide)⟩

include hG hK hQ in
theorem arr_rows : (dats m 0 c).arrAt 6 cfg0.N
    = fun j : S16384x512.Idx => yRows (zK m c) (lbV m c) (gonV m c) (seqAt (j 0)) (headAt (j 1)) (chunkAt (j 0)) (placeAt (j 0)) (laneAt (j 1)) := by
  refine (dats m 0 c).arrAt_eq_of_covers 6 _ (by decide +kernel) fun t hf y => ?_
  blk_simp
  rw [after0_6]
  obtain ⟨i0, i1, i2, i3, i4, i5, i6, i7⟩ := idx t
  have hy0 : (y (0 : Fin 2)).val < 2048 := (y (0 : Fin 2)).isLt
  obtain ⟨n, hn⟩ : ∃ n : Fin k0_t1_loop.trips, n.val = (y (0 : Fin 2)).val / 64 :=
    ⟨⟨(y (0 : Fin 2)).val / 64, show _ < 32 by omega⟩, rfl⟩
  obtain ⟨i, hi⟩ : ∃ i : Fin 64, i.val = (y (0 : Fin 2)).val % 64 := ⟨⟨_, Nat.mod_lt _ (by decide)⟩, rfl⟩
  obtain ⟨v, hv⟩ : ∃ v : Fin 128, (y (1 : Fin 2)).val = v.val := ⟨y 1, rfl⟩
  have j0 : win0_6.index t 0 = (seqOf t).val := by rw [i6]; rfl
  have j1 : win0_6.index t 1 = (headOf t).val := by rw [i6]; rfl
  refine (ptRows_eq (zK m c) (lbV m c) (gonV m c) (seqOf t) (headOf t) (iblk m c 0 t) (iblk m c 1 t) (iblk m c 2 t) (iblk m c 3 t) (iblk m c 4 t) (iblk m c 5 t)
    (c0 m c t) (c1 m c t) (c2 m c t) (c3 m c t) (blk4 m c t) (blk5 m c t)
    (hG (seqOf t) (headOf t)) (hK (seqOf t) (headOf t)) (hQ (seqOf t) (headOf t)) n y i v (by omega) hv).trans ?_
  congr 1
  · refine Fin.ext ?_; show (seqOf t).val = (win0_6.index t 0 * 2048 + 1 * (y (0 : Fin 2)).val) / 2048; omega
  · refine Fin.ext ?_; show (headOf t).val = (win0_6.index t 1 * 128 + 1 * (y (1 : Fin 2)).val) / 128; omega
  · show n.val = (win0_6.index t 0 * 2048 + 1 * (y (0 : Fin 2)).val) % 2048 / 64; omega
  · refine Fin.ext ?_; show i.val = (win0_6.index t 0 * 2048 + 1 * (y (0 : Fin 2)).val) % 64; omega
  · refine Fin.ext ?_; show v.val = (win0_6.index t 1 * 128 + 1 * (y (1 : Fin 2)).val) % 128; omega
end results

/-- The run, each result named and the arguments unchanged. -/
theorem run_blocks : θ_run defs (onTc (τ := τ) (main (F := Ideal))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 6, (h c).1 7,
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Gen
end
-- ==== Proof.Prompt.RefStep.lean ====
/-
  One trip of the reference's loop over the chunks, read at an index.
-/
module

public import proofs.«01_k».proof.Proof.Gen.ReferenceIdeal.Run
public import proofs.«01_k».proof.Proof.Prompt.Model
public import Idealize.ShloMosaic.Lib.DynamicIndex
public import Idealize.ShloMosaic.Lib.WordCmp

@[expose] public section

set_option maxRecDepth 16384

noncomputable section

namespace Cert.ReferenceIdeal.Value

open Idealize.ShloMosaic Idealize.ShloMosaic.TcCoe Idealize.ShloMosaic.Tactic Idealize.ShloMosaic.StableHlo
open Idealize.SL.Sem Cert.ReferenceIdeal Cert.ReferenceIdeal.Gen Cert.Prompt

/-- The chunk numbers, as the loop's slices take them. -/
abbrev startOf (n : IVec S_ 32) (k : Fin 5) : Int :=
  (((![n, constantI S_ 32 0#32, constantI S_ 32 0#32, constantI S_ 32 0#32, constantI S_ 32 0#32] : Fin 5 → IVec S_ 32)) k (Shape.Idx.first h_S_)).toInt

abbrev word (t : Fin 32) : IVec S_ 32 := constantI S_ 32 (BitVec.ofNat 32 t.val)

theorem start_word (t : Fin 32) : ∀ a : Fin 5, startOf (word t) a = ((![t.val, 0, 0, 0, 0] : Fin 5 → ℕ) a : Int) := by
  intro a
  fin_cases a
  · exact toInt_ofNat_of_lt (by have := t.isLt; omega)
  all_goals rfl

theorem fits (t : Fin 32) : S32x8x4x64x128.Slices ![t.val, 0, 0, 0, 0] S1x8x4x64x128 := by
  refine ⟨rfl, fun a => ?_⟩
  have := t.isLt
  fin_cases a
  · show t.val + 1 ≤ 32; omega
  · show 0 + 8 ≤ 8; omega
  · show 0 + 4 ≤ 4; omega
  · show 0 + 64 ≤ 64; omega
  · show 0 + 128 ≤ 128; omega

/-- Chunk `n` of a stack. -/
def winOf (L : FVec Ideal S32x8x4x64x128 .f32) (n : IVec S_ 32) : FVec Ideal S8x4x64x128 .f32 :=
  shapeCast S8x4x64x128 (Host.dynamicSlice S1x8x4x64x128 L (startOf n) sliceFits_S32x8x4x64x128_S1x8x4x64x128) shapeCasts_S1x8x4x64x128_S8x4x64x128

theorem winOf_apply (L : FVec Ideal S32x8x4x64x128 .f32) (t : Fin 32) (b : Fin 8) (h : Fin 4) (i : Fin 64) (k : Fin 128) :
    winOf L (word t) (ix4 b h i k) = L (ix5 t b h i k) := by
  unfold winOf
  rw [Host.dynamicSlice_eq_extractStridedSlice S1x8x4x64x128 L (startOf (word t)) ![t.val, 0, 0, 0, 0] _ (fits t) (start_word t)]
  pointwise []

/-- The sums up to each row of a chunk. -/
def cumOf (x : FVec Ideal S8x4x64x128 .f32) : FVec Ideal S8x4x64x128 .f32 :=
  Host.reduceWindowAdd ![1, 1, 64, 1] ![1, 1, 1, 1] ![0, 0, 63, 0] ![0, 0, 0, 0] x (broadcastInDim S_ ![] bcast_S_S_ (constant S_ .f32 0x00000000#32))
    reduceWindows_S8x4x64x128_S8x4x64x128_w1s1p0_0_w1s1p0_0_w64s1p63_0_w1s1p0_0 h_S_

abbrev winShape : Shape := ⟨4, ![1, 1, 64, 1]⟩

theorem winShape_numel : winShape.numel = 64 := by decide

theorem winShape_pos : ∀ n : Fin winShape.numel, ∀ a : Fin 4, (winShape.rowMajor.symm n a).val = (![0, 0, n.val, 0] : Fin 4 → ℕ) a := by
  decide +kernel

theorem foldl_add (f : Fin winShape.numel → EReal) : ∀ (L : List (Fin winShape.numel)) (r : EReal),
    L.foldl (fun r n => r + f n) r = r + (L.map f).sum := by
  intro L
  induction L with
  | nil => intro r; simp
  | cons a L ih => intro r; simp [ih, add_assoc]

theorem window_sum (g : Fin 64 → EReal) (i : Fin 64) :
    ∑ n : Fin 64, (if h : 63 ≤ i.val + n.val ∧ i.val + n.val - 63 < 64 then g ⟨i.val + n.val - 63, h.2⟩ else 0) = ∑ l : Fin 64, if l ≤ i then g l else 0 := by
  have hi := i.isLt
  refine Finset.sum_bij_ne_zero (M := EReal) (fun n _ hn => (⟨i.val + n.val - 63, by have := n.isLt; omega⟩ : Fin 64)) (fun _ _ _ => Finset.mem_univ _) ?_ ?_ ?_
  · intro a _ ha b _ hb e
    have ha' : 63 ≤ i.val + a.val := by by_contra hc; exact ha (dif_neg fun h => hc h.1)
    have hb' : 63 ≤ i.val + b.val := by by_contra hc; exact hb (dif_neg fun h => hc h.1)
    have e' := congrArg Fin.val e
    simp only at e'
    exact Fin.ext (by omega)
  · intro l _ hl
    have hle : l ≤ i := by by_contra hc; exact hl (if_neg hc)
    have hle' : l.val ≤ i.val := hle
    have e : i.val + (l.val + 63 - i.val) - 63 = l.val := by omega
    refine ⟨⟨l.val + 63 - i.val, by omega⟩, Finset.mem_univ _, ?_, Fin.ext e⟩
    rw [dif_pos ⟨by show 63 ≤ i.val + (l.val + 63 - i.val); omega, by show i.val + (l.val + 63 - i.val) - 63 < 64; omega⟩]
    rw [if_pos hle] at hl
    convert hl
  · intro n _ hn
    by_cases h : 63 ≤ i.val + n.val ∧ i.val + n.val - 63 < 64
    · rw [dif_pos h, if_pos]
      show i.val + n.val - 63 ≤ i.val
      have := n.isLt
      omega
    · exact absurd (dif_neg h) hn

theorem zeroInit : (broadcastInDim S_ ![] bcast_S_S_ (constant S_ .f32 0x00000000#32) : FVec Ideal S_ .f32) (Shape.Idx.first h_S_) = (0 : EReal) := by
  rw [show Shape.Idx.first h_S_ = ix0 from funext fun a => a.elim0]
  pointwise []

theorem cumOf_apply (x : FVec Ideal S8x4x64x128 .f32) (b : Fin 8) (h : Fin 4) (i : Fin 64) (k : Fin 128) :
    cumOf x (ix4 b h i k) = ∑ l : Fin 64, if l ≤ i then x (ix4 b h l k) else 0 := by
  rw [← window_sum (fun l => x (ix4 b h l k)) i]
  have hb := b.isLt
  have hh := h.isLt
  have hk := k.isLt
  unfold cumOf Host.reduceWindowAdd
  simp only [Ideal.hostReduceWindowAdd_def]
  unfold Ideal.hostReduceWindowAdd Host.reduceWindow
  dsimp only
  rw [zeroInit]
  refine (foldl_add _ _ _).trans ?_
  rw [zero_add]
  refine (Fin.sum_univ_def (M := EReal) _).symm.trans ?_
  refine Fintype.sum_equiv (finCongr winShape_numel) _ _ fun n => ?_
  have w0 := winShape_pos n 0
  have w1 := winShape_pos n 1
  have w2 := winShape_pos n 2
  have w3 := winShape_pos n 3
  change _ = 0 at w0
  change _ = 0 at w1
  change _ = n.val at w2
  change _ = 0 at w3
  split
  · next hin =>
    have h2 := hin 2
    change 63 ≤ i.val * 1 + (winShape.rowMajor.symm n 2).val ∧ i.val * 1 + (winShape.rowMajor.symm n 2).val - 63 < 64 at h2
    rw [w2, Nat.mul_one] at h2
    refine Eq.trans ?_ (dif_pos (h2 : 63 ≤ i.val + (finCongr winShape_numel n).val ∧ i.val + (finCongr winShape_numel n).val - 63 < 64)).symm
    refine congrArg x (funext fun a => Fin.ext ?_)
    match a with
    | ⟨0, _⟩ => show b.val * 1 + (winShape.rowMajor.symm n 0).val - 0 = b.val; rw [w0]; omega
    | ⟨1, _⟩ => show h.val * 1 + (winShape.rowMajor.symm n 1).val - 0 = h.val; rw [w1]; omega
    | ⟨2, _⟩ => show i.val * 1 + (winShape.rowMajor.symm n 2).val - 63 = i.val + n.val - 63; rw [w2]; omega
    | ⟨3, _⟩ => show k.val * 1 + (winShape.rowMajor.symm n 3).val - 0 = k.val; rw [w3]; omega
  · next hin =>
    symm
    apply dif_neg
    intro hle
    refine hin fun a => ?_
    match a with
    | ⟨0, _⟩ => show 0 ≤ b.val * 1 + (winShape.rowMajor.symm n 0).val ∧ b.val * 1 + (winShape.rowMajor.symm n 0).val - 0 < 8; rw [w0]; omega
    | ⟨1, _⟩ => show 0 ≤ h.val * 1 + (winShape.rowMajor.symm n 1).val ∧ h.val * 1 + (winShape.rowMajor.symm n 1).val - 0 < 4; rw [w1]; omega
    | ⟨2, _⟩ =>
      have := hle
      show 63 ≤ i.val * 1 + (winShape.rowMajor.symm n 2).val ∧ i.val * 1 + (winShape.rowMajor.symm n 2).val - 63 < 64
      rw [w2, Nat.mul_one]
      exact hle
    | ⟨3, _⟩ => show 0 ≤ k.val * 1 + (winShape.rowMajor.symm n 3).val ∧ k.val * 1 + (winShape.rowMajor.symm n 3).val - 0 < 128; rw [w3]; omega

def stepS (x69 x70 x72 : FVec Ideal S8x4x64x128 .f32) (S : FVec Ideal S8x4x128x128 .f32) : FVec Ideal S8x4x128x128 .f32 :=
  addf (mulf (broadcastInDim S8x4x128x128 ![0, 1, 2, 3] bcast_S8x4x128x1_S8x4x128x128_0_1_2_3 (Host.exp (broadcastInDim S8x4x128x1 ![0, 1, 2] bcast_S8x4x128_S8x4x128x1_0_1_2 (shapeCast S8x4x128 (extractStridedSlice S8x4x1x128 ![0, 0, 63, 0] x72 slices_S8x4x64x128_S8x4x1x128_0_0_63_0) shapeCasts_S8x4x1x128_S8x4x128)))) S) (Host.dotGeneral dot_S8x4x64x128_S8x4x64x128_S8x4x128x128_2_2_3_3_01_01 none (mulf x69 (Host.exp (subf (broadcastInDim S8x4x64x128 ![0, 1, 2, 3] bcast_S8x4x1x128_S8x4x64x128_0_1_2_3 (extractStridedSlice S8x4x1x128 ![0, 0, 63, 0] x72 slices_S8x4x64x128_S8x4x1x128_0_0_63_0)) x72))) x70)

theorem stepS_apply (x69 x70 x72 : FVec Ideal S8x4x64x128 .f32) (S : FVec Ideal S8x4x128x128 .f32) (b : Fin 8) (h : Fin 4) (k v : Fin 128) :
    stepS x69 x70 x72 S (ix4 b h k v) = Ideal.exp (x72 (ix4 b h 63 k)) * S (ix4 b h k v)
      + ∑ s : Fin 64, x69 (ix4 b h s k) * Ideal.exp (x72 (ix4 b h 63 k) - x72 (ix4 b h s k)) * x70 (ix4 b h s v) := by
  unfold stepS
  pointwise []
  trace_state

def stepO (tril : IVec S64x64 1) (x68 x69 x70 x72 : FVec Ideal S8x4x64x128 .f32) (S : FVec Ideal S8x4x128x128 .f32) : FVec Ideal S8x4x64x128 .f32 :=
  addf (Host.dotGeneral dot_S8x4x64x64_S8x4x64x128_S8x4x64x128_3_2_2_3_01_01 none (Host.reduceAdd (mulf (mulf (broadcastInDim S8x4x64x64x128 ![0, 1, 2, 3, 4] bcast_S8x4x64x1x128_S8x4x64x64x128_0_1_2_3_4 (broadcastInDim S8x4x64x1x128 ![0, 1, 2, 4] bcast_S8x4x64x128_S8x4x64x1x128_0_1_2_4 x68)) (broadcastInDim S8x4x64x64x128 ![0, 1, 2, 3, 4] bcast_S8x4x1x64x128_S8x4x64x64x128_0_1_2_3_4 (broadcastInDim S8x4x1x64x128 ![0, 1, 3, 4] bcast_S8x4x64x128_S8x4x1x64x128_0_1_3_4 x69))) (Host.exp (select (broadcastInDim S8x4x64x64x128 ![2, 3, 4] bcast_S64x64x1_S8x4x64x64x128_2_3_4 (broadcastInDim S64x64x1 ![0, 1] bcast_S64x64_S64x64x1_0_1 tril)) (subf (broadcastInDim S8x4x64x64x128 ![0, 1, 2, 3, 4] bcast_S8x4x64x1x128_S8x4x64x64x128_0_1_2_3_4 (broadcastInDim S8x4x64x1x128 ![0, 1, 2, 4] bcast_S8x4x64x128_S8x4x64x1x128_0_1_2_4 x72)) (broadcastInDim S8x4x64x64x128 ![0, 1, 2, 3, 4] bcast_S8x4x1x64x128_S8x4x64x64x128_0_1_2_3_4 (broadcastInDim S8x4x1x64x128 ![0, 1, 3, 4] bcast_S8x4x64x128_S8x4x1x64x128_0_1_3_4 x72))) (broadcastInDim S8x4x64x64x128 ![] bcast_S_S8x4x64x64x128 (id (constant S_ .f32 0xFF800000#32)))))) (constant S_ .f32 0x00000000#32) reducesTo_S8x4x64x64x128_S8x4x64x64_d4 h_S_) x70) (Host.dotGeneral dot_S8x4x64x128_S8x4x128x128_S8x4x64x128_3_2_2_3_01_01 none (mulf x68 (Host.exp x72)) S)

theorem negInf : Ideal.ofBits FTy.f32 4286578688#32 = (⊥ : EReal) := by simp [Ideal.ofBits, Ideal.ieee]

theorem stepO_apply (tril : IVec S64x64 1) (x68 x69 x70 x72 : FVec Ideal S8x4x64x128 .f32) (S : FVec Ideal S8x4x128x128 .f32) (b : Fin 8) (h : Fin 4) (i : Fin 64) (v : Fin 128) :
    stepO tril x68 x69 x70 x72 S (ix4 b h i v)
      = (∑ l : Fin 64, (∑ k : Fin 128, x68 (ix4 b h i k) * x69 (ix4 b h l k)
            * Ideal.exp (Scalar.select (tril (ix2 i l)) (x72 (ix4 b h i k) - x72 (ix4 b h l k)) (Ideal.ofBits FTy.f32 4286578688#32))) * x70 (ix4 b h l v))
        + ∑ k : Fin 128, x68 (ix4 b h i k) * Ideal.exp (x72 (ix4 b h i k)) * S (ix4 b h k v) := by
  unfold stepO
  pointwise []
  rfl

theorem step6 (V0 : Valuation τ sig (Elt Ideal)) : step_main_v47_6 V0
    = stepS (winOf (V0 (Proc.devRef .tc main_v47_1)) (V0 (Proc.devRef .tc main_v47_5))) (winOf (V0 (Proc.devRef .tc main_v47_2)) (V0 (Proc.devRef .tc main_v47_5)))
      (cumOf (winOf (V0 (Proc.devRef .tc main_v47_3)) (V0 (Proc.devRef .tc main_v47_5)))) (V0 (Proc.devRef .tc main_v47_6)) := rfl

theorem res68 (V0 : Valuation τ sig (Elt Ideal)) : res_main_while0b_v68 V0 = winOf (V0 (Proc.devRef .tc main_v47_0)) (V0 (Proc.devRef .tc main_v47_5)) := rfl
theorem res69 (V0 : Valuation τ sig (Elt Ideal)) : res_main_while0b_v69 V0 = winOf (V0 (Proc.devRef .tc main_v47_1)) (V0 (Proc.devRef .tc main_v47_5)) := rfl
theorem res70 (V0 : Valuation τ sig (Elt Ideal)) : res_main_while0b_v70 V0 = winOf (V0 (Proc.devRef .tc main_v47_2)) (V0 (Proc.devRef .tc main_v47_5)) := rfl
theorem res72 (V0 : Valuation τ sig (Elt Ideal)) : res_main_while0b_v72 V0 = cumOf (winOf (V0 (Proc.devRef .tc main_v47_3)) (V0 (Proc.devRef .tc main_v47_5))) := rfl

set_option maxHeartbeats 2000000 in
theorem step7 (V0 : Valuation τ sig (Elt Ideal)) : step_main_v47_7 V0
    = Host.dynamicUpdateSlice (V0 (Proc.devRef .tc main_v47_7) : FVec Ideal S32x8x4x64x128 .f32) (broadcastInDim S1x8x4x64x128 ![1, 2, 3, 4] bcast_S8x4x64x128_S1x8x4x64x128_1_2_3_4
        (stepO (V0 (Proc.devRef .tc main_v47_4)) (res_main_while0b_v68 V0) (res_main_while0b_v69 V0) (res_main_while0b_v70 V0) (res_main_while0b_v72 V0) (V0 (Proc.devRef .tc main_v47_6))))
      (startOf (V0 (Proc.devRef .tc main_v47_5))) updateFits_S32x8x4x64x128_S1x8x4x64x128 := by
  unfold step_main_v47_7 stepO
  rfl

theorem put_apply (L : FVec Ideal S32x8x4x64x128 .f32) (u : FVec Ideal S8x4x64x128 .f32) (t t' : Fin 32) (b : Fin 8) (h : Fin 4) (i : Fin 64) (k : Fin 128) :
    Host.dynamicUpdateSlice L (broadcastInDim S1x8x4x64x128 ![1, 2, 3, 4] bcast_S8x4x64x128_S1x8x4x64x128_1_2_3_4 u) (startOf (word t))
      updateFits_S32x8x4x64x128_S1x8x4x64x128 (ix5 t' b h i k) = if t' = t then u (ix4 b h i k) else L (ix5 t' b h i k) := by
  rw [WordCmp.dynamicUpdateSlice_eq_update L _ (startOf (word t)) _ ![t.val, 0, 0, 0, 0] (fits t) (start_word t)]
  pointwise []
  by_cases e : t' = t
  · subst e
    rw [dif_pos ⟨le_refl _, Nat.lt_succ_self _⟩, if_pos rfl]
  · rw [dif_neg fun hc => e (Fin.ext (by omega)), if_neg e]

/-- What the loop starts from. -/
theorem entry6 (m : (ℓ : Loc nD τ sig) → Buf (Elt Ideal) ℓ) (c : Dev nD) : entryContents preI m c (Proc.devRef .tc main_v47_6)
    = (broadcastInDim S8x4x128x128 ![] bcast_S_S8x4x128x128 (constant S_ FTy.f32 0#32) : FVec Ideal S8x4x128x128 .f32) := by
  simp only [entryContents, preI, afterL_cons, afterL_nil]
  after_results
  rfl

theorem entry5 (m : (ℓ : Loc nD τ sig) → Buf (Elt Ideal) ℓ) (c : Dev nD) : (entryContents preI m c (Proc.devRef .tc main_v47_5) : IVec S_ 32)
    = word 0 := by
  simp only [entryContents, preI, afterL_cons, afterL_nil]
  after_results
  rfl

/-- Lanes from `o`, as the loop's stack of chunks. -/
def stackOf (x : FVec Ideal S8x2048x4x128 .f32) : FVec Ideal S32x8x4x64x128 .f32 :=
  transpose S32x8x4x64x128 [1, 0, 3, 2, 4] (shapeCast S8x32x64x4x128 x shapeCasts_S8x2048x4x128_S8x32x64x4x128) transposes_S8x32x64x4x128_S32x8x4x64x128_1_0_3_2_4

theorem stackOf_apply (x : FVec Ideal S8x2048x4x128 .f32) (t : Fin 32) (b : Fin 8) (h : Fin 4) (i : Fin 64) (k : Fin 128) :
    stackOf x (ix5 t b h i k) = x (ix4 b ⟨t.val * 64 + i.val, by have := t.isLt; have := i.isLt; omega⟩ h k) := by
  unfold stackOf
  pointwise []

def trilOf : IVec S64x64 1 :=
  select (cmpi CmpIPredicate.sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem trilOf_apply (i l : Fin 64) (x y : EReal) : Scalar.select (trilOf (ix2 i l)) x y = if l ≤ i then x else y := by
  have e : trilOf (ix2 i l) = if l ≤ i then 1#1 else 0#1 := by
    unfold trilOf
    pointwise []
    revert i l
    decide +kernel
  rw [e]
  split <;> rfl

theorem entry4 (m : (ℓ : Loc nD τ sig) → Buf (Elt Ideal) ℓ) (c : Dev nD) : (entryContents preI m c (Proc.devRef .tc main_v47_4) : IVec S64x64 1)
    = trilOf := by
  simp only [entryContents, preI, afterL_cons, afterL_nil]
  after_results
  rfl

def entG (z : FVec Ideal S16384x9216 .f32) (lb : FVec Ideal S512 .f32) : FVec Ideal S8x2048x4x128 .f32 :=
  Host.log (addf (broadcastInDim S8x2048x4x128 ![0, 1, 2, 3] bcast_S1x1x4x128_S8x2048x4x128_0_1_2_3 (broadcastInDim S1x1x4x128 ![2, 3] bcast_S4x128_S1x1x4x128_2_3 (shapeCast S4x128 lb shapeCasts_S512_S4x128)))
   (mulf (broadcastInDim S8x2048x4x128 ![0, 1, 2, 3] bcast_S1x1x4x128_S8x2048x4x128_0_1_2_3 (broadcastInDim S1x1x4x128 ![2, 3] bcast_S4x128_S1x1x4x128_2_3
                    (subf (broadcastInDim S4x128 ![] bcast_S_S4x128 (constant S_ FTy.f32 1065353216#32)) (shapeCast S4x128 lb shapeCasts_S512_S4x128))))
                (Host.divf (broadcastInDim S8x2048x4x128 ![] bcast_S_S8x2048x4x128 (constant S_ FTy.f32 1065353216#32))
                  (addf (broadcastInDim S8x2048x4x128 ![] bcast_S_S8x2048x4x128 (constant S_ FTy.f32 1065353216#32))
                    (Host.exp
                      (Host.negf (shapeCast S8x2048x4x128
                              (extractStridedSlice S16384x512 ![0, 3584] z
                                slices_S16384x9216_S16384x512_0_3584)
                              shapeCasts_S16384x512_S8x2048x4x128)))))))

theorem entry3 (m : (ℓ : Loc nD τ sig) → Buf (Elt Ideal) ℓ) (c : Dev nD) : entryContents preI m c (Proc.devRef .tc main_v47_3)
    = stackOf (entG (launchContents m c (Proc.tc.devRef main_arg0)) (launchContents m c (Proc.tc.devRef main_arg1))) := by
  simp only [entryContents, preI, afterL_cons, afterL_nil]
  after_results
  rfl

def entK (z : FVec Ideal S16384x9216 .f32) (lb : FVec Ideal S512 .f32) : FVec Ideal S8x2048x4x128 .f32 :=
  mulf (broadcastInDim S8x2048x4x128 ![0, 1, 2, 3] bcast_S1x1x4x128_S8x2048x4x128_0_1_2_3 (broadcastInDim S1x1x4x128 ![2, 3] bcast_S4x128_S1x1x4x128_2_3
                    (subf (broadcastInDim S4x128 ![] bcast_S_S4x128 (constant S_ FTy.f32 1065353216#32)) (shapeCast S4x128 lb shapeCasts_S512_S4x128))))
                (Host.divf (broadcastInDim S8x2048x4x128 ![] bcast_S_S8x2048x4x128 (constant S_ FTy.f32 1065353216#32))
                  (addf (broadcastInDim S8x2048x4x128 ![] bcast_S_S8x2048x4x128 (constant S_ FTy.f32 1065353216#32))
                    (Host.exp
                      (Host.negf
                        (Host.negf (shapeCast S8x2048x4x128
                              (extractStridedSlice S16384x512 ![0, 3584] z
                                slices_S16384x9216_S16384x512_0_3584)
                              shapeCasts_S16384x512_S8x2048x4x128))))))

theorem entry1 (m : (ℓ : Loc nD τ sig) → Buf (Elt Ideal) ℓ) (c : Dev nD) : (entryContents preI m c (Proc.devRef .tc main_v47_1) : FVec Ideal S32x8x4x64x128 .f32)
    = stackOf (entK (launchContents m c (Proc.tc.devRef main_arg0)) (launchContents m c (Proc.tc.devRef main_arg1))) := by
  simp only [entryContents, preI, afterL_cons, afterL_nil]
  after_results
  rfl

def entV (z : FVec Ideal S16384x9216 .f32) : FVec Ideal S8x2048x4x128 .f32 :=
  shapeCast S8x2048x4x128 (extractStridedSlice S16384x512 ![0, 4096] z slices_S16384x9216_S16384x512_0_4096) shapeCasts_S16384x512_S8x2048x4x128
theorem entry2 (m : (ℓ : Loc nD τ sig) → Buf (Elt Ideal) ℓ) (c : Dev nD) : (entryContents preI m c (Proc.devRef .tc main_v47_2) : FVec Ideal S32x8x4x64x128 .f32)
    = stackOf (entV (launchContents m c (Proc.tc.devRef main_arg0))) := by
  simp only [entryContents, preI, afterL_cons, afterL_nil]
  after_results
  rfl

def entQ (z : FVec Ideal S16384x9216 .f32) : FVec Ideal S8x2048x4x128 .f32 :=
  shapeCast S8x2048x4x128 (mulf (extractStridedSlice S16384x512 ![0, 3072] z slices_S16384x9216_S16384x512_0_3072)
    (Host.divf (broadcastInDim S16384x512 ![] bcast_S_S16384x512 (constant S_ FTy.f32 1065353216#32))
      (addf (broadcastInDim S16384x512 ![] bcast_S_S16384x512 (constant S_ FTy.f32 1065353216#32)) (Host.exp (Host.negf
        (extractStridedSlice S16384x512 ![0, 3072] z slices_S16384x9216_S16384x512_0_3072)))))) shapeCasts_S16384x512_S8x2048x4x128
theorem entry0 (m : (ℓ : Loc nD τ sig) → Buf (Elt Ideal) ℓ) (c : Dev nD) : (entryContents preI m c (Proc.devRef .tc main_v47_0) : FVec Ideal S32x8x4x64x128 .f32)
    = stackOf (entQ (launchContents m c (Proc.tc.devRef main_arg0))) := by
  simp only [entryContents, preI, afterL_cons, afterL_nil]
  after_results
  rfl

/-! The stacks at an index. -/

section chunkStacks

variable (z : FVec Ideal S16384x9216 .f32) (lb : FVec Ideal S512 .f32)

abbrev zAt : Fin 16384 → Fin 9216 → EReal := fun r c => z (ix2 r c)
abbrev lbAt : Fin 512 → EReal := fun k => lb (ix1 k)

variable (t : Fin 32) (b : Fin 8) (h : Fin 4) (i : Fin 64) (k : Fin 128)

theorem row_mk (p : b.val * 2048 + (t.val * 64 + i.val) < 16384) : (⟨b.val * 2048 + (t.val * 64 + i.val), p⟩ : Fin 16384) = rowIx b t.val i :=
  Fin.ext (rowIx_val b t.val t.isLt i).symm
theorem lane_mk (o : ℕ) (ho : o ≤ 8704) (p : o + (h.val * 128 + k.val) < 9216) : (⟨o + (h.val * 128 + k.val), p⟩ : Fin 9216) = laneIx o h k :=
  Fin.ext (laneIx_val o ho h k).symm

theorem stackK : stackOf (entK z lb) (ix5 t b h i k) = kRows (zAt z) (lbAt lb) b h t.val i k := by
  rw [stackOf_apply]
  unfold entK
  pointwise []
  rw [row_mk, lane_mk _ _ _ (by decide)]
  rfl

theorem stackG : stackOf (entG z lb) (ix5 t b h i k) = gRows (zAt z) (lbAt lb) b h t.val i k := by
  rw [stackOf_apply]
  unfold entG
  pointwise []
  rw [row_mk, lane_mk _ _ _ (by decide)]
  rfl

theorem stackQ : stackOf (entQ z) (ix5 t b h i k) = qRows (zAt z) b h t.val i k := by
  rw [stackOf_apply]
  unfold entQ
  pointwise []
  rw [row_mk, lane_mk _ _ _ (by decide)]
  rfl

theorem stackV : stackOf (entV z) (ix5 t b h i k) = vRows (zAt z) b h t.val i k := by
  rw [stackOf_apply]
  unfold entV
  pointwise []
  rw [row_mk, lane_mk _ _ _ (by decide)]
  rfl

end chunkStacks

/-! The loop. -/

section loop

variable (m : (ℓ : Loc nD τ sig) → Buf (Elt Ideal) ℓ) (c : Dev nD)

abbrev zBuf : FVec Ideal S16384x9216 .f32 := launchContents m c (Proc.tc.devRef main_arg0)
abbrev lbBuf : FVec Ideal S512 .f32 := launchContents m c (Proc.tc.devRef main_arg1)
abbrev gonBuf : FVec Ideal S512 .f32 := launchContents m c (Proc.tc.devRef main_arg2)

/-- The buffers before trip `n`. -/
abbrev atTrip (n : ℕ) : Valuation τ sig (Elt Ideal) := STEP^[n] (entryContents preI m c)

theorem atTrip_succ (n : ℕ) : atTrip m c (n + 1) = STEP (atTrip m c n) := Function.iterate_succ_apply' _ _ _

theorem at0 (n : ℕ) : atTrip m c n (Proc.devRef .tc main_v47_0) = stackOf (entQ (zBuf m c)) := by
  induction n with
  | zero => exact entry0 m c
  | succ n ih => rw [atTrip_succ, STEP_main_v47_0, ih]
theorem at1 (n : ℕ) : atTrip m c n (Proc.devRef .tc main_v47_1) = stackOf (entK (zBuf m c) (lbBuf m c)) := by
  induction n with
  | zero => exact entry1 m c
  | succ n ih => rw [atTrip_succ, STEP_main_v47_1, ih]
theorem at2 (n : ℕ) : atTrip m c n (Proc.devRef .tc main_v47_2) = stackOf (entV (zBuf m c)) := by
  induction n with
  | zero => exact entry2 m c
  | succ n ih => rw [atTrip_succ, STEP_main_v47_2, ih]
theorem at3 (n : ℕ) : atTrip m c n (Proc.devRef .tc main_v47_3) = stackOf (entG (zBuf m c) (lbBuf m c)) := by
  induction n with
  | zero => exact entry3 m c
  | succ n ih => rw [atTrip_succ, STEP_main_v47_3, ih]
theorem at4 (n : ℕ) : atTrip m c n (Proc.devRef .tc main_v47_4) = trilOf := by
  induction n with
  | zero => exact entry4 m c
  | succ n ih => rw [atTrip_succ, STEP_main_v47_4, ih]
theorem at5 (n : ℕ) : atTrip m c n (Proc.devRef .tc main_v47_5) = constantI S_ 32 (BitVec.ofNat 32 n) := by
  induction n with
  | zero => exact entry5 m c
  | succ n ih =>
    rw [atTrip_succ, STEP_main_v47_5]
    unfold step_main_v47_5
    rw [ih]
    funext i
    show BitVec.ofNat 32 n + 1#32 = BitVec.ofNat 32 (n + 1)
    rw [BitVec.ofNat_add]

theorem row_sum (n : Fin 32) (b : Fin 8) (h : Fin 4) (i : Fin 64) (k : Fin 128) :
    cumOf (winOf (stackOf (entG (zBuf m c) (lbBuf m c))) (word n)) (ix4 b h i k)
      = cum (gRows (zAt (zBuf m c)) (lbAt (lbBuf m c)) b h n.val) i k := by
  rw [cumOf_apply]
  simp only [winOf_apply, stackG]
  rfl

theorem at6 (n : ℕ) (hn : n ≤ 32) (b : Fin 8) (h : Fin 4) (k v : Fin 128) :
    (atTrip m c n (Proc.devRef .tc main_v47_6) : FVec Ideal S8x4x128x128 .f32) (ix4 b h k v)
      = stateOf (zAt (zBuf m c)) (lbAt (lbBuf m c)) b h n k v := by
  induction n generalizing k v with
  | zero =>
    refine (congrFun (entry6 m c) _).trans ?_
    pointwise []
    rfl
  | succ n ih =>
    have ih' := ih (by omega)
    obtain ⟨t, ht⟩ : ∃ t : Fin 32, t.val = n := ⟨⟨n, by omega⟩, rfl⟩
    rw [atTrip_succ, STEP_main_v47_6, step6, at1, at2, at3, at5, ← ht]
    refine (stepS_apply _ _ _ _ b h k v).trans ?_
    simp only [winOf_apply, row_sum, stackK, stackV]
    rw [ht, ih']
    rfl

theorem at7 (n : ℕ) (hn : n ≤ 32) (t : Fin 32) (ht : t.val < n) (b : Fin 8) (h : Fin 4) (i : Fin 64) (v : Fin 128) :
    (atTrip m c n (Proc.devRef .tc main_v47_7) : FVec Ideal S32x8x4x64x128 .f32) (ix5 t b h i v)
      = oRows (zAt (zBuf m c)) (lbAt (lbBuf m c)) b h t.val i v := by
  induction n with
  | zero => omega
  | succ n ih =>
    obtain ⟨t', ht'⟩ : ∃ t' : Fin 32, t'.val = n := ⟨⟨n, by omega⟩, rfl⟩
    rw [atTrip_succ, STEP_main_v47_7, step7, res68, res69, res70, res72, at0, at1, at2, at3, at4, at5, ← ht']
    refine (put_apply _ _ t' t b h i v).trans ?_
    by_cases e : t = t'
    · subst e
      rw [if_pos rfl]
      refine (stepO_apply _ _ _ _ _ _ b h i v).trans ?_
      simp only [winOf_apply, row_sum, stackK, stackV, stackQ, trilOf_apply, negInf]
      simp only [fun k => at6 m c t.val (by omega) b h k v]
      rfl
    · rw [if_neg e, ht']
      exact ih (by omega) (by have : t.val ≠ t'.val := fun q => e (Fin.ext q); omega)

/-- The chunks' rows in order. -/
def flatOf (o : FVec Ideal S32x8x4x64x128 .f32) : FVec Ideal S8x2048x4x128 .f32 :=
  shapeCast S8x2048x4x128 (transpose S8x32x64x4x128 [1, 0, 3, 2, 4] o transposes_S32x8x4x64x128_S8x32x64x4x128_1_0_3_2_4) shapeCasts_S8x32x64x4x128_S8x2048x4x128

theorem flatOf_apply (o : FVec Ideal S32x8x4x64x128 .f32) (b : Fin 8) (l : Fin 2048) (h : Fin 4) (v : Fin 128) :
    flatOf o (ix4 b l h v) = o (ix5 ⟨l.val / 64, by have := l.isLt; omega⟩ b h ⟨l.val % 64, by omega⟩ v) := by
  unfold flatOf
  pointwise []

def finish (z : FVec Ideal S16384x9216 .f32) (gon : FVec Ideal S512 .f32) (o : FVec Ideal S32x8x4x64x128 .f32) : FVec Ideal S16384x512 .f32 :=
  mulf
      (shapeCast S16384x512
        (mulf
          (mulf (flatOf o)
            (broadcastInDim S8x2048x4x128 ![0, 1, 2, 3] bcast_S8x2048x4x1_S8x2048x4x128_0_1_2_3
              (Host.rsqrt
                (addf
                  (Host.divf
                    (broadcastInDim S8x2048x4x1 ![0, 1, 2] bcast_S8x2048x4_S8x2048x4x1_0_1_2
                      (Host.reduceAdd (mulf (flatOf o) (flatOf o))
                        (constant S_ FTy.f32 0#32) reducesTo_S8x2048x4x128_S8x2048x4_d3 h_S_))
                    (broadcastInDim S8x2048x4x1 ![] bcast_S_S8x2048x4x1 (constant S_ FTy.f32 1124073472#32)))
                  (broadcastInDim S8x2048x4x1 ![] bcast_S_S8x2048x4x1 (constant S_ FTy.f32 897988541#32))))))
          (broadcastInDim S8x2048x4x128 ![0, 1, 2, 3] bcast_S1x1x4x128_S8x2048x4x128_0_1_2_3
            (broadcastInDim S1x1x4x128 ![2, 3] bcast_S4x128_S1x1x4x128_2_3
              (shapeCast S4x128 gon shapeCasts_S512_S4x128))))
        shapeCasts_S8x2048x4x128_S16384x512)
      (mulf
        (extractStridedSlice S16384x512 ![0, 4608] z slices_S16384x9216_S16384x512_0_4608)
        (Host.divf (broadcastInDim S16384x512 ![] bcast_S_S16384x512 (constant S_ FTy.f32 1065353216#32))
          (addf (broadcastInDim S16384x512 ![] bcast_S_S16384x512 (constant S_ FTy.f32 1065353216#32))
            (Host.exp
              (Host.negf
                (extractStridedSlice S16384x512 ![0, 4608] z slices_S16384x9216_S16384x512_0_4608))))))

theorem out_eq (V0 : Valuation τ sig (Elt Ideal)) : out_main_v67 V0 = finish (V0 (Proc.devRef .tc main_arg0)) (V0 (Proc.devRef .tc main_arg2)) (V0 (Proc.devRef .tc main_v47_7)) := by
  unfold out_main_v67 finish flatOf
  rfl

theorem finish_apply (z : FVec Ideal S16384x9216 .f32) (gon : FVec Ideal S512 .f32) (o : FVec Ideal S32x8x4x64x128 .f32) (n : Fin 32) (b : Fin 8) (h : Fin 4) (i : Fin 64) (v : Fin 128)
    (r : Fin 16384) (cc : Fin 512) (e : r.val = b.val * 2048 + (n.val * 64 + i.val)) (ec : cc.val = h.val * 128 + v.val) :
    finish z gon o (ix2 r cc) = normed (fun u => o (ix5 n b h i u)) (fun k => gon (ix1 (headIx h k))) (fun k => z (ix2 r (laneIx 4608 h k))) v := by
  have hi := i.isLt
  have hv := v.isLt
  have ho : ∀ u, flatOf o (ix4 b ⟨n.val * 64 + i.val, by have := n.isLt; omega⟩ h u) = o (ix5 n b h i u) := fun u => by
    rw [flatOf_apply]
    congr 1
    congr 1 <;> exact Fin.ext (by simp only; omega)
  unfold finish
  generalize flatOf o = f at *
  pointwise []
  have c0 : ∀ p, (⟨r.val / 2048, p⟩ : Fin 8) = b := fun p => Fin.ext (by simp only; have := n.isLt; omega)
  have c1 : ∀ p, (⟨r.val % 2048, p⟩ : Fin 2048) = ⟨n.val * 64 + i.val, by have := n.isLt; omega⟩ := fun p => Fin.ext (by simp only; have := n.isLt; omega)
  have c2 : ∀ p, (⟨cc.val / 128, p⟩ : Fin 4) = h := fun p => Fin.ext (by simp only; omega)
  have c3 : ∀ p, (⟨cc.val % 128, p⟩ : Fin 128) = v := fun p => Fin.ext (by simp only; omega)
  have c4 : ∀ p, (⟨4608 + cc.val, p⟩ : Fin 9216) = laneIx 4608 h v := fun p => Fin.ext (by rw [laneIx_val _ (by decide), ← ec])
  have c5 : cc = headIx h v := Fin.ext ec
  simp only [c0, c1, c2, c3, c4, ho]
  rw [c5]
  rfl

/-- The reference's two results and its arguments. -/
theorem run_rows (m : (ℓ : Loc nD τ sig) → Buf (Elt Ideal) ℓ) (ρ : Dev nD → PrngReg) :
    θ_run defs (onTc main) { mem := m, sem := fun _ => 0, prng := ρ } fun r => ∀ c : Dev nD,
      (∀ (n : Fin 32) (b : Fin 8) (h : Fin 4) (i : Fin 64) (v : Fin 128) (p : Fin 16384) (cc : Fin 512),
        p.val = b.val * 2048 + (n.val * 64 + i.val) → cc.val = h.val * 128 + v.val →
        (r.2.mem ((c.tc : Thread nD τ).loc main_v67) : FVec Ideal S16384x512 .f32) (ix2 p cc)
          = yRows (zAt (zBuf m c)) (lbAt (lbBuf m c)) (lbAt (gonBuf m c)) b h n.val i v)
      ∧ (∀ (b : Fin 8) (h : Fin 4) (k v : Fin 128), (r.2.mem ((c.tc : Thread nD τ).loc main_v47_6) : FVec Ideal S8x4x128x128 .f32) (ix4 b h k v)
          = stateOf (zAt (zBuf m c)) (lbAt (lbBuf m c)) b h 32 k v)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨fun n b hd i v p cc e ec => by
      rw [(h c).1, out_eq, iter_main_arg0, iter_main_arg2]
      refine (finish_apply _ _ _ n b hd i v p cc e ec).trans ?_
      have hp : p = rowIx b n.val i := Fin.ext (e.trans (rowIx_val b n.val n.isLt i).symm)
      have ho : (fun u => (atTrip m c 32 (Proc.devRef .tc main_v47_7) : FVec Ideal S32x8x4x64x128 .f32) (ix5 n b hd i u))
          = oRows (zAt (zBuf m c)) (lbAt (lbBuf m c)) b hd n.val i := funext fun u => at7 m c 32 (le_refl _) n n.isLt b hd i u
      subst hp
      unfold yRows
      rw [← ho],
    fun b hd k v => (congrFun (h c).2.1 _).trans (at6 m c 32 (le_refl _) b hd k v), (h c).2.2⟩) (run m ρ)

end loop

end Cert.ReferenceIdeal.Value
-- ==== Proof.Prompt.lean ====
/-
  The recurrence over the prompts: with finite gate lanes and bounds between 0 and 1, the kernel's rows and states are the reference's.
-/
module

public import proofs.«01_k».proof.Defs
public import proofs.«01_k».proof.Proof.Prompt.Blocks
public import proofs.«01_k».proof.Proof.Prompt.RefStep

@[expose] public section

set_option maxRecDepth 16384

noncomputable section

namespace Cert.Prompt

open Idealize.ShloMosaic Idealize.ShloMosaic.TcCoe Idealize.ShloMosaic.Tactic Idealize.SL.Sem
open Cert.KernelIdeal Cert.KernelIdeal.Gen

/-- The precondition's side conditions. -/
theorem pre_facts : Cert.Pre_gates_finite.Facts where
  slices_S16384x9216_S16384x512_0_3072 := by decide
  bcast_S_S16384x512 := by decide
  slices_S16384x9216_S16384x512_0_3584 := by decide
  bcast_S_S512 := by decide
  bcast_S512_S1x512_1 := by decide
  bcast_S1x512_S16384x512_0_1 := by decide

theorem bit_and (x y : BitVec 1) (h : IntOp.andi x y = 1#1) : x = 1#1 ∧ y = 1#1 := by
  revert x y
  decide

theorem of_bit (p : Prop) [Decidable p] (h : BitVec.ofBool (decide p) = 1#1) : p := by
  by_contra hp
  rw [decide_eq_false hp] at h
  exact absurd h (by decide)

/-- A value whose size is below the largest is a real number. -/
theorem real_of_abs (x : EReal) (h : max x (-x) < Ideal.ofBits FTy.f32 2139095040#32) : ∃ r : ℝ, x = r := by
  have ht : Ideal.ofBits FTy.f32 2139095040#32 = ⊤ := by simp [Ideal.ofBits, Ideal.ieee]
  rw [ht] at h
  induction x using EReal.rec with
  | bot => exact absurd h (by simp)
  | coe r => exact ⟨r, rfl⟩
  | top => exact absurd h (by simp)

theorem real_of_unit (x : EReal) (h0 : 0 ≤ x) (h1 : x ≤ 1) : ∃ r : ℝ, 0 ≤ r ∧ r ≤ 1 ∧ x = r := by
  induction x using EReal.rec with
  | bot => exact absurd h0 (by simp)
  | coe r => exact ⟨r, by exact_mod_cast h0, by exact_mod_cast h1, rfl⟩
  | top => exact absurd h1 (by simp [← EReal.coe_one])

/-- The precondition at a row and a head's lane. -/
theorem gates [Cert.Pre_gates_finite.Facts] (z : FVec Ideal Cert.Pre_gates_finite.S16384x9216 .f32) (lb gon : FVec Ideal Cert.Pre_gates_finite.S512 .f32)
    (hp : Cert.Pre_gates_finite.fn (F := Ideal) z lb gon = fun _ => 1#1) (r : Fin 16384) (h : Fin 4) (k : Fin 128) :
    (∃ q : ℝ, z (ix2 r (laneIx 3072 h k)) = q) ∧ (∃ f : ℝ, z (ix2 r (laneIx 3584 h k)) = f) ∧ ∃ l : ℝ, 0 ≤ l ∧ l ≤ 1 ∧ lb (ix1 (headIx h k)) = l := by
  have e := congrFun hp (ix2 r (headIx h k))
  unfold Cert.Pre_gates_finite.fn at e
  pointwise at e
  obtain ⟨e, e3⟩ := bit_and _ _ e
  obtain ⟨e, e2⟩ := bit_and _ _ e
  obtain ⟨e0, e1⟩ := bit_and _ _ e
  have l0 : laneIx 3072 h k = ⟨3072 + (headIx h k).val, by have := (headIx h k).isLt; omega⟩ := Fin.ext (laneIx_val 3072 (by decide) h k)
  have l1 : laneIx 3584 h k = ⟨3584 + (headIx h k).val, by have := (headIx h k).isLt; omega⟩ := Fin.ext (laneIx_val 3584 (by decide) h k)
  rw [l0, l1]
  exact ⟨real_of_abs _ (of_bit _ e0), real_of_abs _ (of_bit _ e1), real_of_unit _ (of_bit _ e2) (of_bit _ e3)⟩

section reals
variable (z : Fin 16384 → Fin 9216 → EReal) (lb : Fin 512 → EReal)
  (H : ∀ r h k, (∃ q : ℝ, z r (laneIx 3072 h k) = q) ∧ (∃ f : ℝ, z r (laneIx 3584 h k) = f) ∧ ∃ l : ℝ, 0 ≤ l ∧ l ≤ 1 ∧ lb (headIx h k) = l)
  (b : Fin 8) (h : Fin 4) (n : ℕ) (i : Fin 64) (k : Fin 128)

include H

theorem q_real : ∃ r : ℝ, qRows z b h n i k = r := by
  obtain ⟨⟨q, hq⟩, -, -⟩ := H (rowIx b n i) h k
  refine ⟨q * (1 + Real.exp (-q))⁻¹, ?_⟩
  unfold qRows silu
  rw [hq, Ideal.logistic_coe, ← EReal.coe_mul]

theorem k_real : ∃ r : ℝ, kRows z lb b h n i k = r := by
  obtain ⟨-, ⟨f, hf⟩, l, -, -, hl⟩ := H (rowIx b n i) h k
  refine ⟨(1 - l) * (1 + Real.exp (-(-f)))⁻¹, ?_⟩
  unfold kRows
  rw [hf, hl, ← EReal.coe_neg, Ideal.logistic_coe, ← EReal.coe_one, ← EReal.coe_sub, ← EReal.coe_mul]

theorem g_real : ∃ r : ℝ, gRows z lb b h n i k = r := by
  obtain ⟨-, ⟨f, hf⟩, l, h0, h1, hl⟩ := H (rowIx b n i) h k
  have hp : 0 < l + (1 - l) * (1 + Real.exp (-f))⁻¹ := by
    have hs : 0 < (1 + Real.exp (-f))⁻¹ := by positivity
    rcases eq_or_lt_of_le h0 with rfl | hl0
    · simpa using hs
    · exact add_pos_of_pos_of_nonneg hl0 (mul_nonneg (by linarith) hs.le)
  refine ⟨Real.log (l + (1 - l) * (1 + Real.exp (-f))⁻¹), ?_⟩
  unfold gRows
  rw [hf, hl, Ideal.logistic_coe, ← EReal.coe_one, ← EReal.coe_sub, ← EReal.coe_mul, ← EReal.coe_add, Ideal.log_coe, if_neg (not_le.mpr hp)]

end reals

theorem algebraic [Cert.Pre_gates_finite.Facts] : Cert.algebraic_KernelIdeal_ReferenceIdeal_pre_gates_finite := by
  intro m g m' g' hp hag
  have H : ∀ c r h k, (∃ q : ℝ, zK m c r (laneIx 3072 h k) = q) ∧ (∃ f : ℝ, zK m c r (laneIx 3584 h k) = f)
      ∧ ∃ l : ℝ, 0 ≤ l ∧ l ≤ 1 ∧ lbV m c (headIx h k) = l := fun c r h k => gates _ _ _ (hp c) r h k
  have hG := fun c => g_real (zK m c) (lbV m c) (H c)
  have hK := fun c => k_real (zK m c) (lbV m c) (H c)
  have hQ := fun c => q_real (zK m c) (lbV m c) (H c)
  refine ⟨fun c => (dats m 0 c).arrAt 6 cfg0.N, fun c => (dats m 0 c).arrAt 7 cfg0.N, run_blocks m g, ?_⟩
  refine (θ_run _ _ _).mono (fun r h c => ⟨Eq.trans ?_ (arr_rows m c (hG c) (hK c) (hQ c)).symm, Eq.trans ?_ (arr_state m c (hG c)).symm, (h c).2.2⟩)
    (Cert.ReferenceIdeal.Value.run_rows m' g')
  · obtain ⟨a0, a1, a2⟩ := hag c
    have ez : Cert.ReferenceIdeal.Value.zAt (Cert.ReferenceIdeal.Value.zBuf m' c) = zK m c := funext fun r => funext fun l => congrFun a0 (ix2 r l)
    have el : Cert.ReferenceIdeal.Value.lbAt (Cert.ReferenceIdeal.Value.lbBuf m' c) = lbV m c := funext fun l => congrFun a1 (ix1 l)
    have eg : Cert.ReferenceIdeal.Value.lbAt (Cert.ReferenceIdeal.Value.gonBuf m' c) = gonV m c := funext fun l => congrFun a2 (ix1 l)
    have hr := (h c).1
    rw [ez, el, eg] at hr
    funext j
    obtain ⟨p, hp0⟩ : ∃ p : Fin 16384, p = j (0 : Fin 2) := ⟨_, rfl⟩
    obtain ⟨l, hl0⟩ : ∃ l : Fin 512, l = j (1 : Fin 2) := ⟨_, rfl⟩
    have ej : j = ix2 p l := funext fun a => by fin_cases a; exacts [hp0.symm, hl0.symm]
    have hpl := p.isLt
    have hll := l.isLt
    rw [ej]
    refine (hr ⟨chunkAt p, by unfold chunkAt; omega⟩ (seqAt p) (headAt l) (placeAt p) (laneAt l) p l ?_ ?_).trans rfl
    · show p.val = p.val / 2048 * 2048 + (p.val % 2048 / 64 * 64 + p.val % 64); omega
    · show l.val = l.val / 128 * 128 + l.val % 128; omega
  · obtain ⟨a0, a1, a2⟩ := hag c
    have ez : Cert.ReferenceIdeal.Value.zAt (Cert.ReferenceIdeal.Value.zBuf m' c) = zK m c := funext fun r => funext fun l => congrFun a0 (ix2 r l)
    have el : Cert.ReferenceIdeal.Value.lbAt (Cert.ReferenceIdeal.Value.lbBuf m' c) = lbV m c := funext fun l => congrFun a1 (ix1 l)
    have hr := (h c).2.1
    rw [ez, el] at hr
    funext j
    have ej : j = ix4 (j (0 : Fin 4)) (j (1 : Fin 4)) (j (2 : Fin 4)) (j (3 : Fin 4)) := funext fun a => by fin_cases a <;> rfl
    rw [ej]
    exact hr (j (0 : Fin 4)) (j (1 : Fin 4)) (j (2 : Fin 4)) (j (3 : Fin 4))

end Cert.Prompt
end
-- ==== Proof.Proj.lean ====
/-
  The input projection: the first of the six points of a row block stores the normalised rows in the scratch, the other
  five read them; so after every point the scratch holds the normalised rows of the point's row block, and each point
  writes their product with its columns of the weight.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Quiescent
public import Idealize.ShloMosaic.Lib.Tactic

@[expose] public section

set_option maxRecDepth 16384

noncomputable section

namespace Cert.Proj

open Idealize.ShloMosaic Idealize.ShloMosaic.TcCoe Idealize.SL.Sem
open Cert.Kernel2Ideal Cert.Kernel2Ideal.Gen

theorem hz : (![0, 0] : Fin 2 → Nat) = fun _ => 0 := funext fun a => by fin_cases a <;> rfl

section
variable {F : FTy → Type} [FloatOps F]

/-- The first point of a row block leaves the normalised rows in the scratch. -/
theorem scratch_first (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x1536 .bf16) (h4 : a4.IsWhole)
    (a5 : Memref sig .tc .vmem S1024x1536 .f32) (h5 : a5.IsWhole) (a6 : Memref sig .tc .vmem S1024x1024 .bf16)
    (h6 : a6.IsWhole) (hc : cond0_0 i) (x0 : Vec F S1024x1024 .f32) (x1 : Vec F S1x1024 .f32) (x2 : Vec F S1024x1536 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  try sl_unfold_words
  rw [View.canon_unit_zero hz]
  simp only [View.readAt_eq_ld, h2.read_unread, h3.read_unread, View.ld_unit_zero (S := S1024x1024) hz,
    View.ld_unit_zero (S := S1x1024) hz]

/-- The first point writes the product of those rows with its columns of the weight. -/
theorem out_first (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x1536 .bf16) (h4 : a4.IsWhole)
    (a5 : Memref sig .tc .vmem S1024x1536 .f32) (h5 : a5.IsWhole) (a6 : Memref sig .tc .vmem S1024x1024 .bf16)
    (h6 : a6.IsWhole) (hc : cond0_0 i) (x0 : Vec F S1024x1024 .f32) (x1 : Vec F S1x1024 .f32) (x2 : Vec F S1024x1536 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  try sl_unfold_words
  rw [View.canon_unit_zero hz, View.readCov_unit_zero (S := S1024x1024) _ hz]
  simp only [View.readAt_eq_ld, h2.read_unread, h3.read_unread, h4.read_unread, View.ld_unit_zero (S := S1024x1024) hz,
    View.ld_unit_zero (S := S1x1024) hz, View.ld_unit_zero (S := S1024x1536) hz]

/-- A later point writes the product of what the scratch holds with its columns of the weight. -/
theorem out_later (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x1536 .bf16) (h4 : a4.IsWhole)
    (a5 : Memref sig .tc .vmem S1024x1536 .f32) (h5 : a5.IsWhole) (a6 : Memref sig .tc .vmem S1024x1024 .bf16)
    (h6 : a6.IsWhole) (hc : ¬cond0_0 i) (x0 : Vec F S1024x1024 .f32) (x1 : Vec F S1x1024 .f32) (x2 : Vec F S1024x1536 .bf16)
    (s : Vec F S1024x1024 .bf16) :
    out0_B_3 c i a2 h2 a3 h3 a4 h4 a5 h5 a6 h6 hc x0 x1 x2 s = k0_pay2 s x2 := by
  unfold out0_B_3
  rw [View.read_writes_eq_canon _ _ _ (cover0_B_3 c i a2 h2 a3 h3 a4 h4 a5 h5 a6 h6 hc x0 x1 x2 s)]
  unfold kernelRun0_B
  dsimp only
  try sl_unfold_words
  rw [View.canon_unit_zero hz]
  simp only [View.readAt_eq_ld, h6.read_unread, h4.read_unread, View.ld_unit_zero (S := S1024x1024) hz,
    View.ld_unit_zero (S := S1024x1536) hz]

end

/-- A normalised row, entry by entry. -/
def normed (x : Vec Ideal S16384x1024 .f32) (g : Vec Ideal S1024 .f32) (r : Fin 16384) (k : Fin 1024) : EReal :=
  x (ix2 r k) * Ideal.rsqrt (Ideal.div (∑ l : Fin 1024, x (ix2 r l) * x (ix2 r l)) (Ideal.ofBits .f32 0x44800000#32)
    + Ideal.ofBits .f32 0x358637BD#32) * g (ix1 k)

/-- The projection, entry by entry. -/
def projected (x : Vec Ideal S16384x1024 .f32) (g : Vec Ideal S1024 .f32) (w : Vec Ideal S1024x9216 .bf16) :
    Vec Ideal S16384x9216 .f32 := fun j => ∑ k : Fin 1024, normed x g (j 0) k * w (ix2 k (j 1))

/-- Where each window stands at a grid point. -/
theorem idx : ∀ t : Fin cfg0.N, win0_0.index t = ![t.val / 6, 0] ∧ win0_1.index t = ![0, 0]
    ∧ win0_2.index t = ![0, t.val % 6] ∧ win0_3.index t = ![t.val / 6, t.val % 6] :=
  (by decide +kernel : ∀ t : Fin grid0.N, _)

variable (m : (ℓ : Loc nD τ sig) → Buf (Elt Ideal) ℓ)

theorem first_rows (c : Dev nD) (t : Fin cfg0.N) (y : S1024x1024.Idx) (r : Fin 16384) (hr : r.val = 1024 * (t.val / 6) + (y 0).val) :
    k0_pay1 (iblk m c 0 t) (iblk m c 1 t) y = normed (m (c.tc.loc main_arg0)) (m (c.tc.loc main_arg1)) r (y 1) := by
  obtain ⟨i0, i1, i2, i3⟩ := idx t
  pointwise [k0_pay1, normed]
  blk_point [iblk, V, i0, i1, i2, i3, hr]

theorem scratch_rows (c : Dev nD) : ∀ (n : ℕ) (h : n < cfg0.N) (y : S1024x1024.Idx) (r : Fin 16384)
    (hr : r.val = 1024 * (n / 6) + (y 0).val),
    (outsAt0 m c n h).2 y = normed (m (c.tc.loc main_arg0)) (m (c.tc.loc main_arg1)) r (y 1) := by
  intro n
  induction n with
  | zero =>
    intro h y r hr
    rw [outsAt0_A m c ⟨0, h⟩ rfl]
    dsimp only
    rw [scratch_first]
    exact first_rows m c ⟨0, h⟩ y r hr
  | succ n ih =>
    intro h y r hr
    by_cases h0 : (n + 1) % 6 = 0
    · rw [outsAt0_A m c ⟨n + 1, h⟩ h0]
      dsimp only
      rw [scratch_first]
      exact first_rows m c ⟨n + 1, h⟩ y r hr
    · rw [outsAt0_B m c ⟨n + 1, h⟩ h0]
      dsimp only [sout0_B_0, Nat.add_sub_cancel]
      exact ih (by omega) y r (by omega)

theorem arr_eq (c : Dev nD) : (dats m 0 c).arrAt 3 cfg0.N
    = projected (m (c.tc.loc main_arg0)) (m (c.tc.loc main_arg1)) (m (c.tc.loc main_arg2)) := by
  refine (dats m 0 c).arrAt_eq_of_covers 3 _ (by decide +kernel) fun t hf y => ?_
  blk_simp
  rw [after0_3]
  have hN : cfg0.N = 96 := N_0
  have hout : (outsAt0 m c t.val t.isLt).1 = k0_pay2 (outsAt0 m c t.val t.isLt).2 (iblk m c 2 t) := by
    by_cases h0 : t.val % 6 = 0
    · rw [outsAt0_A m c t h0]; dsimp only; rw [out_first, scratch_first]
    · rw [outsAt0_B m c t h0]; dsimp only; rw [out_later]; rfl
  obtain ⟨i0, i1, i2, i3⟩ := idx t
  rw [hout]
  pointwise [k0_pay2, projected]
  refine Finset.sum_congr (M := EReal) rfl fun k _ => congrArg₂ (fun s u : EReal => s * u) ?_ ?_
  · refine scratch_rows m c t.val t.isLt _ _ ?_
    blk_simp [i3]
    exact congrArg (· + _) (Nat.mul_comm _ _)
  · blk_ext! [iblk, V, i2, i3]

theorem algebraic : Cert.algebraic_Kernel2Ideal_Reference2Ideal := by
  intro m g m' g' _ hag
  refine ⟨fun c => (dats m 0 c).arrAt 3 cfg0.N, Cert.Kernel2Ideal.Value.run_blocks m g, ?_⟩
  refine (θ_run _ _ _).mono (fun r h c => ⟨(h c).1.trans ?_, (h c).2⟩) (Cert.Reference2Ideal.Value.run m' g')
  obtain ⟨h0, h1, h2⟩ := hag c
  rw [h0, h1, h2]
  refine Eq.trans ?_ (arr_eq m c).symm
  clear h h0 h1 h2
  funext j
  generalize m (c.tc.loc main_arg0) = x0
  generalize m (c.tc.loc main_arg1) = x1
  generalize m (c.tc.loc main_arg2) = x2
  pointwise [projected, normed]

end Cert.Proj
-- ==== Proof.Merge.lean ====
/-
  The merge call: each grid point's block of the result is the reference's rows of that block. The kernel adds the three
  gated products one after the other where the reference sums a stacked axis of length three, and the reference's stacked
  product has its factors in the other order.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Quiescent

@[expose] public section

set_option maxRecDepth 16384

noncomputable section

namespace Cert.Merge

open Idealize.ShloMosaic Idealize.ShloMosaic.TcCoe Idealize.SL.Sem
open Cert.Kernel3Ideal Cert.Kernel3Ideal.Gen

/-- Gate `n` of a row: the logistic of the row's block of 1024 lanes number `n`. -/
def gate (z : Vec Ideal S16384x9216 .f32) (n : Fin 3) (r : Fin 16384) (k : Fin 1024) : EReal :=
  Ideal.logistic (z (ix2 r ⟨1024 * n.val + k.val, by omega⟩))

/-- `v` times its logistic. -/
def silu (v : EReal) : EReal := v * Ideal.logistic v

/-- The merge, entry by entry. -/
def merged (x : Vec Ideal S16384x1024 .f32) (ya yb yc : Vec Ideal S16384x512 .f32) (z : Vec Ideal S16384x9216 .f32)
    (wb : Vec Ideal S3x512x1024 .bf16) (wo : Vec Ideal S1024x1024 .bf16) : Vec Ideal S16384x1024 .f32 := fun j =>
  x j + ∑ k : Fin 1024,
    (gate z 0 (j 0) k * (∑ l : Fin 512, ya (ix2 (j 0) l) * wb (ix3 0 l k))
      + gate z 1 (j 0) k * (∑ l : Fin 512, yb (ix2 (j 0) l) * silu (z (ix2 (j 0) ⟨6656 + l.val, by omega⟩)) * wb (ix3 1 l k))
      + gate z 2 (j 0) k * (∑ l : Fin 512, yc (ix2 (j 0) l) * silu (z (ix2 (j 0) ⟨7168 + l.val, by omega⟩)) * wb (ix3 2 l k)))
      * wo (ix2 k (j 1))

/-- Where each window stands at a grid point. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 13] ∧ win0_5.index t = ![(grid0.coords t 0).val, 14]
    ∧ win0_6.index t = ![(grid0.coords t 0).val, 0] ∧ win0_7.index t = ![(grid0.coords t 0).val, 1]
    ∧ win0_8.index t = ![(grid0.coords t 0).val, 2] ∧ win0_9.index t = ![0, 0, 0] ∧ win0_10.index t = ![0, 0]
    ∧ win0_11.index t = ![(grid0.coords t 0).val, 0] :=
  (by decide +kernel : ∀ t : Fin grid0.N, _)

variable (m : (ℓ : Loc nD τ sig) → Buf (Elt Ideal) ℓ)

theorem arr_eq (c : Dev nD) : (dats m 0 c).arrAt 11 cfg0.N
    = merged (m (c.tc.loc main_arg0)) (m (c.tc.loc main_arg1)) (m (c.tc.loc main_arg2)) (m (c.tc.loc main_arg3))
        (m (c.tc.loc main_arg4)) (m (c.tc.loc main_arg5)) (m (c.tc.loc main_arg6)) := by
  refine (dats m 0 c).arrAt_eq_of_covers 11 _ (by decide +kernel) fun t hf y => ?_
  blk_simp
  rw [after0_11]
  frame_out
  pointwise [k0_pay1, k0_pay2, k0_pay3, k0_pay4, k0_pay5, merged, gate, silu]
  obtain ⟨i0, i1, i2, i3, i4, i5, i6, i7, i8, i9, i10, i11⟩ := idx t
  blk_point [iblk, V, i0, i1, i2, i3, i4, i5, i6, i7, i8, i9, i10, i11]

theorem algebraic : Cert.algebraic_Kernel3Ideal_Reference3Ideal := by
  intro m g m' g' _ hag
  refine ⟨fun c => (dats m 0 c).arrAt 11 cfg0.N, Cert.Kernel3Ideal.Value.run_blocks m g, ?_⟩
  refine (θ_run _ _ _).mono (fun r h c => ⟨(h c).1.trans ?_, (h c).2⟩) (Cert.Reference3Ideal.Value.run m' g')
  obtain ⟨h0, h1, h2, h3, h4, h5, h6⟩ := hag c
  rw [h0, h1, h2, h3, h4, h5, h6]
  refine Eq.trans ?_ (arr_eq m c).symm
  clear h h0 h1 h2 h3 h4 h5 h6
  funext j
  generalize m (c.tc.loc main_arg0) = x0
  generalize m (c.tc.loc main_arg1) = x1
  generalize m (c.tc.loc main_arg2) = x2
  generalize m (c.tc.loc main_arg3) = x3
  generalize m (c.tc.loc main_arg4) = x4
  generalize m (c.tc.loc main_arg5) = x5
  generalize m (c.tc.loc main_arg6) = x6
  pointwise [merged, gate, silu]
  simp only [Fin.sum_univ_three]
  refine congrArg (HAdd.hAdd (α := EReal) (x0 j)) (Finset.sum_congr rfl fun k _ => congrArg (fun s : EReal => s * x6 (ix2 k (j 1))) ?_)
  simp only [Ideal.logistic]
  refine congrArg₂ (fun s u : EReal => s + u) (congrArg₂ (fun s u : EReal => s + u) ?_ ?_) ?_ <;>
    exact congrArg₂ (fun s u : EReal => s * u) rfl (Finset.sum_congr rfl fun l _ => mul_comm _ _)

end Cert.Merge
-- ==== Proof.MergeRows.lean ====
/-
  The merge call of the sample batch: its one block of 32 rows is the reference's. The kernel adds the three
  gated products one after the other where the reference sums a stacked axis of length three, and the reference's stacked
  product has its factors in the other order.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Quiescent

@[expose] public section

set_option maxRecDepth 16384

noncomputable section

namespace Cert.MergeRows

open Idealize.ShloMosaic Idealize.ShloMosaic.TcCoe Idealize.SL.Sem
open Cert.Kernel5Ideal Cert.Kernel5Ideal.Gen

/-- Gate `n` of a row: the logistic of the row's block of 1024 lanes number `n`. -/
def gate (z : Vec Ideal S32x9216 .f32) (n : Fin 3) (r : Fin 32) (k : Fin 1024) : EReal :=
  Ideal.logistic (z (ix2 r ⟨1024 * n.val + k.val, by omega⟩))

/-- `v` times its logistic. -/
def silu (v : EReal) : EReal := v * Ideal.logistic v

/-- The merge, entry by entry. -/
def merged (x : Vec Ideal S32x1024 .f32) (ya yb yc : Vec Ideal S32x512 .f32) (z : Vec Ideal S32x9216 .f32)
    (wb : Vec Ideal S3x512x1024 .bf16) (wo : Vec Ideal S1024x1024 .bf16) : Vec Ideal S32x1024 .f32 := fun j =>
  x j + ∑ k : Fin 1024,
    (gate z 0 (j 0) k * (∑ l : Fin 512, ya (ix2 (j 0) l) * wb (ix3 0 l k))
      + gate z 1 (j 0) k * (∑ l : Fin 512, yb (ix2 (j 0) l) * silu (z (ix2 (j 0) ⟨6656 + l.val, by omega⟩)) * wb (ix3 1 l k))
      + gate z 2 (j 0) k * (∑ l : Fin 512, yc (ix2 (j 0) l) * silu (z (ix2 (j 0) ⟨7168 + l.val, by omega⟩)) * wb (ix3 2 l k)))
      * wo (ix2 k (j 1))

/-- Where each window stands at a grid point. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 13] ∧ win0_5.index t = ![(grid0.coords t 0).val, 14]
    ∧ win0_6.index t = ![(grid0.coords t 0).val, 0] ∧ win0_7.index t = ![(grid0.coords t 0).val, 1]
    ∧ win0_8.index t = ![(grid0.coords t 0).val, 2] ∧ win0_9.index t = ![0, 0, 0] ∧ win0_10.index t = ![0, 0]
    ∧ win0_11.index t = ![(grid0.coords t 0).val, 0] :=
  (by decide +kernel : ∀ t : Fin grid0.N, _)

variable (m : (ℓ : Loc nD τ sig) → Buf (Elt Ideal) ℓ)

theorem arr_eq (c : Dev nD) : (dats m 0 c).arrAt 11 cfg0.N
    = merged (m (c.tc.loc main_arg0)) (m (c.tc.loc main_arg1)) (m (c.tc.loc main_arg2)) (m (c.tc.loc main_arg3))
        (m (c.tc.loc main_arg4)) (m (c.tc.loc main_arg5)) (m (c.tc.loc main_arg6)) := by
  refine (dats m 0 c).arrAt_eq_of_covers 11 _ (by decide +kernel) fun t hf y => ?_
  blk_simp
  rw [after0_11]
  frame_out
  pointwise [k0_pay1, k0_pay2, k0_pay3, k0_pay4, k0_pay5, merged, gate, silu]
  obtain ⟨i0, i1, i2, i3, i4, i5, i6, i7, i8, i9, i10, i11⟩ := idx t
  blk_point [iblk, V, i0, i1, i2, i3, i4, i5, i6, i7, i8, i9, i10, i11]

theorem algebraic : Cert.algebraic_Kernel5Ideal_Reference5Ideal := by
  intro m g m' g' _ hag
  refine ⟨fun c => (dats m 0 c).arrAt 11 cfg0.N, Cert.Kernel5Ideal.Value.run_blocks m g, ?_⟩
  refine (θ_run _ _ _).mono (fun r h c => ⟨(h c).1.trans ?_, (h c).2⟩) (Cert.Reference5Ideal.Value.run m' g')
  obtain ⟨h0, h1, h2, h3, h4, h5, h6⟩ := hag c
  rw [h0, h1, h2, h3, h4, h5, h6]
  refine Eq.trans ?_ (arr_eq m c).symm
  clear h h0 h1 h2 h3 h4 h5 h6
  funext j
  generalize m (c.tc.loc main_arg0) = x0
  generalize m (c.tc.loc main_arg1) = x1
  generalize m (c.tc.loc main_arg2) = x2
  generalize m (c.tc.loc main_arg3) = x3
  generalize m (c.tc.loc main_arg4) = x4
  generalize m (c.tc.loc main_arg5) = x5
  generalize m (c.tc.loc main_arg6) = x6
  pointwise [merged, gate, silu]
  simp only [Fin.sum_univ_three]
  refine congrArg (HAdd.hAdd (α := EReal) (x0 j)) (Finset.sum_congr rfl fun k _ => congrArg (fun s : EReal => s * x6 (ix2 k (j 1))) ?_)
  simp only [Ideal.logistic]
  refine congrArg₂ (fun s u : EReal => s + u) (congrArg₂ (fun s u : EReal => s + u) ?_ ?_) ?_ <;>
    exact congrArg₂ (fun s u : EReal => s * u) rfl (Finset.sum_congr rfl fun l _ => mul_comm _ _)

end Cert.MergeRows
-- ==== Proof.Sample.Rows.lean ====
module

public import proofs.«01_k».proof.Proof.Gen.Kernel4Ideal.Value
public import Idealize.ShloMosaic.Lib.Pipeline.ValueKit
public import Idealize.ShloMosaic.Lib.WritesUnit

@[expose] public section

set_option maxRecDepth 16384

noncomputable section

/-! The loop over the sequences of one head: what it leaves in the rows and in the states. -/

namespace Cert.Kernel4Ideal.Gen

open Idealize.ShloMosaic Idealize.ShloMosaic.TcCoe Idealize.ShloMosaic.Tactic
open Idealize.SL Idealize.SL.RA Idealize.SL.BI
open Idealize.SL.Sem

variable {F : FTy → Type} [FloatOps F]

/-- Row `k` of a block of rows. -/
abbrev seqRow (x : Vec F S32x128 .f32) (k : Fin k0_t1_loop.trips) : Vec F S1x128 .f32 :=
  View.ld (Val := Elt F) (e' := .f32) x (Rect.unit (s := S32x128) (k0_off1 k) S1x128.size (k0_off1_inb k))

/-- State `k` of a block of states. -/
abbrev seqState (x : Vec F S32x1x128x128 .f32) (k : Fin k0_t1_loop.trips) : Vec F S1x1x128x128 .f32 :=
  View.ld (Val := Elt F) (e' := .f32) x (Rect.unit (s := S32x1x128x128) (k0_off2 k) S1x1x128x128.size (k0_off2_inb k))

/-- Sequence `k`'s new state. -/
def seqNew (x1 x2 : Vec F S32x128 .f32) (x4 : Vec F S1x128 .f32) (x6 : Vec F S32x1x128x128 .f32) (k : Fin k0_t1_loop.trips) : FVec F S128x128 .f32 :=
  k0_pay6 (k0_pay1 x4) k0_pay2 (seqRow x1 k) (seqState x6 k) (seqRow x2 k)

/-- Sequence `k`'s row of the result. -/
def seqOut (x0 x1 x2 x3 : Vec F S32x128 .f32) (x4 x5 : Vec F S1x128 .f32) (x6 : Vec F S32x1x128x128 .f32) (k : Fin k0_t1_loop.trips) : FVec F S1x128 .f32 :=
  k0_pay4 x5 (k0_pay5 (seqRow x0 k)) (seqNew x1 x2 x4 x6 k) (seqRow x3 k)

theorem zero2 : (![0, 0] : Fin 2 → ℕ) = fun _ => 0 := by
  funext a; fin_cases a <;> rfl

theorem load_vec (a : Memref sig .tc .vmem S1x128 .f32) (ha : a.IsWhole) (x : Vec F S1x128 .f32) :
    View.readAt (Elt F) a.view (Rect.unit (s := S1x128) ![0, 0] S1x128.size inb_S1x128_S1x128_0_0).toLoadRect (ha.unread x) = x := by
  rw [View.readAt_eq_ld, View.ld_unit_zero (S := S1x128) zero2, ha.read_unread]

theorem load_seqRow (a : Memref sig .tc .vmem S32x128 .f32) (ha : a.IsWhole) (x : Vec F S32x128 .f32) (k : Fin k0_t1_loop.trips) :
    View.readAt (Elt F) a.view (Rect.unit (s := S32x128) (k0_off1 k) S1x128.size (k0_off1_inb k)).toLoadRect (ha.unread x) = seqRow x k := by
  rw [View.readAt_eq_ld, ha.read_unread]

theorem load_seqState (a : Memref sig .tc .vmem S32x1x128x128 .f32) (ha : a.IsWhole) (x : Vec F S32x1x128x128 .f32) (k : Fin k0_t1_loop.trips) :
    View.readAt (Elt F) a.view (Rect.unit (s := S32x1x128x128) (k0_off2 k) S1x1x128x128.size (k0_off2_inb k)).toLoadRect (ha.unread x) = seqState x k := by
  rw [View.readAt_eq_ld, ha.read_unread]

section runs
variable (c : Dev nD) (i : grid0.Coords)
  (arg1 : Memref sig .tc .vmem S32x128 .f32) (harg1 : arg1.IsWhole) (arg2 : Memref sig .tc .vmem S32x128 .f32) (harg2 : arg2.IsWhole)
  (arg3 : Memref sig .tc .vmem S32x128 .f32) (harg3 : arg3.IsWhole) (arg4 : Memref sig .tc .vmem S32x128 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S32x1x128x128 .f32) (harg7 : arg7.IsWhole)
  (arg8 : Memref sig .tc .vmem S32x128 .f32) (harg8 : arg8.IsWhole) (arg9 : Memref sig .tc .vmem S32x1x128x128 .f32) (harg9 : arg9.IsWhole)
  (x0 x1 x2 x3 : Vec F S32x128 .f32) (x4 x5 : Vec F S1x128 .f32) (x6 : Vec F S32x1x128x128 .f32)

theorem trip_row (k : Fin k0_t1_loop.trips) :
    (trip_k0_t1 (F := F) Variants.none c none i arg1 harg1 arg2 harg2 arg3 harg3 arg4 harg4 arg5 harg5 arg6 harg6 arg7 harg7 arg8 harg8 arg9 harg9
        x4 x5 (harg1.unread x0) (harg2.unread x1) (harg3.unread x2) (harg4.unread x3) (harg7.unread x6) k).1
      = [⟨Rect.unit (s := S32x128) (k0_off1 k) S1x128.size (k0_off1_inb k), seqOut x0 x1 x2 x3 x4 x5 x6 k⟩] := by
  unfold trip_k0_t1; dsimp only
  refine congrArg (fun w => [(⟨Rect.unit (s := S32x128) (k0_off1 k) S1x128.size (k0_off1_inb k), w⟩ : View.Piece (Elt F) S32x128 .f32)]) ?_
  unfold trip_k0_t1.sl.r trip_k0_t1.sl.r_1 seqOut seqNew
  rw [← load_seqRow arg1 harg1, ← load_seqRow arg2 harg2, ← load_seqRow arg3 harg3, ← load_seqRow arg4 harg4, ← load_seqState arg7 harg7]

theorem trip_new (k : Fin k0_t1_loop.trips) :
    (trip_k0_t1 (F := F) Variants.none c none i arg1 harg1 arg2 harg2 arg3 harg3 arg4 harg4 arg5 harg5 arg6 harg6 arg7 harg7 arg8 harg8 arg9 harg9
        x4 x5 (harg1.unread x0) (harg2.unread x1) (harg3.unread x2) (harg4.unread x3) (harg7.unread x6) k).2.1
      = [⟨Rect.unit (s := S32x1x128x128) (k0_off2 k) S1x1x128x128.size (k0_off2_inb k), k0_pay3 (seqNew x1 x2 x4 x6 k)⟩] := by
  unfold trip_k0_t1; dsimp only
  refine congrArg (fun w => [(⟨Rect.unit (s := S32x1x128x128) (k0_off2 k) S1x1x128x128.size (k0_off2_inb k), w⟩ : View.Piece (Elt F) S32x1x128x128 .f32)]) ?_
  unfold trip_k0_t1.sl.r_1 seqNew
  rw [← load_seqRow arg2 harg2, ← load_seqRow arg3 harg3, ← load_seqState arg7 harg7]

/-- The trips before `n` have stored one row and one state each. -/
theorem pb_eq (n : ℕ) (hn : n ≤ k0_t1_loop.trips) :
    pb_k0_t1 (F := F) Variants.none c none i arg1 harg1 arg2 harg2 arg3 harg3 arg4 harg4 arg5 harg5 arg6 harg6 arg7 harg7 arg8 harg8 arg9 harg9
        x4 x5 (harg1.unread x0) (harg2.unread x1) (harg3.unread x2) (harg4.unread x3) (harg7.unread x6) n
      = (View.tilePieces (s := S32x128) S1x128.size k0_off1 k0_off1_inb (seqOut x0 x1 x2 x3 x4 x5 x6) n hn,
         View.tilePieces (s := S32x1x128x128) S1x1x128x128.size k0_off2 k0_off2_inb (fun k => k0_pay3 (seqNew x1 x2 x4 x6 k)) n hn) := by
  induction n with
  | zero => rfl
  | succ n ih =>
    have h : n < k0_t1_loop.trips := hn
    have e := pb_k0_t1_succ (F := F) Variants.none c none i arg1 harg1 arg2 harg2 arg3 harg3 arg4 harg4 arg5 harg5 arg6 harg6 arg7 harg7 arg8 harg8
      arg9 harg9 x4 x5 (harg1.unread x0) (harg2.unread x1) (harg3.unread x2) (harg4.unread x3) (harg7.unread x6) ⟨n, h⟩
    refine e.trans ?_
    rw [ih (le_of_lt h)]
    exact congrArg₂ Prod.mk (congrArg (· ++ _) (trip_row ..)) (congrArg (· ++ _) (trip_new ..))

theorem off1_eq : ∀ k : Fin k0_t1_loop.trips, k0_off1 k = ![k.val, 0] := by decide +kernel
theorem off2_eq : ∀ k : Fin k0_t1_loop.trips, k0_off2 k = ![k.val, 0, 0, 0] := by decide +kernel

/-- The run leaves row `k` of the result at sequence `k`'s. -/
theorem out_row (k : Fin k0_t1_loop.trips) (v : Fin 128) (y : S32x128.Idx) (h0 : (y (0 : Fin 2)).val = k.val) (h1 : (y (1 : Fin 2)).val = v.val) :
    out0_A_7 c i arg1 harg1 arg2 harg2 arg3 harg3 arg4 harg4 arg5 harg5 arg6 harg6 arg7 harg7 arg8 harg8 arg9 harg9 x0 x1 x2 x3 x4 x5 x6 y
      = seqOut x0 x1 x2 x3 x4 x5 x6 k (ix2 0 v) := by
  unfold out0_A_7 kernelRun0_A; dsimp only
  rw [load_vec, load_vec]
  refine (congrFun (congrArg (fun L => VO0_7.read (Elt F) (VO0_7.writes (Elt F) VO0_7.junk L))
    (congrArg Prod.fst (pb_eq c i arg1 harg1 arg2 harg2 arg3 harg3 arg4 harg4 arg5 harg5 arg6 harg6 arg7 harg7 arg8 harg8 arg9 harg9 x0 x1 x2 x3 x4 x5 x6
      k0_t1_loop.trips (le_refl _)))) y).trans ?_
  refine View.read_tilePieces _ _ _ _ _ _ _ _ y k k.isLt (ix2 0 v) (fun a => ?_) (0 : Fin 2) fun i' hi => ?_
  · rw [off1_eq]; fin_cases a
    · exact h0
    · show (y (1 : Fin 2)).val = 0 + v.val; omega
  · rw [off1_eq]
    have : i'.val ≠ k.val := fun h => hi (Fin.ext h)
    show (y (0 : Fin 2)).val < i'.val ∨ i'.val + 1 ≤ (y (0 : Fin 2)).val
    omega

/-- The run leaves state `k` at sequence `k`'s. -/
theorem out_state (k : Fin k0_t1_loop.trips) (p v : Fin 128) (y : S32x1x128x128.Idx) (h0 : (y (0 : Fin 4)).val = k.val)
    (h2 : (y (2 : Fin 4)).val = p.val) (h3 : (y (3 : Fin 4)).val = v.val) :
    out0_A_8 c i arg1 harg1 arg2 harg2 arg3 harg3 arg4 harg4 arg5 harg5 arg6 harg6 arg7 harg7 arg8 harg8 arg9 harg9 x0 x1 x2 x3 x4 x5 x6 y
      = k0_pay3 (seqNew x1 x2 x4 x6 k) (ix4 0 0 p v) := by
  unfold out0_A_8 kernelRun0_A; dsimp only
  rw [load_vec, load_vec]
  refine (congrFun (congrArg (fun L => VO0_8.read (Elt F) (VO0_8.writes (Elt F) VO0_8.junk L))
    (congrArg Prod.snd (pb_eq c i arg1 harg1 arg2 harg2 arg3 harg3 arg4 harg4 arg5 harg5 arg6 harg6 arg7 harg7 arg8 harg8 arg9 harg9 x0 x1 x2 x3 x4 x5 x6
      k0_t1_loop.trips (le_refl _)))) y).trans ?_
  have h1 : (y (1 : Fin 4)).val < 1 := (y (1 : Fin 4)).isLt
  refine View.read_tilePieces _ _ _ _ _ _ _ _ y k k.isLt (ix4 0 0 p v) (fun a => ?_) (0 : Fin 4) fun i' hi => ?_
  · rw [off2_eq]; fin_cases a
    · exact h0
    · show (y (1 : Fin 4)).val = 0 + 0; omega
    · show (y (2 : Fin 4)).val = 0 + p.val; omega
    · show (y (3 : Fin 4)).val = 0 + v.val; omega
  · rw [off2_eq]
    have : i'.val ≠ k.val := fun h => hi (Fin.ext h)
    show (y (0 : Fin 4)).val < i'.val ∨ i'.val + 1 ≤ (y (0 : Fin 4)).val
    omega

end runs

end Cert.Kernel4Ideal.Gen
end
-- ==== Proof.Sample.lean ====
/-
  The recurrence at one token per sequence: the kernel walks the sequences of a head, turning rows into columns by a masked
  sum; the reference takes all sequences and heads at once.
-/
module

public import proofs.«01_k».proof.Defs
public import proofs.«01_k».proof.Proof.Sample.Rows
public import proofs.«01_k».proof.Proof.Gen.Reference4Ideal.Run
public import Idealize.ShloMosaic.Lib.Quiescent

@[expose] public section

set_option maxRecDepth 16384

noncomputable section

namespace Cert.Sample

open Idealize.ShloMosaic Idealize.ShloMosaic.TcCoe Idealize.SL.Sem
open Cert.Kernel4Ideal Cert.Kernel4Ideal.Gen

/-- `v` times its logistic. -/
def silu (v : EReal) : EReal := v * Ideal.logistic v

/-- Lane `k` of head `h` in the block of 512 lanes starting at `o`. -/
abbrev lane (o : ℕ) (h : Fin 4) (k : Fin 128) (ho : o + 512 ≤ 9216) : Fin 9216 := ⟨o + (h.val * 128 + k.val), by omega⟩

abbrev lane512 (h : Fin 4) (k : Fin 128) : Fin 512 := ⟨h.val * 128 + k.val, by omega⟩

/-- The state after the token. -/
def newState (z : Vec Ideal S32x9216 .f32) (lb : Vec Ideal S512 .f32) (s0 : Vec Ideal S32x4x128x128 .f32) (b : Fin 32) (h : Fin 4) (k v : Fin 128) : EReal :=
  Ideal.exp (Ideal.log (lb (ix1 (lane512 h k)) + (1 - lb (ix1 (lane512 h k))) * Ideal.logistic (z (ix2 b (lane 3584 h k (by omega)))))) * s0 (ix4 b h k v)
    + ((1 - lb (ix1 (lane512 h k))) * Ideal.logistic (0 - z (ix2 b (lane 3584 h k (by omega))))) * z (ix2 b (lane 4096 h v (by omega)))

/-- The query read against the new state. -/
def readOut (z : Vec Ideal S32x9216 .f32) (lb : Vec Ideal S512 .f32) (s0 : Vec Ideal S32x4x128x128 .f32) (b : Fin 32) (h : Fin 4) (v : Fin 128) : EReal :=
  ∑ k : Fin 128, silu (z (ix2 b (lane 3072 h k (by omega)))) * newState z lb s0 b h k v

/-- The normalised, gated row. -/
def rowOut (z : Vec Ideal S32x9216 .f32) (lb gon : Vec Ideal S512 .f32) (s0 : Vec Ideal S32x4x128x128 .f32) (b : Fin 32) (h : Fin 4) (v : Fin 128) : EReal :=
  readOut z lb s0 b h v
    * Ideal.rsqrt (Ideal.div (∑ u : Fin 128, readOut z lb s0 b h u * readOut z lb s0 b h u) (Ideal.ofBits FTy.f32 1124073472#32) + Ideal.ofBits FTy.f32 897988541#32)
    * gon (ix1 (lane512 h v)) * silu (z (ix2 b (lane 4608 h v (by omega))))

theorem idx : ∀ t : Fin cfg0.N, win0_0.index t = ![0, 24 + (grid0.coords t 0).val] ∧ win0_1.index t = ![0, 28 + (grid0.coords t 0).val]
    ∧ win0_2.index t = ![0, 32 + (grid0.coords t 0).val] ∧ win0_3.index t = ![0, 36 + (grid0.coords t 0).val]
    ∧ win0_4.index t = ![0, (grid0.coords t 0).val] ∧ win0_5.index t = ![0, (grid0.coords t 0).val]
    ∧ win0_6.index t = ![0, (grid0.coords t 0).val, 0, 0] ∧ win0_7.index t = ![0, (grid0.coords t 0).val]
    ∧ win0_8.index t = ![0, (grid0.coords t 0).val, 0, 0] :=
  (by decide +kernel : ∀ t : Fin grid0.N, _)

/-- The sequence a trip works at. -/
def tok (k : Fin k0_t1_loop.trips) : Fin 32 := ⟨k.val, k.isLt⟩

theorem seqRow_apply (x : Vec Ideal S32x128 .f32) (k : Fin k0_t1_loop.trips) (v : Fin 128) :
    seqRow x k (ix2 0 v) = x (ix2 (tok k) v) := by
  show x _ = x _
  refine congrArg x (funext fun a => Fin.ext ?_)
  have e := off1_eq k
  fin_cases a
  · show k0_off1 k 0 + 1 * 0 = k.val
    rw [e]; rfl
  · show k0_off1 k 1 + 1 * v.val = v.val
    rw [e]; show 0 + 1 * v.val = v.val; omega

theorem seqState_apply (x : Vec Ideal S32x1x128x128 .f32) (k : Fin k0_t1_loop.trips) (p v : Fin 128) :
    seqState x k (ix4 0 0 p v) = x (ix4 (tok k) 0 p v) := by
  show x _ = x _
  refine congrArg x (funext fun a => Fin.ext ?_)
  have e := off2_eq k
  fin_cases a
  · show k0_off2 k 0 + 1 * 0 = k.val
    rw [e]; rfl
  · show k0_off2 k 1 + 1 * 0 = 0
    rw [e]; rfl
  · show k0_off2 k 2 + 1 * p.val = p.val
    rw [e]; show 0 + 1 * p.val = p.val; omega
  · show k0_off2 k 3 + 1 * v.val = v.val
    rw [e]; show 0 + 1 * v.val = v.val; omega

/-- A row summed against the diagonal mask is its entry. -/
theorem diag_sum (p : Fin 128) (f : Fin 128 → EReal) :
    ∑ x : Fin 128, Scalar.select (IntOp.cmpi CmpIPredicate.eq (BitVec.ofNat 32 p.val) (BitVec.ofNat 32 x.val)) (f x) 0 = f p := by
  have h : ∀ x : Fin 128, Scalar.select (IntOp.cmpi CmpIPredicate.eq (BitVec.ofNat 32 p.val) (BitVec.ofNat 32 x.val)) (f x) 0 = if p = x then f x else 0 := by
    intro x
    by_cases hx : p = x
    · subst hx
      simp [IntOp.cmpi, Scalar.select]
    · have : (BitVec.ofNat 32 p.val) ≠ (BitVec.ofNat 32 x.val) := by
        intro h
        have := congrArg BitVec.toNat h
        simp only [BitVec.toNat_ofNat] at this
        exact hx (Fin.ext (by omega))
      simp only [IntOp.cmpi, Scalar.select, beq_eq_false_iff_ne.mpr this, if_neg hx]
      rfl
  rw [Finset.sum_congr rfl fun x _ => h x, Finset.sum_ite_eq Finset.univ p f]
  simp

theorem seqNew_apply (x1 x2 : Vec Ideal S32x128 .f32) (x4 : Vec Ideal S1x128 .f32) (x6 : Vec Ideal S32x1x128x128 .f32)
    (k : Fin k0_t1_loop.trips) (p v : Fin 128) :
    seqNew x1 x2 x4 x6 k (ix2 p v)
      = Ideal.exp (Ideal.log (x4 (ix2 0 p) + (1 - x4 (ix2 0 p)) * Ideal.logistic (x1 (ix2 (tok k) p)))) * x6 (ix4 (tok k) 0 p v)
        + ((1 - x4 (ix2 0 p)) * Ideal.logistic (0 - x1 (ix2 (tok k) p))) * x2 (ix2 (tok k) v) := by
  have h1 : ∀ v, seqRow x1 k (ix2 0 v) = x1 (ix2 (tok k) v) := seqRow_apply x1 k
  have h2 : ∀ v, seqRow x2 k (ix2 0 v) = x2 (ix2 (tok k) v) := seqRow_apply x2 k
  have h6 : ∀ p v, seqState x6 k (ix4 0 0 p v) = x6 (ix4 (tok k) 0 p v) := seqState_apply x6 k
  unfold seqNew
  generalize seqRow x1 k = a at *
  generalize seqRow x2 k = b at *
  generalize seqState x6 k = s at *
  generalize tok k = n at *
  pointwise [k0_pay6, k0_pay1, k0_pay2]
  rw [diag_sum p (fun x => Ideal.exp (Ideal.log (x4 (ix2 0 x) + (1 - x4 (ix2 0 x)) * Ideal.logistic (a (ix2 0 x))))),
    diag_sum p (fun x => (1 - x4 (ix2 0 x)) * Ideal.logistic (0 - a (ix2 0 x))), h1, h2, h6]

theorem seqOut_apply (x0 x1 x2 x3 : Vec Ideal S32x128 .f32) (x4 x5 : Vec Ideal S1x128 .f32) (x6 : Vec Ideal S32x1x128x128 .f32)
    (k : Fin k0_t1_loop.trips) (v : Fin 128) :
    seqOut x0 x1 x2 x3 x4 x5 x6 k (ix2 0 v)
      = (∑ p : Fin 128, silu (x0 (ix2 (tok k) p)) * seqNew x1 x2 x4 x6 k (ix2 p v))
        * Ideal.rsqrt (Ideal.div (∑ u : Fin 128, (∑ p : Fin 128, silu (x0 (ix2 (tok k) p)) * seqNew x1 x2 x4 x6 k (ix2 p u))
            * (∑ p : Fin 128, silu (x0 (ix2 (tok k) p)) * seqNew x1 x2 x4 x6 k (ix2 p u))) (Ideal.ofBits FTy.f32 1124073472#32)
          + Ideal.ofBits FTy.f32 897988541#32)
        * x5 (ix2 0 v) * silu (x3 (ix2 (tok k) v)) := by
  have h0 : ∀ v, seqRow x0 k (ix2 0 v) = x0 (ix2 (tok k) v) := seqRow_apply x0 k
  have h3 : ∀ v, seqRow x3 k (ix2 0 v) = x3 (ix2 (tok k) v) := seqRow_apply x3 k
  unfold seqOut silu
  generalize seqNew x1 x2 x4 x6 k = s
  generalize seqRow x0 k = a at *
  generalize seqRow x3 k = b at *
  generalize tok k = n at *
  pointwise [k0_pay4, k0_pay5, k0_pay2]
  simp only [h0, h3, diag_sum _ (fun x => x0 (ix2 n x) * Ideal.logistic (x0 (ix2 n x)))]

variable (m : (ℓ : Loc nD τ sig) → Buf (Elt Ideal) ℓ)

/-- The head a grid step works at. -/
def head (t : Fin cfg0.N) : Fin 4 := ⟨(grid0.coords t 0).val, (grid0.coords t 0).isLt⟩

section blocks
variable (c : Dev nD) (t : Fin cfg0.N) (b : Fin 32) (k p : Fin 128)

theorem blk0 : iblk m c 0 t (ix2 b k) = m (c.tc.loc main_arg0) (ix2 b (lane 3072 (head t) k (by omega))) := by
  obtain ⟨i0, i1, i2, i3, i4, i5, i6, i7, i8⟩ := idx t
  blk_point [iblk, V, i0, head]
theorem blk1 : iblk m c 1 t (ix2 b k) = m (c.tc.loc main_arg0) (ix2 b (lane 3584 (head t) k (by omega))) := by
  obtain ⟨i0, i1, i2, i3, i4, i5, i6, i7, i8⟩ := idx t
  blk_point [iblk, V, i1, head]
theorem blk2 : iblk m c 2 t (ix2 b k) = m (c.tc.loc main_arg0) (ix2 b (lane 4096 (head t) k (by omega))) := by
  obtain ⟨i0, i1, i2, i3, i4, i5, i6, i7, i8⟩ := idx t
  blk_point [iblk, V, i2, head]
theorem blk3 : iblk m c 3 t (ix2 b k) = m (c.tc.loc main_arg0) (ix2 b (lane 4608 (head t) k (by omega))) := by
  obtain ⟨i0, i1, i2, i3, i4, i5, i6, i7, i8⟩ := idx t
  blk_point [iblk, V, i3, head]
theorem blk4 : iblk m c 4 t (ix2 0 k) = m (c.tc.loc main_arg1) (ix1 (lane512 (head t) k)) := by
  obtain ⟨i0, i1, i2, i3, i4, i5, i6, i7, i8⟩ := idx t
  blk_ext! [iblk, V, i4, head]
theorem blk5 : iblk m c 5 t (ix2 0 k) = m (c.tc.loc main_arg2) (ix1 (lane512 (head t) k)) := by
  obtain ⟨i0, i1, i2, i3, i4, i5, i6, i7, i8⟩ := idx t
  blk_ext! [iblk, V, i5, head]
theorem blk6 : iblk m c 6 t (ix4 b 0 k p) = m (c.tc.loc main_arg3) (ix4 b (head t) k p) := by
  obtain ⟨i0, i1, i2, i3, i4, i5, i6, i7, i8⟩ := idx t
  blk_point [iblk, V, i6, head]

/-- The state the body makes at a step is the new state. -/
theorem new_blk (n : Fin k0_t1_loop.trips) : seqNew (iblk m c 1 t) (iblk m c 2 t) (iblk m c 4 t) (iblk m c 6 t) n (ix2 k p)
    = newState (m (c.tc.loc main_arg0)) (m (c.tc.loc main_arg1)) (m (c.tc.loc main_arg3)) (tok n) (head t) k p := by
  rw [seqNew_apply, blk1, blk2, blk4, blk6]; rfl

theorem out_blk (n : Fin k0_t1_loop.trips) : seqOut (iblk m c 0 t) (iblk m c 1 t) (iblk m c 2 t) (iblk m c 3 t) (iblk m c 4 t) (iblk m c 5 t) (iblk m c 6 t) n (ix2 0 p)
    = rowOut (m (c.tc.loc main_arg0)) (m (c.tc.loc main_arg1)) (m (c.tc.loc main_arg2)) (m (c.tc.loc main_arg3)) (tok n) (head t) p := by
  rw [seqOut_apply]
  simp only [new_blk, blk0, blk3, blk5]; rfl
end blocks

theorem state_eq (c : Dev nD) : (dats m 0 c).arrAt 8 cfg0.N
    = fun j : S32x4x128x128.Idx => newState (m (c.tc.loc main_arg0)) (m (c.tc.loc main_arg1)) (m (c.tc.loc main_arg3)) (j 0) (j 1) (j 2) (j 3) := by
  refine (dats m 0 c).arrAt_eq_of_covers 8 _ (by decide +kernel) fun t hf y => ?_
  blk_simp
  rw [after0_8]
  unfold outsAt0; dsimp only
  obtain ⟨i0, i1, i2, i3, i4, i5, i6, i7, i8⟩ := idx t
  obtain ⟨n, hn⟩ : ∃ n : Fin k0_t1_loop.trips, (y (0 : Fin 4)).val = n.val := ⟨⟨(y 0).val, (y 0).isLt⟩, rfl⟩
  obtain ⟨p, hp⟩ : ∃ p : Fin 128, (y (2 : Fin 4)).val = p.val := ⟨y 2, rfl⟩
  obtain ⟨v, hv⟩ : ∃ v : Fin 128, (y (3 : Fin 4)).val = v.val := ⟨y 3, rfl⟩
  rw [out_state (k := n) (p := p) (v := v) (y := y) (h0 := hn) (h2 := hp) (h3 := hv)]
  have e := new_blk m c t p v n
  generalize seqNew (iblk m c 1 t) (iblk m c 2 t) (iblk m c 4 t) (iblk m c 6 t) n = s at *
  pointwise [k0_pay3]
  refine e.trans ?_
  have j0 : win0_8.index t 0 = 0 := by rw [i8]; rfl
  have j1 : win0_8.index t 1 = (head t).val := by rw [i8]; rfl
  have j2 : win0_8.index t 2 = 0 := by rw [i8]; rfl
  have j3 : win0_8.index t 3 = 0 := by rw [i8]; rfl
  have y1 : (y (1 : Fin 4)).val = 0 := by have := (y (1 : Fin 4)).isLt; change (y (1 : Fin 4)).val < 1 at this; omega
  congr 1 <;> refine Fin.ext ?_
  · show n.val = win0_8.index t 0 * 32 + 1 * (y (0 : Fin 4)).val; omega
  · show (head t).val = win0_8.index t 1 * 1 + 1 * (y (1 : Fin 4)).val; omega
  · show p.val = win0_8.index t 2 * 128 + 1 * (y (2 : Fin 4)).val; omega
  · show v.val = win0_8.index t 3 * 128 + 1 * (y (3 : Fin 4)).val; omega

theorem rows_eq (c : Dev nD) : (dats m 0 c).arrAt 7 cfg0.N
    = fun j : S32x512.Idx => rowOut (m (c.tc.loc main_arg0)) (m (c.tc.loc main_arg1)) (m (c.tc.loc main_arg2)) (m (c.tc.loc main_arg3)) (j 0)
        ⟨(j 1).val / 128, by have := (j 1).isLt; change (j 1).val < 512 at this; omega⟩ ⟨(j 1).val % 128, Nat.mod_lt _ (by omega)⟩ := by
  refine (dats m 0 c).arrAt_eq_of_covers 7 _ (by decide +kernel) fun t hf y => ?_
  blk_simp
  rw [after0_7]
  unfold outsAt0; dsimp only
  obtain ⟨i0, i1, i2, i3, i4, i5, i6, i7, i8⟩ := idx t
  obtain ⟨n, hn⟩ : ∃ n : Fin k0_t1_loop.trips, (y (0 : Fin 2)).val = n.val := ⟨⟨(y 0).val, (y 0).isLt⟩, rfl⟩
  obtain ⟨v, hv⟩ : ∃ v : Fin 128, (y (1 : Fin 2)).val = v.val := ⟨y 1, rfl⟩
  rw [out_row (k := n) (v := v) (y := y) (h0 := hn) (h1 := hv)]
  refine (out_blk m c t v n).trans ?_
  have j0 : win0_7.index t 0 = 0 := by rw [i7]; rfl
  have j1 : win0_7.index t 1 = (head t).val := by rw [i7]; rfl
  congr 1 <;> refine Fin.ext ?_
  · show n.val = win0_7.index t 0 * 32 + 1 * (y (0 : Fin 2)).val; omega
  · show (head t).val = (win0_7.index t 1 * 128 + (y (1 : Fin 2)).val) / 128; omega
  · show v.val = (win0_7.index t 1 * 128 + (y (1 : Fin 2)).val) % 128; omega

theorem algebraic : Cert.algebraic_Kernel4Ideal_Reference4Ideal := by
  intro m g m' g' _ hag
  refine ⟨fun c => (dats m 0 c).arrAt 7 cfg0.N, fun c => (dats m 0 c).arrAt 8 cfg0.N, Cert.Kernel4Ideal.Value.run_blocks m g, ?_⟩
  refine (θ_run _ _ _).mono (fun r h c => ⟨(h c).1.trans ?_, (h c).2.1.trans ?_, (h c).2.2⟩) (Cert.Reference4Ideal.Value.run m' g')
  · obtain ⟨h0, h1, h2, h3⟩ := hag c
    unfold Cert.Reference4Ideal.Value.res_main_v63
    rw [h0, h1, h2, h3]
    refine Eq.trans ?_ (rows_eq m c).symm
    clear h h0 h1 h2 h3
    funext j
    generalize m (c.tc.loc main_arg0) = x0
    generalize m (c.tc.loc main_arg1) = x1
    generalize m (c.tc.loc main_arg2) = x2
    generalize m (c.tc.loc main_arg3) = x3
    pointwise [rowOut, readOut, newState, silu]
    have e : (j 1).val / 128 * 128 + (j 1).val % 128 = (j 1).val := Nat.div_add_mod' _ _
    simp only [Ideal.logistic, zero_sub, lane, lane512, e]
    rfl
  · obtain ⟨h0, h1, h2, h3⟩ := hag c
    rw [h0, h1, h3]
    refine Eq.trans ?_ (state_eq m c).symm
    clear h h0 h1 h2 h3
    funext j
    generalize m (c.tc.loc main_arg0) = x0
    generalize m (c.tc.loc main_arg1) = x1
    generalize m (c.tc.loc main_arg3) = x3
    pointwise [newState]
    simp only [Ideal.logistic, zero_sub]

end Cert.Sample
-- ==== Proof.Rows.Model.lean ====
/-
  The cached rows of the attention layers: a head of 64 lanes is normalised by its mean square and its first sixteen
  lanes are turned by the position's angles; the other lanes of a row are copied.
-/
module

public import Idealize.ShloMosaic.Lib.Pipeline.ValueKit
public import Idealize.ShloMosaic.Lib.Quiescent
public import Idealize.ShloMosaic.Lib.Tactic

@[expose] public section

noncomputable section

namespace Cert.Rows

open Idealize.ShloMosaic

/-- A head, normalised by its mean square and scaled. -/
def headNormed (x g : Fin 64 → EReal) (j : Fin 64) : EReal :=
  x j * Ideal.rsqrt (Ideal.div (∑ k : Fin 64, x k * x k) (Ideal.ofBits .f32 0x42800000#32) + Ideal.ofBits .f32 0x358637BD#32) * g j

/-- A head turned: lane `j` below 8 and lane `8 + j` are the two coordinates of a pair, the rest is left. -/
def headTurned (u : Fin 64 → EReal) (c s : Fin 8 → EReal) (j : Fin 64) : EReal :=
  if h : j.val < 8 then u j * c ⟨j.val, h⟩ - u ⟨j.val + 8, by omega⟩ * s ⟨j.val, h⟩
  else if h' : j.val < 16 then u ⟨j.val - 8, by omega⟩ * s ⟨j.val - 8, by omega⟩ + u j * c ⟨j.val - 8, by omega⟩
  else u j

/-- Lane `j` of head `h` in a pair of heads. -/
def lane (h : Fin 2) (j : Fin 64) : Fin 128 := ⟨64 * h.val + j.val, by have := h.isLt; omega⟩

/-- Every lane of a pair of heads is a lane of one of them. -/
theorem exists_lane (l : Fin 128) : ∃ h j, l = lane h j :=
  ⟨⟨l.val / 64, by omega⟩, ⟨l.val % 64, by omega⟩, Fin.ext (by simp only [lane]; omega)⟩

/-- A sum over a pair of heads, head by head. -/
theorem sum_lane (f : Fin 128 → EReal) : ∑ l, f l = ∑ h : Fin 2, ∑ j : Fin 64, f (lane h j) := by
  rw [← Fintype.sum_prod_type']
  refine (Fintype.sum_equiv (finProdFinEquiv (m := 2) (n := 64)) _ _ fun p => ?_).symm
  congr 1
  refine Fin.ext ?_
  simp [lane, finProdFinEquiv]
  omega

/-- What a lane is multiplied by itself, and what its two partners are multiplied by. -/
def tabSelf (c : Fin 8 → EReal) (j : Fin 64) : EReal :=
  if h : j.val < 8 then c ⟨j.val, h⟩ else if h' : j.val < 16 then c ⟨j.val - 8, by omega⟩ else 1
def tabAbove (s : Fin 8 → EReal) (j : Fin 64) : EReal := if h : j.val < 8 then -s ⟨j.val, h⟩ else 0
def tabBelow (s : Fin 8 → EReal) (j : Fin 64) : EReal :=
  if j.val < 8 then 0 else if h' : j.val < 16 then s ⟨j.val - 8, by omega⟩ else 0

/-- The three products of a lane add up to the turned lane. -/
theorem turned_eq (u : Fin 64 → EReal) (c s : Fin 8 → EReal) (j : Fin 64) (a b : EReal)
    (ha : ∀ h : j.val + 8 < 64, a = u ⟨j.val + 8, h⟩) (hb : 8 ≤ j.val → b = u ⟨j.val - 8, by omega⟩) :
    u j * tabSelf c j + a * tabAbove s j + b * tabBelow s j = headTurned u c s j := by
  unfold tabSelf tabAbove tabBelow headTurned
  by_cases h : j.val < 8
  · rw [dif_pos h, dif_pos h, if_pos h, dif_pos h, ha (by omega), mul_zero, add_zero, mul_neg, ← sub_eq_add_neg]
  · by_cases h' : j.val < 16
    · rw [dif_neg h, dif_neg h, if_neg h, dif_neg h, dif_pos h', dif_pos h', dif_pos h', hb (by omega), mul_zero, add_zero, add_comm]
    · rw [dif_neg h, dif_neg h, if_neg h, dif_neg h, dif_neg h', dif_neg h', dif_neg h', mul_zero, mul_zero, mul_one, add_zero, add_zero]

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The mean of a head's squares as the kernel takes it: squares split in two parts, each multiplied by a matrix that
    holds 1/64 inside a head and 0 elsewhere. -/
theorem mean_eq (x : Fin 128 → EReal) (w : Fin 128 → EReal) (h : Fin 2) (hx : ∀ k, ∃ a : ℝ, x (lane h k) = a)
    (hw : ∀ h' k, w (lane h' k) = if h' = h then ((1 / 64 : ℝ) : EReal) else 0) :
    (∑ l, x l * x l * w l) + (∑ l, (x l * x l - x l * x l) * w l)
      = Ideal.div (∑ k : Fin 64, x (lane h k) * x (lane h k)) (Ideal.ofBits .f32 0x42800000#32) := by
  choose a ha using hx
  have e64 : Ideal.ofBits .f32 0x42800000#32 = ((64 : ℝ) : EReal) := by
    simp [Ideal.ofBits, Ideal.ieee, -EReal.coe_mul]; norm_num
  have e1 : ∑ l, x l * x l * w l = ((∑ k, a k * a k * (1 / 64) : ℝ) : EReal) := by
    rw [sum_lane, Finset.sum_eq_single h, coe_sum]
    · refine Finset.sum_congr rfl fun k _ => ?_
      rw [hw, if_pos rfl, ha]
      norm_cast
    · intro h' _ hne
      exact Finset.sum_eq_zero fun k _ => by rw [hw, if_neg hne, mul_zero]
    · exact fun hn => absurd (Finset.mem_univ _) hn
  have e2 : ∑ l, (x l * x l - x l * x l) * w l = 0 := by
    rw [sum_lane]
    refine Finset.sum_eq_zero fun h' _ => Finset.sum_eq_zero fun k _ => ?_
    by_cases hne : h' = h
    · subst hne
      rw [ha, ← EReal.coe_mul, ← EReal.coe_sub, sub_self, EReal.coe_zero, zero_mul]
    · rw [hw, if_neg hne, mul_zero]
  have e3 : ∑ k : Fin 64, x (lane h k) * x (lane h k) = ((∑ k, a k * a k : ℝ) : EReal) := by
    rw [coe_sum]
    exact Finset.sum_congr rfl fun k _ => by rw [ha]; norm_cast
  rw [e1, e2, e3, e64, add_zero]
  rw [← Finset.sum_mul]
  simp [Ideal.div, div_eq_mul_inv, EReal.coe_mul, EReal.coe_inv]

end Cert.Rows
-- ==== Proof.Rows.Point.lean ====
/-
  What the row preparation computes of one pair of heads, entry by entry.
-/
module

public import proofs.«01_k».proof.Proof.Rows.Model
public import proofs.«01_k».proof.Proof.Gen.Kernel6Ideal.Skeleton

@[expose] public section

set_option maxRecDepth 16384

noncomputable section

namespace Cert.Rows

open Idealize.ShloMosaic Idealize.ShloMosaic.TcCoe
open Cert.Kernel6Ideal Cert.Kernel6Ideal.Gen

/-- The matrix that averages inside a head. -/
def Averages (bd : Vec Ideal S128x128 .bf16) : Prop :=
  ∀ h k h' j, bd (ix2 (lane h' k) (lane h j)) = if h' = h then ((1 / 64 : ℝ) : EReal) else 0

/-- The three tables of a block of rows, whose cosines and sines are `c` and `s`. -/
structure Tables (c s : Fin 256 → Fin 8 → EReal) (v1 v3 v5 : Vec Ideal S256x128 .f32) : Prop where
  self : ∀ r h j, v1 (ix2 r (lane h j)) = tabSelf (c r) j
  above : ∀ r h j, v3 (ix2 r (lane h j)) = tabAbove (s r) j
  below : ∀ r h j, v5 (ix2 r (lane h j)) = tabBelow (s r) j

theorem normed_apply (bd : Vec Ideal S128x128 .bf16) (x : Vec Ideal S256x128 .f32) (g : Vec Ideal S1x128 .f32) (r : Fin 256) (h : Fin 2)
    (hbd : Averages bd) (hx : ∀ k, ∃ a : ℝ, x (ix2 r (lane h k)) = a) (j : Fin 64) :
    k0_pay61 bd x g (ix2 r (lane h j)) = headNormed (fun k => x (ix2 r (lane h k))) (fun k => g (ix2 0 (lane h k))) j := by
  have hm := mean_eq (fun l => x (ix2 r l)) (fun l => bd (ix2 l (lane h j))) h hx fun h' k => hbd h k h' j
  unfold headNormed
  rw [← hm]
  pointwise [k0_pay61]

theorem turned_apply (c s : Fin 256 → Fin 8 → EReal) (v1 v3 v5 : Vec Ideal S256x128 .f32) (bd : Vec Ideal S128x128 .bf16)
    (x : Vec Ideal S256x128 .f32) (g : Vec Ideal S1x128 .f32) (r : Fin 256) (h : Fin 2) (ht : Tables c s v1 v3 v5) (hbd : Averages bd)
    (hx : ∀ k, ∃ a : ℝ, x (ix2 r (lane h k)) = a) (j : Fin 64) :
    k0_pay54 v1 v3 v5 bd x g (ix2 r (lane h j))
      = headTurned (headNormed (fun k => x (ix2 r (lane h k))) (fun k => g (ix2 0 (lane h k)))) (c r) (s r) j := by
  have e : k0_pay54 v1 v3 v5 bd x g = k0_pay64 v5 (k0_pay61 bd x g) (k0_pay62 v1 bd x g) (k0_pay63 v3 bd x g) := rfl
  rw [e, ← turned_eq _ (c r) (s r) j (k0_pay61 bd x g (ix2 r ⟨((lane h j).val + 128 - 120) % 128, by omega⟩))
    (k0_pay61 bd x g (ix2 r ⟨((lane h j).val + 128 - 8) % 128, by omega⟩)) ?_ ?_]
  · rw [← normed_apply bd x g r h hbd hx j, ← ht.self r h j, ← ht.above r h j, ← ht.below r h j]
    pointwise [k0_pay64, k0_pay62, k0_pay63]
  · intro hlt
    rw [← normed_apply bd x g r h hbd hx]
    refine congrArg _ (congrArg _ (Fin.ext ?_))
    simp only [lane]
    have := h.isLt
    omega
  · intro hle
    rw [← normed_apply bd x g r h hbd hx]
    refine congrArg _ (congrArg _ (Fin.ext ?_))
    simp only [lane]
    have := h.isLt
    omega

end Cert.Rows
-- ==== Proof.Rows.Tables.lean ====
/-
  The tables the row preparation reads besides the rows: the angles' cosines and sines spread over the lanes, the
  averaging matrix and the scales.
-/
module

public import proofs.«01_k».proof.Proof.Rows.Point
public import proofs.«01_k».proof.Proof.Gen.Kernel6Ideal.Frame.Runs
public import Idealize.ShloMosaic.Lib.StableHlo.ReadAt

@[expose] public section

set_option maxRecDepth 16384

noncomputable section

namespace Cert.Rows

open Idealize.ShloMosaic Idealize.ShloMosaic.TcCoe Idealize.SL.Sem
open Cert.Kernel6Ideal Cert.Kernel6Ideal.Gen

/-- The angle of position `r` in pair `i`. -/
def angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

/-- Their cosines and sines. -/
def cosT : FVec Ideal S2048x8 .f32 := Host.cos angles
def sinT : FVec Ideal S2048x8 .f32 := Host.sin angles

variable (m : (ℓ : Loc nD τ sig) → Buf (Elt Ideal) ℓ) (c : Dev nD)

theorem V_self (r : Fin 2048) (h : Fin 2) (j : Fin 64) : V m c main_v24 (ix2 r (lane h j)) = tabSelf (fun i => cosT (ix2 r i)) j := by
  have e : V m c main_v24 = shapeCast S2048x128 (broadcastInDim S1x2048x2x64 ![0, 1, 2, 3] bcast_S1x2048x1x64_S1x2048x2x64_0_1_2_3
      (shapeCast S1x2048x1x64 (concatenate S2048x64 1 [⟨S2048x8, cosT⟩, ⟨S2048x8, cosT⟩, ⟨S2048x48, broadcastInDim S2048x48 ![] bcast_S_S2048x48 (constant (F := Ideal) S_ .f32 0x3F800000#32)⟩]
        concatenates_S2048x8_S2048x8_S2048x48_S2048x64_d1) shapeCasts_S2048x64_S1x2048x1x64)) shapeCasts_S1x2048x2x64_S2048x128 := by
    unfold V
    after_reads_simp
    rfl
  rw [e]
  pointwise [tabSelf]
  have hl : (lane h j).val % 64 = j.val := by simp only [lane]; have := h.isLt; omega
  simp only [hl]
  split_ifs <;> first | rfl | omega | (rw [dif_pos (show j.val < 16 by omega)])

theorem V_above (r : Fin 2048) (h : Fin 2) (j : Fin 64) : V m c main_v27 (ix2 r (lane h j)) = tabAbove (fun i => sinT (ix2 r i)) j := by
  have e : V m c main_v27 = shapeCast S2048x128 (broadcastInDim S1x2048x2x64 ![0, 1, 2, 3] bcast_S1x2048x1x64_S1x2048x2x64_0_1_2_3
      (shapeCast S1x2048x1x64 (concatenate S2048x64 1 [⟨S2048x8, Host.negf sinT⟩, ⟨S2048x8, broadcastInDim S2048x8 ![] bcast_S_S2048x8 (constant (F := Ideal) S_ .f32 0x00000000#32)⟩, ⟨S2048x48, broadcastInDim S2048x48 ![] bcast_S_S2048x48 (constant (F := Ideal) S_ .f32 0x00000000#32)⟩]
        concatenates_S2048x8_S2048x8_S2048x48_S2048x64_d1) shapeCasts_S2048x64_S1x2048x1x64)) shapeCasts_S1x2048x2x64_S2048x128 := by
    unfold V
    after_reads_simp
    rfl
  rw [e]
  pointwise [tabAbove]
  have hl : (lane h j).val % 64 = j.val := by simp only [lane]; have := h.isLt; omega
  simp only [hl]
  split_ifs <;> first | rfl | omega | (rw [dif_pos (show j.val < 16 by omega)])

theorem V_below (r : Fin 2048) (h : Fin 2) (j : Fin 64) : V m c main_v30 (ix2 r (lane h j)) = tabBelow (fun i => sinT (ix2 r i)) j := by
  have e : V m c main_v30 = shapeCast S2048x128 (broadcastInDim S1x2048x2x64 ![0, 1, 2, 3] bcast_S1x2048x1x64_S1x2048x2x64_0_1_2_3
      (shapeCast S1x2048x1x64 (concatenate S2048x64 1 [⟨S2048x8, broadcastInDim S2048x8 ![] bcast_S_S2048x8 (constant (F := Ideal) S_ .f32 0x00000000#32)⟩, ⟨S2048x8, sinT⟩, ⟨S2048x48, broadcastInDim S2048x48 ![] bcast_S_S2048x48 (constant (F := Ideal) S_ .f32 0x00000000#32)⟩]
        concatenates_S2048x8_S2048x8_S2048x48_S2048x64_d1) shapeCasts_S2048x64_S1x2048x1x64)) shapeCasts_S1x2048x2x64_S2048x128 := by
    unfold V
    after_reads_simp
    rfl
  rw [e]
  pointwise [tabBelow]
  have hl : (lane h j).val % 64 = j.val := by simp only [lane]; have := h.isLt; omega
  simp only [hl]
  split_ifs <;> first | rfl | omega | (rw [dif_pos (show j.val < 16 by omega)])

theorem V_avg : Averages (V m c main_v81) := by
  intro h k h' j
  unfold V
  after_reads_at
  have e1 : (lane h' k).val / 64 = h'.val := by simp only [lane]; have := k.isLt; omega
  have e2 : (lane h j).val / 64 = h.val := by simp only [lane]; have := j.isLt; omega
  have e3 : Ideal.ofBits FTy.f32 1015021568#32 = ((1 / 64 : ℝ) : EReal) := by
    simp [Ideal.ofBits, Ideal.ieee, -EReal.coe_mul]; norm_num
  rw [e1, e2, e3]
  have e4 : ∀ p q : Fin 2, IntOp.cmpi CmpIPredicate.eq (IntOp.addi (BitVec.ofNat 32 p.val) 0#32) (BitVec.ofNat 32 q.val) = if p = q then 1#1 else 0#1 := by decide
  rw [e4]
  split_ifs
  · have e5 : (FloatOps.uitofp FTy.f32 (1#1) : Ideal .f32) = (1 : EReal) := by simp [FloatOps.uitofp]
    rw [e5, one_mul]
  · have e5 : (FloatOps.uitofp FTy.f32 (0#1) : Ideal .f32) = (0 : EReal) := by simp [FloatOps.uitofp]
    rw [e5, zero_mul]

theorem gain1 (h : Fin 2) (k : Fin 64) : V m c main_v80 (ix2 (1 : Fin 8) (lane h k)) = m (c.tc.loc main_arg1) (ix2 (1 : Fin 2) k) := by
  unfold V
  after_reads_at
  simp only [StableHlo.unary_result']
  after_reads_at
  have hl : (lane h k).val % 64 = k.val := by simp only [lane]; have := h.isLt; omega
  simp only [hl]
  try rfl

theorem gain4 (h : Fin 2) (k : Fin 64) : V m c main_v80 (ix2 (4 : Fin 8) (lane h k)) = m (c.tc.loc main_arg3) (ix2 (1 : Fin 4) k) := by
  unfold V
  after_reads_at
  simp only [StableHlo.unary_result']
  after_reads_at
  have hl : (lane h k).val % 64 = k.val := by simp only [lane]; have := h.isLt; omega
  simp only [hl]
  try rfl

theorem gain5 (h : Fin 2) (k : Fin 64) : V m c main_v80 (ix2 (5 : Fin 8) (lane h k)) = m (c.tc.loc main_arg3) (ix2 (2 : Fin 4) k) := by
  unfold V
  after_reads_at
  simp only [StableHlo.unary_result']
  after_reads_at
  have hl : (lane h k).val % 64 = k.val := by simp only [lane]; have := h.isLt; omega
  simp only [hl]
  try rfl

theorem gain6 (h : Fin 2) (k : Fin 64) : V m c main_v80 (ix2 (6 : Fin 8) (lane h k)) = m (c.tc.loc main_arg3) (ix2 (3 : Fin 4) k) := by
  unfold V
  after_reads_at
  simp only [StableHlo.unary_result']
  after_reads_at
  have hl : (lane h k).val % 64 = k.val := by simp only [lane]; have := h.isLt; omega
  simp only [hl]
  try rfl

theorem gain2 (k : Fin 64) : V m c main_v80 (ix2 (2 : Fin 8) (lane 0 k)) = m (c.tc.loc main_arg2) (ix1 k) := by
  unfold V
  after_reads_at
  simp only [StableHlo.unary_result']
  after_reads_at
  rw [dif_pos (show (lane 0 k).val < 64 by simp only [lane]; have := k.isLt; omega)]
  after_reads_at
  have hl : (lane 0 k).val = k.val := by simp only [lane]; have := k.isLt; omega
  simp only [hl]
  try rfl

end Cert.Rows
-- ==== Proof.Rows.Blocks.lean ====
/-
  The row preparation's blocks at a grid point: which rows and lanes of the arguments they hold, and what the two
  results are after the run.
-/
module

public import proofs.«01_k».proof.Proof.Rows.Tables
public import proofs.«01_k».proof.Proof.Gen.Kernel6Ideal.Value

@[expose] public section

set_option maxRecDepth 16384

noncomputable section

namespace Cert.Rows

open Idealize.ShloMosaic Idealize.ShloMosaic.TcCoe Idealize.ShloMosaic.Tactic Idealize.SL.Sem
open Cert.Kernel6Ideal Cert.Kernel6Ideal.Gen

/-- A lane of a row, by its number. -/
def at' (n : ℕ) : Fin 9216 := ⟨n % 9216, Nat.mod_lt _ (by decide)⟩
/-- A row's position in its sequence. -/
def posOf (p : Fin 16384) : Fin 2048 := ⟨p.val % 2048, Nat.mod_lt _ (by decide)⟩

/-- The head that starts at lane `o` of row `p`, as the caches keep it. -/
def cached (z : Fin 16384 → Fin 9216 → EReal) (g : Fin 64 → EReal) (o : ℕ) (p : Fin 16384) (j : Fin 64) : EReal :=
  headTurned (headNormed (fun k => z p (at' (o + k.val))) g) (fun i => cosT (ix2 (posOf p) i)) (fun i => sinT (ix2 (posOf p) i)) j

/-- A lane's head in a pair of heads that starts at `o`, and its place in the head. -/
def paired (z : Fin 16384 → Fin 9216 → EReal) (g : Fin 64 → EReal) (o : ℕ) (p : Fin 16384) (l : ℕ) : EReal :=
  cached z g (o + 64 * (l / 64)) p ⟨l % 64, Nat.mod_lt _ (by decide)⟩

/-- The rows of the paged caches. -/
def rowsOf (z : Fin 16384 → Fin 9216 → EReal) (gd gi gc gs : Fin 64 → EReal) (p : Fin 16384) (l : ℕ) : EReal :=
  if l < 128 then paired z gd 7680 p l
  else if l < 256 then z p (at' (7808 + (l - 128)))
  else if l < 320 then paired z gi 7936 p (l - 256)
  else if l < 448 then paired z gc 8192 p (l - 320)
  else if l < 576 then z p (at' (8320 + (l - 448)))
  else if l < 704 then paired z gs 8448 p (l - 576)
  else z p (at' (8576 + (l - 704)))

/-- The rows of the window cache. -/
def windowOf (z : Fin 16384 → Fin 9216 → EReal) (gw : Fin 64 → EReal) (p : Fin 16384) (l : ℕ) : EReal :=
  if l < 128 then paired z gw 8704 p l else z p (at' (8832 + (l - 128)))

/-- The head that starts at lane `o` is finite in every row. -/
def FiniteAt (z : Fin 16384 → Fin 9216 → EReal) (o : ℕ) : Prop := ∀ p (k : Fin 64), ∃ a : ℝ, z p (at' (o + k.val)) = a

variable (m : (ℓ : Loc nD τ sig) → Buf (Elt Ideal) ℓ) (c : Dev nD)

def zV : Fin 16384 → Fin 9216 → EReal := fun p l => m (c.tc.loc main_arg0) (ix2 p l)
def gD : Fin 64 → EReal := fun k => m (c.tc.loc main_arg1) (ix2 (1 : Fin 2) k)
def gI : Fin 64 → EReal := fun k => m (c.tc.loc main_arg2) (ix1 k)
def gN (i : Fin 4) : Fin 64 → EReal := fun k => m (c.tc.loc main_arg3) (ix2 i k)

theorem idx : ∀ t : Fin cfg0.N, win0_3.index t = ![t.val, 15] ∧ win0_4.index t = ![t.val, 16] ∧ win0_5.index t = ![t.val, 17]
    ∧ win0_6.index t = ![t.val % 8, 0] ∧ win0_7.index t = ![t.val % 8, 0] ∧ win0_8.index t = ![t.val % 8, 0]
    ∧ win0_9.index t = ![0, 0] ∧ win0_10.index t = ![0, 0] ∧ win0_11.index t = ![t.val, 0] ∧ win0_12.index t = ![t.val, 0] :=
  (by decide +kernel : ∀ t : Fin grid0.N, _)

/-- Row `r` of the block at a grid point. -/
def rowAt (t : Fin cfg0.N) (r : Fin 256) : Fin 16384 := ⟨256 * t.val + r.val, by have h : t.val < 64 := t.isLt; have := r.isLt; omega⟩

section blocks
variable (t : Fin cfg0.N)

theorem blk3 (r : Fin 256) (l : Fin 512) : iblk m c 3 t (ix2 r l) = zV m c (rowAt t r) (at' (7680 + l.val)) := by
  obtain ⟨i3, i4, i5, i6, i7, i8, i9, i10, i11, i12⟩ := idx t
  have e : at' (7680 + l.val) = ⟨7680 + l.val, by omega⟩ := Fin.ext (Nat.mod_eq_of_lt (by omega))
  rw [e]
  blk_point [iblk, V, i3, zV, rowAt]
theorem blk4 (r : Fin 256) (l : Fin 512) : iblk m c 4 t (ix2 r l) = zV m c (rowAt t r) (at' (8192 + l.val)) := by
  obtain ⟨i3, i4, i5, i6, i7, i8, i9, i10, i11, i12⟩ := idx t
  have e : at' (8192 + l.val) = ⟨8192 + l.val, by omega⟩ := Fin.ext (Nat.mod_eq_of_lt (by omega))
  rw [e]
  blk_point [iblk, V, i4, zV, rowAt]
theorem blk5 (r : Fin 256) (l : Fin 512) : iblk m c 5 t (ix2 r l) = zV m c (rowAt t r) (at' (8704 + l.val)) := by
  obtain ⟨i3, i4, i5, i6, i7, i8, i9, i10, i11, i12⟩ := idx t
  have e : at' (8704 + l.val) = ⟨8704 + l.val, by omega⟩ := Fin.ext (Nat.mod_eq_of_lt (by omega))
  rw [e]
  blk_point [iblk, V, i5, zV, rowAt]
theorem blk6 (r : Fin 256) (l : Fin 128) : iblk m c 6 t (ix2 r l) = V m c main_v24 (ix2 (posOf (rowAt t r)) l) := by
  obtain ⟨i3, i4, i5, i6, i7, i8, i9, i10, i11, i12⟩ := idx t
  have hp : posOf (rowAt t r) = ⟨256 * (t.val % 8) + r.val, by omega⟩ := Fin.ext (by simp only [posOf, rowAt]; omega)
  rw [hp]
  blk_point [iblk, i6]
theorem blk7 (r : Fin 256) (l : Fin 128) : iblk m c 7 t (ix2 r l) = V m c main_v27 (ix2 (posOf (rowAt t r)) l) := by
  obtain ⟨i3, i4, i5, i6, i7, i8, i9, i10, i11, i12⟩ := idx t
  have hp : posOf (rowAt t r) = ⟨256 * (t.val % 8) + r.val, by omega⟩ := Fin.ext (by simp only [posOf, rowAt]; omega)
  rw [hp]
  blk_point [iblk, i7]
theorem blk8 (r : Fin 256) (l : Fin 128) : iblk m c 8 t (ix2 r l) = V m c main_v30 (ix2 (posOf (rowAt t r)) l) := by
  obtain ⟨i3, i4, i5, i6, i7, i8, i9, i10, i11, i12⟩ := idx t
  have hp : posOf (rowAt t r) = ⟨256 * (t.val % 8) + r.val, by omega⟩ := Fin.ext (by simp only [posOf, rowAt]; omega)
  rw [hp]
  blk_point [iblk, i8]
theorem blk9 (a : Fin 8) (l : Fin 128) : iblk m c 9 t (ix2 a l) = V m c main_v80 (ix2 a l) := by
  obtain ⟨i3, i4, i5, i6, i7, i8, i9, i10, i11, i12⟩ := idx t
  blk_point [iblk, i9]
theorem blk10 (k l : Fin 128) : iblk m c 10 t (ix2 k l) = V m c main_v81 (ix2 k l) := by
  obtain ⟨i3, i4, i5, i6, i7, i8, i9, i10, i11, i12⟩ := idx t
  blk_point [iblk, i10]

theorem averages : Averages (k0_pay9 (iblk m c 10 t)) := by
  intro h k h' j
  unfold k0_pay9
  rw [shapeCast_self, blk10]
  exact V_avg m c h k h' j

theorem tables : Tables (fun r i => cosT (ix2 (posOf (rowAt t r)) i)) (fun r i => sinT (ix2 (posOf (rowAt t r)) i))
    (k0_pay6 (iblk m c 6 t)) (k0_pay7 (iblk m c 7 t)) (k0_pay8 (iblk m c 8 t)) where
  self r h j := by
    unfold k0_pay6
    rw [shapeCast_self, blk6]
    exact V_self m c _ h j
  above r h j := by
    unfold k0_pay7
    rw [shapeCast_self, blk7]
    exact V_above m c _ h j
  below r h j := by
    unfold k0_pay8
    rw [shapeCast_self, blk8]
    exact V_below m c _ h j

/-- A head of the block, normalised and turned by the point, is the head as the caches keep it. -/
theorem head_eq (X : Vec Ideal S256x128 .f32) (g : Vec Ideal S1x128 .f32) (γ : Fin 64 → EReal) (o : ℕ) (r : Fin 256) (h : Fin 2)
    (hX : ∀ k, X (ix2 r (lane h k)) = zV m c (rowAt t r) (at' (o + k.val))) (hg : ∀ k, g (ix2 0 (lane h k)) = γ k)
    (hz : FiniteAt (zV m c) o) (j : Fin 64) :
    k0_pay54 (k0_pay6 (iblk m c 6 t)) (k0_pay7 (iblk m c 7 t)) (k0_pay8 (iblk m c 8 t)) (k0_pay9 (iblk m c 10 t)) X g (ix2 r (lane h j))
      = cached (zV m c) γ o (rowAt t r) j := by
  rw [turned_apply _ _ _ _ _ _ X g r h (tables m c t) (averages m c t) (fun k => by rw [hX]; exact hz _ k) j]
  unfold cached
  rw [funext hX, funext hg]

/-- The same of a pair of heads, lane by lane. -/
theorem pair_eq (X : Vec Ideal S256x128 .f32) (g : Vec Ideal S1x128 .f32) (γ : Fin 64 → EReal) (o : ℕ) (r : Fin 256)
    (hX : ∀ l : Fin 128, X (ix2 r l) = zV m c (rowAt t r) (at' (o + l.val))) (hg : ∀ h k, g (ix2 0 (lane h k)) = γ k)
    (hz : FiniteAt (zV m c) o) (hz' : FiniteAt (zV m c) (o + 64)) (l : Fin 128) :
    k0_pay54 (k0_pay6 (iblk m c 6 t)) (k0_pay7 (iblk m c 7 t)) (k0_pay8 (iblk m c 8 t)) (k0_pay9 (iblk m c 10 t)) X g (ix2 r l)
      = paired (zV m c) γ o (rowAt t r) l.val := by
  obtain ⟨h, j, rfl⟩ := exists_lane l
  have hh := h.isLt
  have hj := j.isLt
  rw [head_eq m c t X g γ (o + 64 * h.val) r h (fun k => by rw [hX]; congr 2; simp only [lane]; omega) (hg h)
    (by fin_cases h; exacts [hz, hz']) j]
  unfold paired
  have e1 : (lane h j).val / 64 = h.val := by simp only [lane]; omega
  have e2 : (⟨(lane h j).val % 64, Nat.mod_lt _ (by decide)⟩ : Fin 64) = j := Fin.ext (by simp only [lane]; omega)
  rw [e1, e2]
end blocks

end Cert.Rows
-- ==== Proof.Rows.Results.lean ====
/-
  The rows the row preparation leaves for the caches.
-/
module

public import proofs.«01_k».proof.Proof.Rows.Blocks

@[expose] public section

set_option maxRecDepth 16384

noncomputable section

namespace Cert.Rows

open Idealize.ShloMosaic Idealize.ShloMosaic.TcCoe Idealize.ShloMosaic.Tactic Idealize.SL.Sem
open Cert.Kernel6Ideal Cert.Kernel6Ideal.Gen

variable (m : (ℓ : Loc nD τ sig) → Buf (Elt Ideal) ℓ) (c : Dev nD) (t : Fin cfg0.N)

/-- A read of a part of a block of `z`. -/
theorem ld_z (X : Vec Ideal S256x512 .f32) (b o n : ℕ) (inb : ∀ a, (![0, o] : Fin 2 → ℕ) a + (![256, n] : Fin 2 → ℕ) a ≤ S256x512.size a)
    (hX : ∀ r l, X (ix2 r l) = zV m c (rowAt t r) (at' (b + l.val))) (x : (Rect.unit (s := S256x512) ![0, o] ![256, n] inb).shape.Idx)
    (r : Fin 256) (l : ℕ) (hr : (x (0 : Fin 2)).val = r.val) (hl : (x (1 : Fin 2)).val = l) :
    View.ld X (Rect.unit ![0, o] ![256, n] inb) x = zV m c (rowAt t r) (at' (b + (o + l))) := by
  have hin := inb (1 : Fin 2)
  have hx := (x (1 : Fin 2)).isLt
  change (x (1 : Fin 2)).val < n at hx
  change o + n ≤ 512 at hin
  have e : (Rect.unit (s := S256x512) ![0, o] ![256, n] inb).idx x = ix2 r ⟨o + l, by omega⟩ := by
    funext a
    refine Fin.ext ?_
    fin_cases a
    · show 0 + 1 * (x (0 : Fin 2)).val = r.val; omega
    · show o + 1 * (x (1 : Fin 2)).val = o + l; omega
  rw [View.ld_apply, e, hX]

/-- A read of a row of the scales. -/
theorem ld_g (a : Fin 8) (n : ℕ) (hn : n = a.val) (inb : ∀ a, (![n, 0] : Fin 2 → ℕ) a + (![1, 128] : Fin 2 → ℕ) a ≤ S8x128.size a) (l : Fin 128) :
    View.ld (iblk m c 9 t) (Rect.unit (s := S8x128) ![n, 0] ![1, 128] inb) (ix2 (0 : Fin 1) l) = V m c main_v80 (ix2 a l) := by
  subst hn
  have e : (Rect.unit (s := S8x128) ![a.val, 0] ![1, 128] inb).idx (ix2 (0 : Fin 1) l) = ix2 a l := by
    funext b
    refine Fin.ext ?_
    fin_cases b
    · show a.val + 1 * 0 = a.val; omega
    · show 0 + 1 * l.val = l.val; omega
  rw [View.ld_apply, e, blk9]

section same
variable (v1 v3 v5 : Vec Ideal S256x128 .f32) (bd : Vec Ideal S128x128 .bf16) (X : Vec Ideal S256x128 .f32) (g : Vec Ideal S1x128 .f32)
theorem same64 : k0_pay64 v5 (k0_pay61 bd X g) (k0_pay62 v1 bd X g) (k0_pay63 v3 bd X g) = k0_pay54 v1 v3 v5 bd X g := rfl
theorem same57 : k0_pay57 v1 v3 v5 (k0_pay55 bd X) (k0_pay56 g) = k0_pay54 v1 v3 v5 bd X g := rfl
theorem same59 : k0_pay59 v1 v3 v5 bd X g = k0_pay54 v1 v3 v5 bd X g := rfl
theorem same60 : k0_pay60 v1 v3 v5 bd X g = k0_pay54 v1 v3 v5 bd X g := rfl
end same

/-- A pair of heads of the block, at an index. -/
theorem pair_point (X : Vec Ideal S256x512 .f32) (b o : ℕ) (inb : ∀ a, (![0, o] : Fin 2 → ℕ) a + (![256, 128] : Fin 2 → ℕ) a ≤ S256x512.size a)
    (hX : ∀ r l, X (ix2 r l) = zV m c (rowAt t r) (at' (b + l.val))) (a : Fin 8) (n : ℕ) (hn : n = a.val)
    (inb' : ∀ a, (![n, 0] : Fin 2 → ℕ) a + (![1, 128] : Fin 2 → ℕ) a ≤ S8x128.size a) (γ : Fin 64 → EReal)
    (hg : ∀ h k, V m c main_v80 (ix2 a (lane h k)) = γ k) (hz : FiniteAt (zV m c) (b + o)) (hz' : FiniteAt (zV m c) (b + o + 64))
    (x : S256x128.Idx) (r : Fin 256) (l : ℕ) (hr : (x (0 : Fin 2)).val = r.val) (hl : (x (1 : Fin 2)).val = l) :
    k0_pay54 (k0_pay6 (iblk m c 6 t)) (k0_pay7 (iblk m c 7 t)) (k0_pay8 (iblk m c 8 t)) (k0_pay9 (iblk m c 10 t))
      (View.ld X (Rect.unit ![0, o] ![256, 128] inb)) (View.ld (iblk m c 9 t) (Rect.unit (s := S8x128) ![n, 0] ![1, 128] inb')) x
      = paired (zV m c) γ (b + o) (rowAt t r) l := by
  subst hl
  have hx : (x (1 : Fin 2)).val < 128 := (x (1 : Fin 2)).isLt
  have ex : x = ix2 r (⟨(x (1 : Fin 2)).val, hx⟩ : Fin 128) := funext fun a => Fin.ext (by fin_cases a; exacts [hr, rfl])
  refine (congrArg _ ex).trans (pair_eq m c t _ _ γ (b + o) r (fun l => ?_) (fun h k => ?_) hz hz' _)
  · refine (ld_z m c t X b o 128 inb hX _ r l.val rfl rfl).trans ?_
    rw [Nat.add_assoc]
  · exact (ld_g m c t a n hn inb' _).trans (hg h k)

/-- The first head of a pair, at an index. -/
theorem first_point (X : Vec Ideal S256x512 .f32) (b o : ℕ) (inb : ∀ a, (![0, o] : Fin 2 → ℕ) a + (![256, 128] : Fin 2 → ℕ) a ≤ S256x512.size a)
    (hX : ∀ r l, X (ix2 r l) = zV m c (rowAt t r) (at' (b + l.val))) (a : Fin 8) (n : ℕ) (hn : n = a.val)
    (inb' : ∀ a, (![n, 0] : Fin 2 → ℕ) a + (![1, 128] : Fin 2 → ℕ) a ≤ S8x128.size a) (γ : Fin 64 → EReal)
    (hg : ∀ k, V m c main_v80 (ix2 a (lane 0 k)) = γ k) (hz : FiniteAt (zV m c) (b + o))
    (x : S256x64.Idx) (r : Fin 256) (l : ℕ) (hr : (x (0 : Fin 2)).val = r.val) (hl : (x (1 : Fin 2)).val = l) :
    k0_pay65 (k0_pay54 (k0_pay6 (iblk m c 6 t)) (k0_pay7 (iblk m c 7 t)) (k0_pay8 (iblk m c 8 t)) (k0_pay9 (iblk m c 10 t))
      (View.ld X (Rect.unit ![0, o] ![256, 128] inb)) (View.ld (iblk m c 9 t) (Rect.unit (s := S8x128) ![n, 0] ![1, 128] inb'))) x
      = paired (zV m c) γ (b + o) (rowAt t r) l := by
  subst hl
  have hx : (x (1 : Fin 2)).val < 64 := (x (1 : Fin 2)).isLt
  have ex : x = ix2 r (⟨(x (1 : Fin 2)).val, hx⟩ : Fin 64) := funext fun a => Fin.ext (by fin_cases a; exacts [hr, rfl])
  have e65 : ∀ (Y : FVec Ideal S256x128 .f32) (j : Fin 64), k0_pay65 Y (ix2 r j) = Y (ix2 r (lane 0 j)) := by
    intro Y j
    pointwise [k0_pay65]
    refine congrArg _ (congrArg _ (Fin.ext ?_))
    simp [lane]
  refine (congrArg _ ex).trans ((e65 _ _).trans ((head_eq m c t _ _ γ (b + o) r 0 (fun k => ?_) (fun k => ?_) hz _).trans ?_))
  · refine (ld_z m c t X b o 128 inb hX _ r (lane 0 k).val rfl rfl).trans ?_
    have hk : (lane 0 k).val = k.val := by simp [lane]
    rw [Nat.add_assoc, hk]
  · exact (ld_g m c t a n hn inb' _).trans (hg k)
  · unfold paired
    rw [Nat.div_eq_of_lt hx, Nat.mul_zero, Nat.add_zero]
    exact congrArg _ (Fin.ext (Nat.mod_eq_of_lt hx).symm)

theorem window_point (hz : FiniteAt (zV m c) 8704) (hz' : FiniteAt (zV m c) 8768) (y : S256x256.Idx) (r : Fin 256) (hr : (y (0 : Fin 2)).val = r.val) :
    (outsAt0 m c t).2.1 y = windowOf (zV m c) (gN m c 3) (rowAt t r) (y (1 : Fin 2)).val := by
  dsimp only [outsAt0]
  frame_out
  rw [same64]
  canon_tiles x h
  case piece0 =>
    refine (ld_z m c t _ 8704 128 128 _ (blk5 m c t) x r ((y (1 : Fin 2)).val - 128) (by omega) (by omega)).trans ?_
    unfold windowOf
    rw [if_neg (by omega)]
    congr 2
    omega
  case piece1 =>
    refine (pair_point m c t _ 8704 0 _ (blk5 m c t) 6 6 rfl _ (gN m c 3) (gain6 m c) hz hz' x r (y (1 : Fin 2)).val (by omega) (by omega)).trans ?_
    unfold windowOf
    rw [if_pos (by omega)]

theorem rows_point (z1 : FiniteAt (zV m c) 7680) (z2 : FiniteAt (zV m c) 7744) (z3 : FiniteAt (zV m c) 7936) (z4 : FiniteAt (zV m c) 8192)
    (z5 : FiniteAt (zV m c) 8256) (z6 : FiniteAt (zV m c) 8448) (z7 : FiniteAt (zV m c) 8512) (y : S256x832.Idx) (r : Fin 256) (hr : (y (0 : Fin 2)).val = r.val) :
    (outsAt0 m c t).1 y = rowsOf (zV m c) (gD m c) (gI m c) (gN m c 1) (gN m c 2) (rowAt t r) (y (1 : Fin 2)).val := by
  dsimp only [outsAt0]
  frame_out
  rw [same57, same59, same60]
  canon_tiles x h using (View.cover_of_tiledBy _ ![256, 64] (by sl_kernel_rfl) y)
  case piece0 =>
    refine (ld_z m c t _ 8192 384 128 _ (blk4 m c t) x r ((y (1 : Fin 2)).val - 704) (by omega) (by omega)).trans ?_
    unfold rowsOf
    rw [if_neg (by omega), if_neg (by omega), if_neg (by omega), if_neg (by omega), if_neg (by omega), if_neg (by omega)]
    congr 2
    omega
  case piece1 =>
    refine (pair_point m c t _ 8192 256 _ (blk4 m c t) 5 5 rfl _ (gN m c 2) (gain5 m c) z6 z7 x r ((y (1 : Fin 2)).val - 576) (by omega) (by omega)).trans ?_
    unfold rowsOf
    rw [if_neg (by omega), if_neg (by omega), if_neg (by omega), if_neg (by omega), if_neg (by omega), if_pos (by omega)]
  case piece2 =>
    refine (ld_z m c t _ 8192 128 128 _ (blk4 m c t) x r ((y (1 : Fin 2)).val - 448) (by omega) (by omega)).trans ?_
    unfold rowsOf
    rw [if_neg (by omega), if_neg (by omega), if_neg (by omega), if_neg (by omega), if_pos (by omega)]
    congr 2
    omega
  case piece3 =>
    refine (pair_point m c t _ 8192 0 _ (blk4 m c t) 4 4 rfl _ (gN m c 1) (gain4 m c) z4 z5 x r ((y (1 : Fin 2)).val - 320) (by omega) (by omega)).trans ?_
    unfold rowsOf
    rw [if_neg (by omega), if_neg (by omega), if_neg (by omega), if_pos (by omega)]
  case piece4 =>
    refine (first_point m c t _ 7680 256 _ (blk3 m c t) 2 2 rfl _ (gI m c) (gain2 m c) z3 x r ((y (1 : Fin 2)).val - 256) (by omega) (by omega)).trans ?_
    unfold rowsOf
    rw [if_neg (by omega), if_neg (by omega), if_pos (by omega)]
  case piece5 =>
    refine (ld_z m c t _ 7680 128 128 _ (blk3 m c t) x r ((y (1 : Fin 2)).val - 128) (by omega) (by omega)).trans ?_
    unfold rowsOf
    rw [if_neg (by omega), if_pos (by omega)]
    congr 2
    omega
  case piece6 =>
    refine (pair_point m c t _ 7680 0 _ (blk3 m c t) 1 1 rfl _ (gD m c) (gain1 m c) z1 z2 x r (y (1 : Fin 2)).val (by omega) (by omega)).trans ?_
    unfold rowsOf
    rw [if_pos (by omega)]

theorem arr_rows (z1 : FiniteAt (zV m c) 7680) (z2 : FiniteAt (zV m c) 7744) (z3 : FiniteAt (zV m c) 7936) (z4 : FiniteAt (zV m c) 8192)
    (z5 : FiniteAt (zV m c) 8256) (z6 : FiniteAt (zV m c) 8448) (z7 : FiniteAt (zV m c) 8512) :
    (dats m 0 c).arrAt 11 cfg0.N
      = fun j : S16384x832.Idx => rowsOf (zV m c) (gD m c) (gI m c) (gN m c 1) (gN m c 2) (j (0 : Fin 2)) (j (1 : Fin 2)).val := by
  refine (dats m 0 c).arrAt_eq_of_covers 11 _ (by decide +kernel) fun t hf y => ?_
  blk_simp
  rw [after0_11]
  obtain ⟨i3, i4, i5, i6, i7, i8, i9, i10, i11, i12⟩ := idx t
  have j0 : win0_11.index t 0 = t.val := by rw [i11]; rfl
  have j1 : win0_11.index t 1 = 0 := by rw [i11]; rfl
  have hy : (y (0 : Fin 2)).val < 256 := (y (0 : Fin 2)).isLt
  refine (rows_point m c t z1 z2 z3 z4 z5 z6 z7 y ⟨_, hy⟩ rfl).trans ?_
  congr 1
  · refine Fin.ext ?_; show 256 * t.val + (y (0 : Fin 2)).val = win0_11.index t 0 * 256 + 1 * (y (0 : Fin 2)).val; omega
  · show (y (1 : Fin 2)).val = win0_11.index t 1 * 832 + (y (1 : Fin 2)).val; omega

theorem arr_window (hz : FiniteAt (zV m c) 8704) (hz' : FiniteAt (zV m c) 8768) :
    (dats m 0 c).arrAt 12 cfg0.N = fun j : S16384x256.Idx => windowOf (zV m c) (gN m c 3) (j (0 : Fin 2)) (j (1 : Fin 2)).val := by
  refine (dats m 0 c).arrAt_eq_of_covers 12 _ (by decide +kernel) fun t hf y => ?_
  blk_simp
  rw [after0_12]
  obtain ⟨i3, i4, i5, i6, i7, i8, i9, i10, i11, i12⟩ := idx t
  have j0 : win0_12.index t 0 = t.val := by rw [i12]; rfl
  have j1 : win0_12.index t 1 = 0 := by rw [i12]; rfl
  have hy : (y (0 : Fin 2)).val < 256 := (y (0 : Fin 2)).isLt
  refine (window_point m c t hz hz' y ⟨_, hy⟩ rfl).trans ?_
  congr 1
  · refine Fin.ext ?_; show 256 * t.val + (y (0 : Fin 2)).val = win0_12.index t 0 * 256 + 1 * (y (0 : Fin 2)).val; omega
  · show (y (1 : Fin 2)).val = win0_12.index t 1 * 256 + (y (1 : Fin 2)).val; omega

end Cert.Rows
-- ==== Proof.Rows.Reference.lean ====
/-
  The reference's cached rows: each key head is the normalised and turned head, every other lane is copied.
-/
module

public import proofs.«01_k».proof.Proof.Rows.Blocks
public import proofs.«01_k».proof.Proof.Gen.Reference6Ideal.Run

@[expose] public section

set_option maxRecDepth 16384

noncomputable section

namespace Cert.Reference6Ideal.Value

open Idealize.ShloMosaic Idealize.ShloMosaic.TcCoe Idealize.ShloMosaic.Tactic Idealize.ShloMosaic.StableHlo
open Idealize.SL.Sem Cert.Reference6Ideal Cert.Reference6Ideal.Gen Cert.Rows

/-- A row's sequence. -/
def seqOf (p : Fin 16384) : Fin 8 := ⟨p.val / 2048, by omega⟩

/-- Two heads of every row, by sequence and position. -/
def keys2 (z : FVec Ideal S16384x9216 .f32) (o : ℕ) (h : S16384x9216.Slices ![0, o] S16384x128) : FVec Ideal S8x2048x2x64 .f32 :=
  shapeCast _ (extractStridedSlice S16384x128 ![0, o] z h) shapeCasts_S16384x128_S8x2048x2x64
def keys1 (z : FVec Ideal S16384x9216 .f32) (o : ℕ) (h : S16384x9216.Slices ![0, o] S16384x64) : FVec Ideal S8x2048x1x64 .f32 :=
  shapeCast _ (extractStridedSlice S16384x64 ![0, o] z h) shapeCasts_S16384x64_S8x2048x1x64

theorem keys2_apply (z : FVec Ideal S16384x9216 .f32) (o : ℕ) (hs : S16384x9216.Slices ![0, o] S16384x128) (ho : o + 128 ≤ 9216)
    (p : Fin 16384) (h : Fin 2) (k : Fin 64) : keys2 z o hs (ix4 (seqOf p) (posOf p) h k) = z (ix2 p (at' (o + 64 * h.val + k.val))) := by
  have hh := h.isLt
  have hk := k.isLt
  pointwise [keys2]
  congr 2
  · refine Fin.ext ?_
    simp only [seqOf, posOf]
    omega
  · refine Fin.ext ?_
    simp only [seqOf, posOf, at']
    omega

theorem keys1_apply (z : FVec Ideal S16384x9216 .f32) (o : ℕ) (hs : S16384x9216.Slices ![0, o] S16384x64) (ho : o + 64 ≤ 9216)
    (p : Fin 16384) (k : Fin 64) : keys1 z o hs (ix4 (seqOf p) (posOf p) 0 k) = z (ix2 p (at' (o + k.val))) := by
  have hk := k.isLt
  pointwise [keys1]
  congr 2
  · refine Fin.ext ?_
    simp only [seqOf, posOf]
    omega
  · refine Fin.ext ?_
    simp only [seqOf, posOf, at']
    omega

/-- The normalised heads. -/
def normed2 (x : FVec Ideal S8x2048x2x64 .f32) (g : FVec Ideal S64 .f32) : FVec Ideal S8x2048x2x64 .f32 :=
  mulf (mulf x (broadcastInDim S8x2048x2x64 ![0, 1, 2, 3] bcast_S8x2048x2x1_S8x2048x2x64_0_1_2_3 (Host.rsqrt (addf (Host.divf (broadcastInDim S8x2048x2x1 ![0, 1, 2] bcast_S8x2048x2_S8x2048x2x1_0_1_2 (Host.reduceAdd (mulf x x) (constant S_ .f32 0x00000000#32) reducesTo_S8x2048x2x64_S8x2048x2_d3 h_S_)) (broadcastInDim S8x2048x2x1 ![] bcast_S_S8x2048x2x1 (constant S_ .f32 0x42800000#32))) (broadcastInDim S8x2048x2x1 ![] bcast_S_S8x2048x2x1 (constant S_ .f32 0x358637BD#32))))))
    (broadcastInDim S8x2048x2x64 ![0, 1, 2, 3] bcast_S1x1x1x64_S8x2048x2x64_0_1_2_3 (broadcastInDim S1x1x1x64 ![3] bcast_S64_S1x1x1x64_3 g))
def normed1 (x : FVec Ideal S8x2048x1x64 .f32) (g : FVec Ideal S64 .f32) : FVec Ideal S8x2048x1x64 .f32 :=
  mulf (mulf x (broadcastInDim S8x2048x1x64 ![0, 1, 2, 3] bcast_S8x2048x1x1_S8x2048x1x64_0_1_2_3 (Host.rsqrt (addf (Host.divf (broadcastInDim S8x2048x1x1 ![0, 1, 2] bcast_S8x2048x1_S8x2048x1x1_0_1_2 (Host.reduceAdd (mulf x x) (constant S_ .f32 0x00000000#32) reducesTo_S8x2048x1x64_S8x2048x1_d3 h_S_)) (broadcastInDim S8x2048x1x1 ![] bcast_S_S8x2048x1x1 (constant S_ .f32 0x42800000#32))) (broadcastInDim S8x2048x1x1 ![] bcast_S_S8x2048x1x1 (constant S_ .f32 0x358637BD#32))))))
    (broadcastInDim S8x2048x1x64 ![0, 1, 2, 3] bcast_S1x1x1x64_S8x2048x1x64_0_1_2_3 (broadcastInDim S1x1x1x64 ![3] bcast_S64_S1x1x1x64_3 g))

theorem normed2_apply (x : FVec Ideal S8x2048x2x64 .f32) (g : FVec Ideal S64 .f32) (b : Fin 8) (q : Fin 2048) (h : Fin 2) (j : Fin 64) :
    normed2 x g (ix4 b q h j) = headNormed (fun k => x (ix4 b q h k)) (fun k => g (ix1 k)) j := by
  pointwise [normed2, headNormed]

theorem normed1_apply (x : FVec Ideal S8x2048x1x64 .f32) (g : FVec Ideal S64 .f32) (b : Fin 8) (q : Fin 2048) (j : Fin 64) :
    normed1 x g (ix4 b q 0 j) = headNormed (fun k => x (ix4 b q 0 k)) (fun k => g (ix1 k)) j := by
  pointwise [normed1, headNormed]

/-- The turned heads. -/
def turned2 (u : FVec Ideal S8x2048x2x64 .f32) (c s : FVec Ideal S2048x8 .f32) : FVec Ideal S8x2048x2x64 .f32 :=
  concatenate S8x2048x2x64 3 [⟨S8x2048x2x8, subf (mulf (extractStridedSlice S8x2048x2x8 ![0, 0, 0, 0] u slices_S8x2048x2x64_S8x2048x2x8_0_0_0_0) (broadcastInDim S8x2048x2x8 ![0, 1, 2, 3] bcast_S1x2048x1x8_S8x2048x2x8_0_1_2_3 (broadcastInDim S1x2048x1x8 ![1, 2, 3] bcast_S2048x1x8_S1x2048x1x8_1_2_3 (broadcastInDim S2048x1x8 ![0, 2] bcast_S2048x8_S2048x1x8_0_2 c))))
      (mulf (extractStridedSlice S8x2048x2x8 ![0, 0, 0, 8] u slices_S8x2048x2x64_S8x2048x2x8_0_0_0_8) (broadcastInDim S8x2048x2x8 ![0, 1, 2, 3] bcast_S1x2048x1x8_S8x2048x2x8_0_1_2_3 (broadcastInDim S1x2048x1x8 ![1, 2, 3] bcast_S2048x1x8_S1x2048x1x8_1_2_3 (broadcastInDim S2048x1x8 ![0, 2] bcast_S2048x8_S2048x1x8_0_2 s))))⟩,
    ⟨S8x2048x2x8, addf (mulf (extractStridedSlice S8x2048x2x8 ![0, 0, 0, 0] u slices_S8x2048x2x64_S8x2048x2x8_0_0_0_0) (broadcastInDim S8x2048x2x8 ![0, 1, 2, 3] bcast_S1x2048x1x8_S8x2048x2x8_0_1_2_3 (broadcastInDim S1x2048x1x8 ![1, 2, 3] bcast_S2048x1x8_S1x2048x1x8_1_2_3 (broadcastInDim S2048x1x8 ![0, 2] bcast_S2048x8_S2048x1x8_0_2 s))))
      (mulf (extractStridedSlice S8x2048x2x8 ![0, 0, 0, 8] u slices_S8x2048x2x64_S8x2048x2x8_0_0_0_8) (broadcastInDim S8x2048x2x8 ![0, 1, 2, 3] bcast_S1x2048x1x8_S8x2048x2x8_0_1_2_3 (broadcastInDim S1x2048x1x8 ![1, 2, 3] bcast_S2048x1x8_S1x2048x1x8_1_2_3 (broadcastInDim S2048x1x8 ![0, 2] bcast_S2048x8_S2048x1x8_0_2 c))))⟩,
    ⟨S8x2048x2x48, extractStridedSlice S8x2048x2x48 ![0, 0, 0, 16] u slices_S8x2048x2x64_S8x2048x2x48_0_0_0_16⟩] concatenates_S8x2048x2x8_S8x2048x2x8_S8x2048x2x48_S8x2048x2x64_d3
def turned1 (u : FVec Ideal S8x2048x1x64 .f32) (c s : FVec Ideal S2048x8 .f32) : FVec Ideal S8x2048x1x64 .f32 :=
  concatenate S8x2048x1x64 3 [⟨S8x2048x1x8, subf (mulf (extractStridedSlice S8x2048x1x8 ![0, 0, 0, 0] u slices_S8x2048x1x64_S8x2048x1x8_0_0_0_0) (broadcastInDim S8x2048x1x8 ![0, 1, 2, 3] bcast_S1x2048x1x8_S8x2048x1x8_0_1_2_3 (broadcastInDim S1x2048x1x8 ![1, 2, 3] bcast_S2048x1x8_S1x2048x1x8_1_2_3 (broadcastInDim S2048x1x8 ![0, 2] bcast_S2048x8_S2048x1x8_0_2 c))))
      (mulf (extractStridedSlice S8x2048x1x8 ![0, 0, 0, 8] u slices_S8x2048x1x64_S8x2048x1x8_0_0_0_8) (broadcastInDim S8x2048x1x8 ![0, 1, 2, 3] bcast_S1x2048x1x8_S8x2048x1x8_0_1_2_3 (broadcastInDim S1x2048x1x8 ![1, 2, 3] bcast_S2048x1x8_S1x2048x1x8_1_2_3 (broadcastInDim S2048x1x8 ![0, 2] bcast_S2048x8_S2048x1x8_0_2 s))))⟩,
    ⟨S8x2048x1x8, addf (mulf (extractStridedSlice S8x2048x1x8 ![0, 0, 0, 0] u slices_S8x2048x1x64_S8x2048x1x8_0_0_0_0) (broadcastInDim S8x2048x1x8 ![0, 1, 2, 3] bcast_S1x2048x1x8_S8x2048x1x8_0_1_2_3 (broadcastInDim S1x2048x1x8 ![1, 2, 3] bcast_S2048x1x8_S1x2048x1x8_1_2_3 (broadcastInDim S2048x1x8 ![0, 2] bcast_S2048x8_S2048x1x8_0_2 s))))
      (mulf (extractStridedSlice S8x2048x1x8 ![0, 0, 0, 8] u slices_S8x2048x1x64_S8x2048x1x8_0_0_0_8) (broadcastInDim S8x2048x1x8 ![0, 1, 2, 3] bcast_S1x2048x1x8_S8x2048x1x8_0_1_2_3 (broadcastInDim S1x2048x1x8 ![1, 2, 3] bcast_S2048x1x8_S1x2048x1x8_1_2_3 (broadcastInDim S2048x1x8 ![0, 2] bcast_S2048x8_S2048x1x8_0_2 c))))⟩,
    ⟨S8x2048x1x48, extractStridedSlice S8x2048x1x48 ![0, 0, 0, 16] u slices_S8x2048x1x64_S8x2048x1x48_0_0_0_16⟩] concatenates_S8x2048x1x8_S8x2048x1x8_S8x2048x1x48_S8x2048x1x64_d3

theorem turned2_apply (u : FVec Ideal S8x2048x2x64 .f32) (c s : FVec Ideal S2048x8 .f32) (b : Fin 8) (q : Fin 2048) (h : Fin 2) (j : Fin 64) :
    turned2 u c s (ix4 b q h j) = headTurned (fun k => u (ix4 b q h k)) (fun i => c (ix2 q i)) (fun i => s (ix2 q i)) j := by
  pointwise [turned2, headTurned]
  by_cases h0 : j.val < 8
  · rw [dif_pos h0, dif_pos h0]
    simp only [Nat.add_comm 8]
  · by_cases h' : j.val < 16
    · have e : 8 + (j.val - 8) = j.val := by omega
      rw [dif_neg h0, dif_pos (show j.val - 8 < 8 by omega), dif_neg h0, dif_pos h']
      simp only [e]
    · have e : 16 + (j.val - 8 - 8) = j.val := by omega
      rw [dif_neg h0, dif_neg (show ¬ j.val - 8 < 8 by omega), dif_neg h0, dif_neg h']
      simp only [e]

theorem turned1_apply (u : FVec Ideal S8x2048x1x64 .f32) (c s : FVec Ideal S2048x8 .f32) (b : Fin 8) (q : Fin 2048) (j : Fin 64) :
    turned1 u c s (ix4 b q 0 j) = headTurned (fun k => u (ix4 b q 0 k)) (fun i => c (ix2 q i)) (fun i => s (ix2 q i)) j := by
  pointwise [turned1, headTurned]
  by_cases h : j.val < 8
  · rw [dif_pos h, dif_pos h]
    simp only [Nat.add_comm 8]
  · by_cases h' : j.val < 16
    · have e : 8 + (j.val - 8) = j.val := by omega
      rw [dif_neg h, dif_pos (show j.val - 8 < 8 by omega), dif_neg h, dif_pos h']
      simp only [e]
    · have e : 16 + (j.val - 8 - 8) = j.val := by omega
      rw [dif_neg h, dif_neg (show ¬ j.val - 8 < 8 by omega), dif_neg h, dif_neg h']
      simp only [e]

/-- The heads of a row side by side. -/
theorem flat2_apply (u : FVec Ideal S8x2048x2x64 .f32) (p : Fin 16384) (l : Fin 128) :
    shapeCast S16384x128 u shapeCasts_S8x2048x2x64_S16384x128 (ix2 p l)
      = u (ix4 (seqOf p) (posOf p) ⟨l.val / 64, by omega⟩ ⟨l.val % 64, Nat.mod_lt _ (by decide)⟩) := by
  pointwise []
  congr 2 <;> refine Fin.ext ?_ <;> simp only [seqOf, posOf] <;> omega

theorem flat1_apply (u : FVec Ideal S8x2048x1x64 .f32) (p : Fin 16384) (l : Fin 64) :
    shapeCast S16384x64 u shapeCasts_S8x2048x1x64_S16384x64 (ix2 p l) = u (ix4 (seqOf p) (posOf p) 0 l) := by
  pointwise []
  congr 2 <;> refine Fin.ext ?_ <;> simp only [seqOf, posOf] <;> omega

/-- The pieces of a row, one after another. -/
theorem concat7 (A B D E F G : FVec Ideal S16384x128 .f32) (C : FVec Ideal S16384x64 .f32) (fA fB fC fD fE fF fG : ℕ → EReal) (p : Fin 16384)
    (hA : ∀ k : Fin 128, A (ix2 p k) = fA k.val) (hB : ∀ k : Fin 128, B (ix2 p k) = fB k.val) (hC : ∀ k : Fin 64, C (ix2 p k) = fC k.val)
    (hD : ∀ k : Fin 128, D (ix2 p k) = fD k.val) (hE : ∀ k : Fin 128, E (ix2 p k) = fE k.val) (hF : ∀ k : Fin 128, F (ix2 p k) = fF k.val)
    (hG : ∀ k : Fin 128, G (ix2 p k) = fG k.val) (l : Fin 832) :
    concatenate S16384x832 1 [⟨S16384x128, A⟩, ⟨S16384x128, B⟩, ⟨S16384x64, C⟩, ⟨S16384x128, D⟩, ⟨S16384x128, E⟩, ⟨S16384x128, F⟩, ⟨S16384x128, G⟩]
        concatenates_S16384x128_S16384x128_S16384x64_S16384x128_S16384x128_S16384x128_S16384x128_S16384x832_d1 (ix2 p l)
      = if l.val < 128 then fA l.val else if l.val < 256 then fB (l.val - 128) else if l.val < 320 then fC (l.val - 256)
        else if l.val < 448 then fD (l.val - 320) else if l.val < 576 then fE (l.val - 448) else if l.val < 704 then fF (l.val - 576) else fG (l.val - 704) := by
  pointwise []
  simp only [hA, hB, hC, hD, hE, hF, hG]
  split_ifs <;> first | rfl | omega | (congr 1; omega)

theorem concat2 (A B : FVec Ideal S16384x128 .f32) (fA fB : ℕ → EReal) (p : Fin 16384)
    (hA : ∀ k : Fin 128, A (ix2 p k) = fA k.val) (hB : ∀ k : Fin 128, B (ix2 p k) = fB k.val) (l : Fin 256) :
    concatenate S16384x256 1 [⟨S16384x128, A⟩, ⟨S16384x128, B⟩] concatenates_S16384x128_S16384x128_S16384x256_d1 (ix2 p l)
      = if l.val < 128 then fA l.val else fB (l.val - 128) := by
  pointwise []
  simp only [hA, hB]
  split_ifs <;> rfl

/-- A pair of key heads, as the caches keep it. -/
theorem pair_rows (z : FVec Ideal S16384x9216 .f32) (o : ℕ) (hs : S16384x9216.Slices ![0, o] S16384x128) (ho : o + 128 ≤ 9216)
    (g : FVec Ideal S64 .f32) (γ : Fin 64 → EReal) (hg : ∀ k, g (ix1 k) = γ k) (p : Fin 16384) (l : Fin 128) :
    shapeCast S16384x128 (turned2 (normed2 (keys2 z o hs) g) cosT sinT) shapeCasts_S8x2048x2x64_S16384x128 (ix2 p l)
      = paired (fun p l => z (ix2 p l)) γ o p l.val := by
  rw [flat2_apply, turned2_apply]
  unfold paired cached
  refine congrArg (fun u => headTurned u _ _ _) (funext fun k => ?_)
  rw [normed2_apply, funext hg]
  refine congrArg (fun u => headNormed u _ _) (funext fun k => ?_)
  exact keys2_apply z o hs ho p _ k

/-- The single key head. -/
theorem single_rows (z : FVec Ideal S16384x9216 .f32) (o : ℕ) (hs : S16384x9216.Slices ![0, o] S16384x64) (ho : o + 64 ≤ 9216)
    (g : FVec Ideal S64 .f32) (γ : Fin 64 → EReal) (hg : ∀ k, g (ix1 k) = γ k) (p : Fin 16384) (l : Fin 64) :
    shapeCast S16384x64 (turned1 (normed1 (keys1 z o hs) g) cosT sinT) shapeCasts_S8x2048x1x64_S16384x64 (ix2 p l)
      = paired (fun p l => z (ix2 p l)) γ o p l.val := by
  rw [flat1_apply, turned1_apply]
  unfold paired cached
  have hl : l = (⟨l.val % 64, Nat.mod_lt _ (by decide)⟩ : Fin 64) := Fin.ext (Nat.mod_eq_of_lt l.isLt).symm
  have h0 : o + 64 * (l.val / 64) = o := by rw [Nat.div_eq_of_lt l.isLt]; omega
  rw [h0, ← hl]
  refine congrArg (fun u => headTurned u _ _ _) (funext fun k => ?_)
  rw [normed1_apply, funext hg]
  refine congrArg (fun u => headNormed u _ _) (funext fun k => ?_)
  exact keys1_apply z o hs ho p k

/-- Copied lanes. -/
theorem copied (z : FVec Ideal S16384x9216 .f32) (o : ℕ) (hs : S16384x9216.Slices ![0, o] S16384x128) (ho : o + 128 ≤ 9216)
    (p : Fin 16384) (l : Fin 128) : extractStridedSlice S16384x128 ![0, o] z hs (ix2 p l) = z (ix2 p (at' (o + l.val))) := by
  pointwise []
  refine congrArg (fun k => z (ix2 p k)) (Fin.ext ?_)
  simp only [at']
  omega

/-- A row of scales. -/
theorem gain_of_two (g : FVec Ideal S2x64 .f32) (k : Fin 64) :
    shapeCast S64 (extractStridedSlice S1x64 ![1, 0] g slices_S2x64_S1x64_1_0) shapeCasts_S1x64_S64 (ix1 k) = g (ix2 (1 : Fin 2) k) := by
  pointwise []
theorem gain_of_four1 (g : FVec Ideal S4x64 .f32) (k : Fin 64) :
    shapeCast S64 (extractStridedSlice S1x64 ![1, 0] g slices_S4x64_S1x64_1_0) shapeCasts_S1x64_S64 (ix1 k) = g (ix2 (1 : Fin 4) k) := by
  pointwise []
theorem gain_of_four2 (g : FVec Ideal S4x64 .f32) (k : Fin 64) :
    shapeCast S64 (extractStridedSlice S1x64 ![2, 0] g slices_S4x64_S1x64_2_0) shapeCasts_S1x64_S64 (ix1 k) = g (ix2 (2 : Fin 4) k) := by
  pointwise []
theorem gain_of_four3 (g : FVec Ideal S4x64 .f32) (k : Fin 64) :
    shapeCast S64 (extractStridedSlice S1x64 ![3, 0] g slices_S4x64_S1x64_3_0) shapeCasts_S1x64_S64 (ix1 k) = g (ix2 (3 : Fin 4) k) := by
  pointwise []

section rows
variable (z : FVec Ideal S16384x9216 .f32) (gd : FVec Ideal S2x64 .f32) (gi : FVec Ideal S64 .f32) (gn : FVec Ideal S4x64 .f32)

/-- The reference's rows of the paged caches and of the window cache. -/
def refRows : FVec Ideal S16384x832 .f32 :=
  concatenate S16384x832 1
    [⟨S16384x128, shapeCast S16384x128 (turned2 (normed2 (keys2 z 7680 slices_S16384x9216_S16384x128_0_7680) (shapeCast S64 (extractStridedSlice S1x64 ![1, 0] gd slices_S2x64_S1x64_1_0) shapeCasts_S1x64_S64)) cosT sinT) shapeCasts_S8x2048x2x64_S16384x128⟩,
      ⟨S16384x128, extractStridedSlice S16384x128 ![0, 7808] z slices_S16384x9216_S16384x128_0_7808⟩,
      ⟨S16384x64, shapeCast S16384x64 (turned1 (normed1 (keys1 z 7936 slices_S16384x9216_S16384x64_0_7936) gi) cosT sinT) shapeCasts_S8x2048x1x64_S16384x64⟩,
      ⟨S16384x128, shapeCast S16384x128 (turned2 (normed2 (keys2 z 8192 slices_S16384x9216_S16384x128_0_8192) (shapeCast S64 (extractStridedSlice S1x64 ![1, 0] gn slices_S4x64_S1x64_1_0) shapeCasts_S1x64_S64)) cosT sinT) shapeCasts_S8x2048x2x64_S16384x128⟩,
      ⟨S16384x128, extractStridedSlice S16384x128 ![0, 8320] z slices_S16384x9216_S16384x128_0_8320⟩,
      ⟨S16384x128, shapeCast S16384x128 (turned2 (normed2 (keys2 z 8448 slices_S16384x9216_S16384x128_0_8448) (shapeCast S64 (extractStridedSlice S1x64 ![2, 0] gn slices_S4x64_S1x64_2_0) shapeCasts_S1x64_S64)) cosT sinT) shapeCasts_S8x2048x2x64_S16384x128⟩,
      ⟨S16384x128, extractStridedSlice S16384x128 ![0, 8576] z slices_S16384x9216_S16384x128_0_8576⟩]
    concatenates_S16384x128_S16384x128_S16384x64_S16384x128_S16384x128_S16384x128_S16384x128_S16384x832_d1
def refWindow : FVec Ideal S16384x256 .f32 :=
  concatenate S16384x256 1
    [⟨S16384x128, shapeCast S16384x128 (turned2 (normed2 (keys2 z 8704 slices_S16384x9216_S16384x128_0_8704) (shapeCast S64 (extractStridedSlice S1x64 ![3, 0] gn slices_S4x64_S1x64_3_0) shapeCasts_S1x64_S64)) cosT sinT) shapeCasts_S8x2048x2x64_S16384x128⟩,
      ⟨S16384x128, extractStridedSlice S16384x128 ![0, 8832] z slices_S16384x9216_S16384x128_0_8832⟩]
    concatenates_S16384x128_S16384x128_S16384x256_d1

theorem refRows_apply (p : Fin 16384) (l : Fin 832) : refRows z gd gi gn (ix2 p l)
    = rowsOf (fun p l => z (ix2 p l)) (fun k => gd (ix2 (1 : Fin 2) k)) (fun k => gi (ix1 k)) (fun k => gn (ix2 (1 : Fin 4) k)) (fun k => gn (ix2 (2 : Fin 4) k)) p l.val := by
  unfold refRows rowsOf
  exact concat7 _ _ _ _ _ _ _ (fun n => paired (fun p l => z (ix2 p l)) (fun k => gd (ix2 (1 : Fin 2) k)) 7680 p n) (fun n => z (ix2 p (at' (7808 + n))))
    (fun n => paired (fun p l => z (ix2 p l)) (fun k => gi (ix1 k)) 7936 p n)
    (fun n => paired (fun p l => z (ix2 p l)) (fun k => gn (ix2 (1 : Fin 4) k)) 8192 p n) (fun n => z (ix2 p (at' (8320 + n))))
    (fun n => paired (fun p l => z (ix2 p l)) (fun k => gn (ix2 (2 : Fin 4) k)) 8448 p n) (fun n => z (ix2 p (at' (8576 + n)))) p
    (pair_rows z 7680 _ (by decide) _ _ (gain_of_two gd) p) (copied z 7808 _ (by decide) p) (single_rows z 7936 _ (by decide) _ _ (fun _ => rfl) p)
    (pair_rows z 8192 _ (by decide) _ _ (gain_of_four1 gn) p) (copied z 8320 _ (by decide) p)
    (pair_rows z 8448 _ (by decide) _ _ (gain_of_four2 gn) p) (copied z 8576 _ (by decide) p) l

theorem refWindow_apply (p : Fin 16384) (l : Fin 256) : refWindow z gn (ix2 p l)
    = windowOf (fun p l => z (ix2 p l)) (fun k => gn (ix2 (3 : Fin 4) k)) p l.val := by
  unfold refWindow windowOf
  exact concat2 _ _ (fun n => paired (fun p l => z (ix2 p l)) (fun k => gn (ix2 (3 : Fin 4) k)) 8704 p n) (fun n => z (ix2 p (at' (8832 + n)))) p
    (pair_rows z 8704 _ (by decide) _ _ (gain_of_four3 gn) p) (copied z 8832 _ (by decide) p) l

end rows

/-- What a run of the reference leaves. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v262) = refRows (m (c.tc.loc main_arg0)) (m (c.tc.loc main_arg1)) (m (c.tc.loc main_arg2)) (m (c.tc.loc main_arg3))
      ∧ r.2.mem ((c.tc : Thread nD τ).loc main_v264) = refWindow (m (c.tc.loc main_arg0)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans rfl, (h c).2.1.trans rfl, (h c).2.2⟩) (run m ρ)

end Cert.Reference6Ideal.Value
-- ==== Proof.Rows.lean ====
/-
  The row preparation: with finite key lanes, the kernel's rows of the paged caches and of the window cache are the reference's.
-/
module

public import proofs.«01_k».proof.Defs
public import proofs.«01_k».proof.Proof.Rows.Results
public import proofs.«01_k».proof.Proof.Rows.Reference

@[expose] public section

set_option maxRecDepth 16384

noncomputable section

namespace Cert.Rows

open Idealize.ShloMosaic Idealize.ShloMosaic.TcCoe Idealize.ShloMosaic.Tactic Idealize.SL.Sem
open Cert.Kernel6Ideal Cert.Kernel6Ideal.Gen

/-- The precondition's side conditions. -/
theorem pre_facts : Cert.Pre_keys_finite.Facts where
  slices_S16384x9216_S16384x64_0_7680 := by decide
  bcast_S_S16384x64 := by decide
  slices_S16384x9216_S16384x64_0_7744 := by decide
  slices_S16384x9216_S16384x64_0_7936 := by decide
  slices_S16384x9216_S16384x64_0_8192 := by decide
  slices_S16384x9216_S16384x64_0_8256 := by decide
  slices_S16384x9216_S16384x64_0_8448 := by decide
  slices_S16384x9216_S16384x64_0_8512 := by decide
  slices_S16384x9216_S16384x64_0_8704 := by decide
  slices_S16384x9216_S16384x64_0_8768 := by decide

theorem both (x y : BitVec 1) (h : IntOp.andi x y = 1#1) : x = 1#1 ∧ y = 1#1 := by
  revert x y
  decide

/-- A lane whose size is below the largest value is a real number. -/
theorem real_of_bit (x : EReal) (h : BitVec.ofBool (decide (max x (-x) < Ideal.ofBits FTy.f32 2139095040#32)) = 1#1) : ∃ r : ℝ, x = r := by
  have ht : Ideal.ofBits FTy.f32 2139095040#32 = ⊤ := by simp [Ideal.ofBits, Ideal.ieee]
  rw [ht] at h
  induction x using EReal.rec with
  | bot => exact absurd h (by simp)
  | coe r => exact ⟨r, rfl⟩
  | top => exact absurd h (by simp)

/-- The precondition at a row and a head's lane. -/
theorem keys [Cert.Pre_keys_finite.Facts] (z : FVec Ideal Cert.Pre_keys_finite.S16384x9216 .f32) (gd : FVec Ideal Cert.Pre_keys_finite.S2x64 .f32)
    (gi : FVec Ideal Cert.Pre_keys_finite.S64 .f32) (gn : FVec Ideal Cert.Pre_keys_finite.S4x64 .f32)
    (hp : Cert.Pre_keys_finite.fn (F := Ideal) z gd gi gn = fun _ => 1#1) :
    FiniteAt (fun p l => z (ix2 p l)) 7680 ∧ FiniteAt (fun p l => z (ix2 p l)) 7744 ∧ FiniteAt (fun p l => z (ix2 p l)) 7936
      ∧ FiniteAt (fun p l => z (ix2 p l)) 8192 ∧ FiniteAt (fun p l => z (ix2 p l)) 8256 ∧ FiniteAt (fun p l => z (ix2 p l)) 8448
      ∧ FiniteAt (fun p l => z (ix2 p l)) 8512 ∧ FiniteAt (fun p l => z (ix2 p l)) 8704 ∧ FiniteAt (fun p l => z (ix2 p l)) 8768 := by
  have key : ∀ (o : ℕ) (ho : o + 64 ≤ 9216) (p : Fin 16384) (k : Fin 64) (a : EReal), a = z (ix2 p (⟨o + k.val, by omega⟩ : Fin 9216)) →
      BitVec.ofBool (decide (max a (-a) < Ideal.ofBits FTy.f32 2139095040#32)) = 1#1 → ∃ r : ℝ, z (ix2 p (at' (o + k.val))) = r := by
    intro o ho p k a ha h
    obtain ⟨r, hr⟩ := real_of_bit a h
    have e : at' (o + k.val) = ⟨o + k.val, by omega⟩ := Fin.ext (Nat.mod_eq_of_lt (by omega))
    exact ⟨r, by rw [e, ← ha, hr]⟩
  have e := fun (p : Fin 16384) (k : Fin 64) => congrFun hp (ix2 p k)
  unfold Cert.Pre_keys_finite.fn Cert.Pre_keys_finite.fn_part1 Cert.Pre_keys_finite.fn_part2 at e
  pointwise at e
  refine ⟨fun p k => ?_, fun p k => ?_, fun p k => ?_, fun p k => ?_, fun p k => ?_, fun p k => ?_, fun p k => ?_, fun p k => ?_, fun p k => ?_⟩
  all_goals
    have f := e p k
    obtain ⟨f, b8⟩ := both _ _ f
    obtain ⟨f, b7⟩ := both _ _ f
    obtain ⟨f, b6⟩ := both _ _ f
    obtain ⟨f, b5⟩ := both _ _ f
    obtain ⟨f, b4⟩ := both _ _ f
    obtain ⟨f, b3⟩ := both _ _ f
    obtain ⟨f, b2⟩ := both _ _ f
    obtain ⟨b0, b1⟩ := both _ _ f
  · exact key 7680 (by decide) p k _ rfl b0
  · exact key 7744 (by decide) p k _ rfl b1
  · exact key 7936 (by decide) p k _ rfl b2
  · exact key 8192 (by decide) p k _ rfl b3
  · exact key 8256 (by decide) p k _ rfl b4
  · exact key 8448 (by decide) p k _ rfl b5
  · exact key 8512 (by decide) p k _ rfl b6
  · exact key 8704 (by decide) p k _ rfl b7
  · exact key 8768 (by decide) p k _ rfl b8

theorem algebraic [Cert.Pre_keys_finite.Facts] : Cert.algebraic_Kernel6Ideal_Reference6Ideal_pre_keys_finite := by
  intro m g m' g' hp hag
  have H := fun c => keys _ _ _ _ (hp c)
  refine ⟨fun c => (dats m 0 c).arrAt 11 cfg0.N, fun c => (dats m 0 c).arrAt 12 cfg0.N,
    (θ_run _ _ _).mono (fun r h c => ⟨(h c).1, (h c).2.1, (h c).2.2.2.2.2.2.2.2⟩) (Cert.Kernel6Ideal.Value.run_blocks m g), ?_⟩
  refine (θ_run _ _ _).mono (fun r h c => ?_) (Cert.Reference6Ideal.Value.run_rows m' g')
  obtain ⟨z1, z2, z3, z4, z5, z6, z7, z8, z9⟩ := H c
  obtain ⟨a0, a1, a2, a3⟩ := hag c
  refine ⟨Eq.trans ?_ (arr_rows m c z1 z2 z3 z4 z5 z6 z7).symm, Eq.trans ?_ (arr_window m c z8 z9).symm, (h c).2.2⟩
  · refine (h c).1.trans ?_
    rw [a0, a1, a2, a3]
    funext j
    obtain ⟨p, hp0⟩ : ∃ p : Fin 16384, p = j (0 : Fin 2) := ⟨_, rfl⟩
    obtain ⟨l, hl0⟩ : ∃ l : Fin 832, l = j (1 : Fin 2) := ⟨_, rfl⟩
    have ej : j = ix2 p l := funext fun a => by fin_cases a; exacts [hp0.symm, hl0.symm]
    rw [ej]
    exact Cert.Reference6Ideal.Value.refRows_apply _ _ _ _ p l
  · refine (h c).2.1.trans ?_
    rw [a0, a3]
    funext j
    obtain ⟨p, hp0⟩ : ∃ p : Fin 16384, p = j (0 : Fin 2) := ⟨_, rfl⟩
    obtain ⟨l, hl0⟩ : ∃ l : Fin 256, l = j (1 : Fin 2) := ⟨_, rfl⟩
    have ej : j = ix2 p l := funext fun a => by fin_cases a; exacts [hp0.symm, hl0.symm]
    rw [ej]
    exact Cert.Reference6Ideal.Value.refWindow_apply _ _ p l

end Cert.Rows
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.PromptBits.Frame
public import proofs.«01_k».proof.Proof.Prompt.Frame
public import proofs.«01_k».proof.Proof.Prompt
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Proj
public import proofs.«01_k».proof.Proof.Merge
public import proofs.«01_k».proof.Proof.MergeRows
public import proofs.«01_k».proof.Proof.Sample
public import proofs.«01_k».proof.Proof.Rows
public import Idealize.ShloMosaic.Lib.Tactic
public import Idealize.ShloMosaic.Lib.Quiescent

@[expose] public section

namespace Cert.Proof

open Idealize.ShloMosaic Idealize.ShloMosaic.TcCoe Idealize.SL.Sem

theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

theorem frame_reference5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

theorem frame_reference4 : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run m ρ)

theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

theorem frame_reference6 : Cert.quiescent_Reference6Ideal := fun m ρ _ =>
  (θ_run Cert.Reference6Ideal.defs _ _).mono
    (fun r h => ⟨fun c => (h c).2.2, sem_eq_zero_of_no_sems (by decide) r.2⟩) (Cert.Reference6Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts,
    Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Prompt.pre_facts, Cert.Rows.pre_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, fun m ρ _ => Cert.Kernel6Ideal.Gen.frame m ρ,
    frame_reference6, fun m ρ _ => frame_reference6 m ρ trivial,
    trivial, @Cert.Prompt.algebraic Cert.Prompt.pre_facts, trivial, Cert.Proj.algebraic, trivial, Cert.Merge.algebraic, trivial, Cert.Sample.algebraic,
    trivial, Cert.MergeRows.algebraic, trivial, @Cert.Rows.algebraic Cert.Rows.pre_facts⟩

end Cert.Proof
